-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v158)) (v2 : (c : Dev Cert.KernelIdeal.nD) → Buf (Elt Ideal) ((c.tc : Thread Cert.KernelIdeal.nD Cert.KernelIdeal.τ).loc Cert.KernelIdeal.main_v163)) (v3 : (c : Dev Cert.KernelIdeal.nD) → Buf (Elt Ideal) ((c.tc : Thread Cert.KernelIdeal.nD Cert.KernelIdeal.τ).loc Cert.KernelIdeal.main_v168)) (v4 : (c : Dev Cert.KernelIdeal.nD) → Buf (Elt Ideal) ((c.tc : Thread Cert.KernelIdeal.nD Cert.KernelIdeal.τ).loc Cert.KernelIdeal.main_v169)) (v5 : (c : Dev Cert.KernelIdeal.nD) → Buf (Elt Ideal) ((c.tc : Thread Cert.KernelIdeal.nD Cert.KernelIdeal.τ).loc Cert.KernelIdeal.main_v174)) (v6 : (c : Dev Cert.KernelIdeal.nD) → Buf (Elt Ideal) ((c.tc : Thread Cert.KernelIdeal.nD Cert.KernelIdeal.τ).loc Cert.KernelIdeal.main_v179)) (v7 : (c : Dev Cert.KernelIdeal.nD) → Buf (Elt Ideal) ((c.tc : Thread Cert.KernelIdeal.nD Cert.KernelIdeal.τ).loc Cert.KernelIdeal.main_v180)) (v8 : (c : Dev Cert.KernelIdeal.nD) → Buf (Elt Ideal) ((c.tc : Thread Cert.KernelIdeal.nD Cert.KernelIdeal.τ).loc Cert.KernelIdeal.main_v185)) (v9 : (c : Dev Cert.KernelIdeal.nD) → Buf (Elt Ideal) ((c.tc : Thread Cert.KernelIdeal.nD Cert.KernelIdeal.τ).loc Cert.KernelIdeal.main_v190)) (v10 : (c : Dev Cert.KernelIdeal.nD) → Buf (Elt Ideal) ((c.tc : Thread Cert.KernelIdeal.nD Cert.KernelIdeal.τ).loc Cert.KernelIdeal.main_v195)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v158) = v1 c
          ∧ r.2.mem ((c.tc : Thread Cert.KernelIdeal.nD Cert.KernelIdeal.τ).loc Cert.KernelIdeal.main_v163) = v2 c
          ∧ r.2.mem ((c.tc : Thread Cert.KernelIdeal.nD Cert.KernelIdeal.τ).loc Cert.KernelIdeal.main_v168) = v3 c
          ∧ r.2.mem ((c.tc : Thread Cert.KernelIdeal.nD Cert.KernelIdeal.τ).loc Cert.KernelIdeal.main_v169) = v4 c
          ∧ r.2.mem ((c.tc : Thread Cert.KernelIdeal.nD Cert.KernelIdeal.τ).loc Cert.KernelIdeal.main_v174) = v5 c
          ∧ r.2.mem ((c.tc : Thread Cert.KernelIdeal.nD Cert.KernelIdeal.τ).loc Cert.KernelIdeal.main_v179) = v6 c
          ∧ r.2.mem ((c.tc : Thread Cert.KernelIdeal.nD Cert.KernelIdeal.τ).loc Cert.KernelIdeal.main_v180) = v7 c
          ∧ r.2.mem ((c.tc : Thread Cert.KernelIdeal.nD Cert.KernelIdeal.τ).loc Cert.KernelIdeal.main_v185) = v8 c
          ∧ r.2.mem ((c.tc : Thread Cert.KernelIdeal.nD Cert.KernelIdeal.τ).loc Cert.KernelIdeal.main_v190) = v9 c
          ∧ r.2.mem ((c.tc : Thread Cert.KernelIdeal.nD Cert.KernelIdeal.τ).loc Cert.KernelIdeal.main_v195) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v407) = v0 c
          ∧ r.2.mem ((c.tc : Thread Cert.ReferenceIdeal.nD Cert.ReferenceIdeal.τ).loc Cert.ReferenceIdeal.main_v408) = v1 c
          ∧ r.2.mem ((c.tc : Thread Cert.ReferenceIdeal.nD Cert.ReferenceIdeal.τ).loc Cert.ReferenceIdeal.main_v409) = v2 c
          ∧ r.2.mem ((c.tc : Thread Cert.ReferenceIdeal.nD Cert.ReferenceIdeal.τ).loc Cert.ReferenceIdeal.main_v410) = v3 c
          ∧ r.2.mem ((c.tc : Thread Cert.ReferenceIdeal.nD Cert.ReferenceIdeal.τ).loc Cert.ReferenceIdeal.main_v411) = v4 c
          ∧ r.2.mem ((c.tc : Thread Cert.ReferenceIdeal.nD Cert.ReferenceIdeal.τ).loc Cert.ReferenceIdeal.main_v412) = v5 c
          ∧ r.2.mem ((c.tc : Thread Cert.ReferenceIdeal.nD Cert.ReferenceIdeal.τ).loc Cert.ReferenceIdeal.main_v413) = v6 c
          ∧ r.2.mem ((c.tc : Thread Cert.ReferenceIdeal.nD Cert.ReferenceIdeal.τ).loc Cert.ReferenceIdeal.main_v414) = v7 c
          ∧ r.2.mem ((c.tc : Thread Cert.ReferenceIdeal.nD Cert.ReferenceIdeal.τ).loc Cert.ReferenceIdeal.main_v415) = v8 c
          ∧ r.2.mem ((c.tc : Thread Cert.ReferenceIdeal.nD Cert.ReferenceIdeal.τ).loc Cert.ReferenceIdeal.main_v416) = v9 c
          ∧ r.2.mem ((c.tc : Thread Cert.ReferenceIdeal.nD Cert.ReferenceIdeal.τ).loc Cert.ReferenceIdeal.main_v417) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x256x32x32 : Shape := ⟨4, ![4, 256, 32, 32]⟩
abbrev S4x1x32x32 : Shape := ⟨4, ![4, 1, 32, 32]⟩
abbrev S4x128x64x64 : Shape := ⟨4, ![4, 128, 64, 64]⟩
abbrev S4x64x128x128 : Shape := ⟨4, ![4, 64, 128, 128]⟩
abbrev S4x32x256x256 : Shape := ⟨4, ![4, 32, 256, 256]⟩
abbrev S3x3x256x128 : Shape := ⟨4, ![3, 3, 256, 128]⟩
abbrev S128 : Shape := ⟨1, ![128]⟩
abbrev S3x3x128x64 : Shape := ⟨4, ![3, 3, 128, 64]⟩
abbrev S64 : Shape := ⟨1, ![64]⟩
abbrev S3x3x64x32 : Shape := ⟨4, ![3, 3, 64, 32]⟩
abbrev S32 : Shape := ⟨1, ![32]⟩
abbrev S256x1 : Shape := ⟨2, ![256, 1]⟩
abbrev S1 : Shape := ⟨1, ![1]⟩
abbrev S128x1 : Shape := ⟨2, ![128, 1]⟩
abbrev S64x1 : Shape := ⟨2, ![64, 1]⟩
abbrev S32x1 : Shape := ⟨2, ![32, 1]⟩
abbrev S256x32 : Shape := ⟨2, ![256, 32]⟩
abbrev S32x2 : Shape := ⟨2, ![32, 2]⟩
abbrev S2 : Shape := ⟨1, ![2]⟩
abbrev S128x32 : Shape := ⟨2, ![128, 32]⟩
abbrev S64x32 : Shape := ⟨2, ![64, 32]⟩
abbrev S_ : Shape := ⟨0, ![]⟩

class Facts : Prop where
  bcast_S_S4x256x32x32 : S_.BroadcastsInDim S4x256x32x32 (![] : Fin 0 → Fin S4x256x32x32.rank)
  bcast_S_S4x1x32x32 : S_.BroadcastsInDim S4x1x32x32 (![] : Fin 0 → Fin S4x1x32x32.rank)
  bcast_S_S4x128x64x64 : S_.BroadcastsInDim S4x128x64x64 (![] : Fin 0 → Fin S4x128x64x64.rank)
  bcast_S_S4x64x128x128 : S_.BroadcastsInDim S4x64x128x128 (![] : Fin 0 → Fin S4x64x128x128.rank)
  bcast_S_S4x32x256x256 : S_.BroadcastsInDim S4x32x256x256 (![] : Fin 0 → Fin S4x32x256x256.rank)
  bcast_S_S3x3x256x128 : S_.BroadcastsInDim S3x3x256x128 (![] : Fin 0 → Fin S3x3x256x128.rank)
  bcast_S_S128 : S_.BroadcastsInDim S128 (![] : Fin 0 → Fin S128.rank)
  bcast_S_S3x3x128x64 : S_.BroadcastsInDim S3x3x128x64 (![] : Fin 0 → Fin S3x3x128x64.rank)
  bcast_S_S64 : S_.BroadcastsInDim S64 (![] : Fin 0 → Fin S64.rank)
  bcast_S_S32x1 : S_.BroadcastsInDim S32x1 (![] : Fin 0 → Fin S32x1.rank)
  bcast_S_S256x32 : S_.BroadcastsInDim S256x32 (![] : Fin 0 → Fin S256x32.rank)
  bcast_S_S32 : S_.BroadcastsInDim S32 (![] : Fin 0 → Fin S32.rank)
  bcast_S_S32x2 : S_.BroadcastsInDim S32x2 (![] : Fin 0 → Fin S32x2.rank)
  bcast_S_S2 : S_.BroadcastsInDim S2 (![] : Fin 0 → Fin S2.rank)
  bcast_S_S128x32 : S_.BroadcastsInDim S128x32 (![] : Fin 0 → Fin S128x32.rank)
  bcast_S_S64x32 : S_.BroadcastsInDim S64x32 (![] : Fin 0 → Fin S64x32.rank)

variable [Facts]

def fn_part3 {F : FTy → Type} [FloatOps F] (main_arg1 : FVec F S4x1x32x32 .f32) (main_arg27 : FVec F S64x32 .f32) (main_arg28 : FVec F S32 .f32) (main_arg29 : FVec F S32x2 .f32) (main_arg30 : FVec F S2 .f32) (main_v2 : IVec S4x256x32x32 1) (main_v5 : IVec S4x1x32x32 1) (main_v8 : IVec S4x128x64x64 1) (main_v11 : IVec S4x64x128x128 1) (main_v14 : IVec S4x32x256x256 1) (main_v17 : IVec S3x3x256x128 1) (main_v20 : IVec S128 1) (main_v23 : IVec S3x3x128x64 1) (main_v26 : IVec S64 1) (main_v29 : IVec S32x1 1) (main_v32 : IVec S256x32 1) (main_v35 : IVec S32 1) (main_v38 : IVec S32x2 1) (main_v41 : IVec S2 1) (main_v44 : IVec S128x32 1) (main_v47 : IVec S32 1) (main_v50 : IVec S32x2 1) (main_v53 : IVec S2 1) : IVec S4x1x32x32 1 × IVec S4x256x32x32 1 × IVec S4x1x32x32 1 × IVec S4x128x64x64 1 × IVec S4x64x128x128 1 × IVec S4x32x256x256 1 × IVec S3x3x256x128 1 × IVec S128 1 × IVec S3x3x128x64 1 × IVec S64 1 × IVec S32x1 1 × IVec S256x32 1 × IVec S32 1 × IVec S32x2 1 × IVec S2 1 × IVec S128x32 1 × IVec S32 1 × IVec S32x2 1 × IVec S2 1 × IVec S64x32 1 × IVec S32 1 × IVec S32x2 1 × IVec S2 1 :=
  let main_v54 : FVec F S64x32 .f32 := Host.absf main_arg27
  let main_cst_17 : FVec F S_ .f32 := constant S_ .f32 0x7F800000#32
  let main_v55 : FVec F S64x32 .f32 := broadcastInDim S64x32 ![] bcast_S_S64x32 main_cst_17
  let main_v56 : IVec S64x32 1 := cmpf .olt main_v54 main_v55
  let main_v57 : FVec F S32 .f32 := Host.absf main_arg28
  let main_cst_18 : FVec F S_ .f32 := constant S_ .f32 0x7F800000#32
  let main_v58 : FVec F S32 .f32 := broadcastInDim S32 ![] bcast_S_S32 main_cst_18
  let main_v59 : IVec S32 1 := cmpf .olt main_v57 main_v58
  let main_v60 : FVec F S32x2 .f32 := Host.absf main_arg29
  let main_cst_19 : FVec F S_ .f32 := constant S_ .f32 0x7F800000#32
  let main_v61 : FVec F S32x2 .f32 := broadcastInDim S32x2 ![] bcast_S_S32x2 main_cst_19
  let main_v62 : IVec S32x2 1 := cmpf .olt main_v60 main_v61
  let main_v63 : FVec F S2 .f32 := Host.absf main_arg30
  let main_cst_20 : FVec F S_ .f32 := constant S_ .f32 0x7F800000#32
  let main_v64 : FVec F S2 .f32 := broadcastInDim S2 ![] bcast_S_S2 main_cst_20
  let main_v65 : IVec S2 1 := cmpf .olt main_v63 main_v64
  let main_cst_21 : FVec F S_ .f32 := constant S_ .f32 0x00000000#32
  let main_v66 : FVec F S4x1x32x32 .f32 := broadcastInDim S4x1x32x32 ![] bcast_S_S4x1x32x32 main_cst_21
  let main_v67 : IVec S4x1x32x32 1 := cmpf .oge main_arg1 main_v66
  (main_v67, main_v2, main_v5, main_v8, main_v11, main_v14, main_v17, main_v20, main_v23, main_v26, main_v29, main_v32, main_v35, main_v38, main_v41, main_v44, main_v47, main_v50, main_v53, main_v56, main_v59, main_v62, main_v65)

def fn_part2 {F : FTy → Type} [FloatOps F] (main_arg1 : FVec F S4x1x32x32 .f32) (main_arg21 : FVec F S32x2 .f32) (main_arg22 : FVec F S2 .f32) (main_arg23 : FVec F S128x32 .f32) (main_arg24 : FVec F S32 .f32) (main_arg25 : FVec F S32x2 .f32) (main_arg26 : FVec F S2 .f32) (main_arg27 : FVec F S64x32 .f32) (main_arg28 : FVec F S32 .f32) (main_arg29 : FVec F S32x2 .f32) (main_arg30 : FVec F S2 .f32) (main_v2 : IVec S4x256x32x32 1) (main_v5 : IVec S4x1x32x32 1) (main_v8 : IVec S4x128x64x64 1) (main_v11 : IVec S4x64x128x128 1) (main_v14 : IVec S4x32x256x256 1) (main_v17 : IVec S3x3x256x128 1) (main_v20 : IVec S128 1) (main_v23 : IVec S3x3x128x64 1) (main_v26 : IVec S64 1) (main_v29 : IVec S32x1 1) (main_v32 : IVec S256x32 1) (main_v35 : IVec S32 1) : IVec S4x1x32x32 1 × IVec S4x256x32x32 1 × IVec S4x1x32x32 1 × IVec S4x128x64x64 1 × IVec S4x64x128x128 1 × IVec S4x32x256x256 1 × IVec S3x3x256x128 1 × IVec S128 1 × IVec S3x3x128x64 1 × IVec S64 1 × IVec S32x1 1 × IVec S256x32 1 × IVec S32 1 × IVec S32x2 1 × IVec S2 1 × IVec S128x32 1 × IVec S32 1 × IVec S32x2 1 × IVec S2 1 × IVec S64x32 1 × IVec S32 1 × IVec S32x2 1 × IVec S2 1 :=
  let main_v36 : FVec F S32x2 .f32 := Host.absf main_arg21
  let main_cst_11 : FVec F S_ .f32 := constant S_ .f32 0x7F800000#32
  let main_v37 : FVec F S32x2 .f32 := broadcastInDim S32x2 ![] bcast_S_S32x2 main_cst_11
  let main_v38 : IVec S32x2 1 := cmpf .olt main_v36 main_v37
  let main_v39 : FVec F S2 .f32 := Host.absf main_arg22
  let main_cst_12 : FVec F S_ .f32 := constant S_ .f32 0x7F800000#32
  let main_v40 : FVec F S2 .f32 := broadcastInDim S2 ![] bcast_S_S2 main_cst_12
  let main_v41 : IVec S2 1 := cmpf .olt main_v39 main_v40
  let main_v42 : FVec F S128x32 .f32 := Host.absf main_arg23
  let main_cst_13 : FVec F S_ .f32 := constant S_ .f32 0x7F800000#32
  let main_v43 : FVec F S128x32 .f32 := broadcastInDim S128x32 ![] bcast_S_S128x32 main_cst_13
  let main_v44 : IVec S128x32 1 := cmpf .olt main_v42 main_v43
  let main_v45 : FVec F S32 .f32 := Host.absf main_arg24
  let main_cst_14 : FVec F S_ .f32 := constant S_ .f32 0x7F800000#32
  let main_v46 : FVec F S32 .f32 := broadcastInDim S32 ![] bcast_S_S32 main_cst_14
  let main_v47 : IVec S32 1 := cmpf .olt main_v45 main_v46
  let main_v48 : FVec F S32x2 .f32 := Host.absf main_arg25
  let main_cst_15 : FVec F S_ .f32 := constant S_ .f32 0x7F800000#32
  let main_v49 : FVec F S32x2 .f32 := broadcastInDim S32x2 ![] bcast_S_S32x2 main_cst_15
  let main_v50 : IVec S32x2 1 := cmpf .olt main_v48 main_v49
  let main_v51 : FVec F S2 .f32 := Host.absf main_arg26
  let main_cst_16 : FVec F S_ .f32 := constant S_ .f32 0x7F800000#32
  let main_v52 : FVec F S2 .f32 := broadcastInDim S2 ![] bcast_S_S2 main_cst_16
  let main_v53 : IVec S2 1 := cmpf .olt main_v51 main_v52
  fn_part3 (F := F) main_arg1 main_arg27 main_arg28 main_arg29 main_arg30 main_v2 main_v5 main_v8 main_v11 main_v14 main_v17 main_v20 main_v23 main_v26 main_v29 main_v32 main_v35 main_v38 main_v41 main_v44 main_v47 main_v50 main_v53

def fn_part1 {F : FTy → Type} [FloatOps F] (main_arg1 : FVec F S4x1x32x32 .f32) (main_arg6 : FVec F S128 .f32) (main_arg7 : FVec F S3x3x128x64 .f32) (main_arg8 : FVec F S64 .f32) (main_arg17 : FVec F S32x1 .f32) (main_arg19 : FVec F S256x32 .f32) (main_arg20 : FVec F S32 .f32) (main_arg21 : FVec F S32x2 .f32) (main_arg22 : FVec F S2 .f32) (main_arg23 : FVec F S128x32 .f32) (main_arg24 : FVec F S32 .f32) (main_arg25 : FVec F S32x2 .f32) (main_arg26 : FVec F S2 .f32) (main_arg27 : FVec F S64x32 .f32) (main_arg28 : FVec F S32 .f32) (main_arg29 : FVec F S32x2 .f32) (main_arg30 : FVec F S2 .f32) (main_v2 : IVec S4x256x32x32 1) (main_v5 : IVec S4x1x32x32 1) (main_v8 : IVec S4x128x64x64 1) (main_v11 : IVec S4x64x128x128 1) (main_v14 : IVec S4x32x256x256 1) (main_v17 : IVec S3x3x256x128 1) : IVec S4x1x32x32 1 × IVec S4x256x32x32 1 × IVec S4x1x32x32 1 × IVec S4x128x64x64 1 × IVec S4x64x128x128 1 × IVec S4x32x256x256 1 × IVec S3x3x256x128 1 × IVec S128 1 × IVec S3x3x128x64 1 × IVec S64 1 × IVec S32x1 1 × IVec S256x32 1 × IVec S32 1 × IVec S32x2 1 × IVec S2 1 × IVec S128x32 1 × IVec S32 1 × IVec S32x2 1 × IVec S2 1 × IVec S64x32 1 × IVec S32 1 × IVec S32x2 1 × IVec S2 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S3x3x128x64 .f32 := Host.absf main_arg7
  let main_cst_6 : FVec F S_ .f32 := constant S_ .f32 0x7F800000#32
  let main_v22 : FVec F S3x3x128x64 .f32 := broadcastInDim S3x3x128x64 ![] bcast_S_S3x3x128x64 main_cst_6
  let main_v23 : IVec S3x3x128x64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S32x1 .f32 := Host.absf main_arg17
  let main_cst_8 : FVec F S_ .f32 := constant S_ .f32 0x7F800000#32
  let main_v28 : FVec F S32x1 .f32 := broadcastInDim S32x1 ![] bcast_S_S32x1 main_cst_8
  let main_v29 : IVec S32x1 1 := cmpf .olt main_v27 main_v28
  let main_v30 : FVec F S256x32 .f32 := Host.absf main_arg19
  let main_cst_9 : FVec F S_ .f32 := constant S_ .f32 0x7F800000#32
  let main_v31 : FVec F S256x32 .f32 := broadcastInDim S256x32 ![] bcast_S_S256x32 main_cst_9
  let main_v32 : IVec S256x32 1 := cmpf .olt main_v30 main_v31
  let main_v33 : FVec F S32 .f32 := Host.absf main_arg20
  let main_cst_10 : FVec F S_ .f32 := constant S_ .f32 0x7F800000#32
  let main_v34 : FVec F S32 .f32 := broadcastInDim S32 ![] bcast_S_S32 main_cst_10
  let main_v35 : IVec S32 1 := cmpf .olt main_v33 main_v34
  fn_part2 (F := F) main_arg1 main_arg21 main_arg22 main_arg23 main_arg24 main_arg25 main_arg26 main_arg27 main_arg28 main_arg29 main_arg30 main_v2 main_v5 main_v8 main_v11 main_v14 main_v17 main_v20 main_v23 main_v26 main_v29 main_v32 main_v35

def fn {F : FTy → Type} [FloatOps F] (main_arg0 : FVec F S4x256x32x32 .f32) (main_arg1 : FVec F S4x1x32x32 .f32) (main_arg2 : FVec F S4x128x64x64 .f32) (main_arg3 : FVec F S4x64x128x128 .f32) (main_arg4 : FVec F S4x32x256x256 .f32) (main_arg5 : FVec F S3x3x256x128 .f32) (main_arg6 : FVec F S128 .f32) (main_arg7 : FVec F S3x3x128x64 .f32) (main_arg8 : FVec F S64 .f32) (main_arg9 : FVec F S3x3x64x32 .f32) (main_arg10 : FVec F S32 .f32) (main_arg11 : FVec F S256x1 .f32) (main_arg12 : FVec F S1 .f32) (main_arg13 : FVec F S128x1 .f32) (main_arg14 : FVec F S1 .f32) (main_arg15 : FVec F S64x1 .f32) (main_arg16 : FVec F S1 .f32) (main_arg17 : FVec F S32x1 .f32) (main_arg18 : FVec F S1 .f32) (main_arg19 : FVec F S256x32 .f32) (main_arg20 : FVec F S32 .f32) (main_arg21 : FVec F S32x2 .f32) (main_arg22 : FVec F S2 .f32) (main_arg23 : FVec F S128x32 .f32) (main_arg24 : FVec F S32 .f32) (main_arg25 : FVec F S32x2 .f32) (main_arg26 : FVec F S2 .f32) (main_arg27 : FVec F S64x32 .f32) (main_arg28 : FVec F S32 .f32) (main_arg29 : FVec F S32x2 .f32) (main_arg30 : FVec F S2 .f32) : IVec S4x1x32x32 1 × IVec S4x256x32x32 1 × IVec S4x1x32x32 1 × IVec S4x128x64x64 1 × IVec S4x64x128x128 1 × IVec S4x32x256x256 1 × IVec S3x3x256x128 1 × IVec S128 1 × IVec S3x3x128x64 1 × IVec S64 1 × IVec S32x1 1 × IVec S256x32 1 × IVec S32 1 × IVec S32x2 1 × IVec S2 1 × IVec S128x32 1 × IVec S32 1 × IVec S32x2 1 × IVec S2 1 × IVec S64x32 1 × IVec S32 1 × IVec S32x2 1 × IVec S2 1 :=
  let main_v0 : FVec F S4x256x32x32 .f32 := Host.absf main_arg0
  let main_cst : FVec F S_ .f32 := constant S_ .f32 0x7F800000#32
  let main_v1 : FVec F S4x256x32x32 .f32 := broadcastInDim S4x256x32x32 ![] bcast_S_S4x256x32x32 main_cst
  let main_v2 : IVec S4x256x32x32 1 := cmpf .olt main_v0 main_v1
  let main_v3 : FVec F S4x1x32x32 .f32 := Host.absf main_arg1
  let main_cst_0 : FVec F S_ .f32 := constant S_ .f32 0x7F800000#32
  let main_v4 : FVec F S4x1x32x32 .f32 := broadcastInDim S4x1x32x32 ![] bcast_S_S4x1x32x32 main_cst_0
  let main_v5 : IVec S4x1x32x32 1 := cmpf .olt main_v3 main_v4
  let main_v6 : FVec F S4x128x64x64 .f32 := Host.absf main_arg2
  let main_cst_1 : FVec F S_ .f32 := constant S_ .f32 0x7F800000#32
  let main_v7 : FVec F S4x128x64x64 .f32 := broadcastInDim S4x128x64x64 ![] bcast_S_S4x128x64x64 main_cst_1
  let main_v8 : IVec S4x128x64x64 1 := cmpf .olt main_v6 main_v7
  let main_v9 : FVec F S4x64x128x128 .f32 := Host.absf main_arg3
  let main_cst_2 : FVec F S_ .f32 := constant S_ .f32 0x7F800000#32
  let main_v10 : FVec F S4x64x128x128 .f32 := broadcastInDim S4x64x128x128 ![] bcast_S_S4x64x128x128 main_cst_2
  let main_v11 : IVec S4x64x128x128 1 := cmpf .olt main_v9 main_v10
  let main_v12 : FVec F S4x32x256x256 .f32 := Host.absf main_arg4
  let main_cst_3 : FVec F S_ .f32 := constant S_ .f32 0x7F800000#32
  let main_v13 : FVec F S4x32x256x256 .f32 := broadcastInDim S4x32x256x256 ![] bcast_S_S4x32x256x256 main_cst_3
  let main_v14 : IVec S4x32x256x256 1 := cmpf .olt main_v12 main_v13
  let main_v15 : FVec F S3x3x256x128 .f32 := Host.absf main_arg5
  let main_cst_4 : FVec F S_ .f32 := constant S_ .f32 0x7F800000#32
  let main_v16 : FVec F S3x3x256x128 .f32 := broadcastInDim S3x3x256x128 ![] bcast_S_S3x3x256x128 main_cst_4
  let main_v17 : IVec S3x3x256x128 1 := cmpf .olt main_v15 main_v16
  fn_part1 (F := F) main_arg1 main_arg6 main_arg7 main_arg8 main_arg17 main_arg19 main_arg20 main_arg21 main_arg22 main_arg23 main_arg24 main_arg25 main_arg26 main_arg27 main_arg28 main_arg29 main_arg30 main_v2 main_v5 main_v8 main_v11 main_v14 main_v17
-- ==== Kernel.lean ====
abbrev S4x256x32x32 : Shape := ⟨4, ![4, 256, 32, 32]⟩
abbrev S4x1x32x32 : Shape := ⟨4, ![4, 1, 32, 32]⟩
abbrev S4x128x64x64 : Shape := ⟨4, ![4, 128, 64, 64]⟩
abbrev S4x64x128x128 : Shape := ⟨4, ![4, 64, 128, 128]⟩
abbrev S4x32x256x256 : Shape := ⟨4, ![4, 32, 256, 256]⟩
abbrev S3x3x256x128 : Shape := ⟨4, ![3, 3, 256, 128]⟩
abbrev S128 : Shape := ⟨1, ![128]⟩
abbrev S3x3x128x64 : Shape := ⟨4, ![3, 3, 128, 64]⟩
abbrev S64 : Shape := ⟨1, ![64]⟩
abbrev S3x3x64x32 : Shape := ⟨4, ![3, 3, 64, 32]⟩
abbrev S32 : Shape := ⟨1, ![32]⟩
abbrev S256x1 : Shape := ⟨2, ![256, 1]⟩
abbrev S1 : Shape := ⟨1, ![1]⟩
abbrev S128x1 : Shape := ⟨2, ![128, 1]⟩
abbrev S64x1 : Shape := ⟨2, ![64, 1]⟩
abbrev S32x1 : Shape := ⟨2, ![32, 1]⟩
abbrev S256x32 : Shape := ⟨2, ![256, 32]⟩
abbrev S32x2 : Shape := ⟨2, ![32, 2]⟩
abbrev S2 : Shape := ⟨1, ![2]⟩
abbrev S128x32 : Shape := ⟨2, ![128, 32]⟩
abbrev S64x32 : Shape := ⟨2, ![64, 32]⟩
abbrev S4x256x1024 : Shape := ⟨3, ![4, 256, 1024]⟩
abbrev S4x1x1024 : Shape := ⟨3, ![4, 1, 1024]⟩
abbrev S32x256 : Shape := ⟨2, ![32, 256]⟩
abbrev S2x32 : Shape := ⟨2, ![2, 32]⟩
abbrev S2x1 : Shape := ⟨2, ![2, 1]⟩
abbrev S1x256 : Shape := ⟨2, ![1, 256]⟩
abbrev S1x1 : Shape := ⟨2, ![1, 1]⟩
abbrev S4x2x1024 : Shape := ⟨3, ![4, 2, 1024]⟩
abbrev S1x256x1024 : Shape := ⟨3, ![1, 256, 1024]⟩
abbrev S1x1x1024 : Shape := ⟨3, ![1, 1, 1024]⟩
abbrev S1x2x1024 : Shape := ⟨3, ![1, 2, 1024]⟩
abbrev S256x1024 : Shape := ⟨2, ![256, 1024]⟩
abbrev S1x1024 : Shape := ⟨2, ![1, 1024]⟩
abbrev S32x1024 : Shape := ⟨2, ![32, 1024]⟩
abbrev S2x1024 : Shape := ⟨2, ![2, 1024]⟩
abbrev S4x256x1x1x1024 : Shape := ⟨5, ![4, 256, 1, 1, 1024]⟩
abbrev S4x1x1x1x1024 : Shape := ⟨5, ![4, 1, 1, 1, 1024]⟩
abbrev S4x128x32x2x64 : Shape := ⟨5, ![4, 128, 32, 2, 64]⟩
abbrev S4x128x2x32x64 : Shape := ⟨5, ![4, 128, 2, 32, 64]⟩
abbrev S4x128x2x32x32x2 : Shape := ⟨6, ![4, 128, 2, 32, 32, 2]⟩
abbrev S4x128x2x2x32x32 : Shape := ⟨6, ![4, 128, 2, 2, 32, 32]⟩
abbrev S4x128x2x1x2048 : Shape := ⟨5, ![4, 128, 2, 1, 2048]⟩
abbrev S4x128x1x2x1x2048 : Shape := ⟨6, ![4, 128, 1, 2, 1, 2048]⟩
abbrev S1x1x256x128 : Shape := ⟨4, ![1, 1, 256, 128]⟩
abbrev S256x128 : Shape := ⟨2, ![256, 128]⟩
abbrev S128x256 : Shape := ⟨2, ![128, 256]⟩
abbrev S512x256 : Shape := ⟨2, ![512, 256]⟩
abbrev S256x256 : Shape := ⟨2, ![256, 256]⟩
abbrev S32x128 : Shape := ⟨2, ![32, 128]⟩
abbrev S1x128 : Shape := ⟨2, ![1, 128]⟩
abbrev S4x1x1x2x1x2048 : Shape := ⟨6, ![4, 1, 1, 2, 1, 2048]⟩
abbrev S4x2x1x2x1x2048 : Shape := ⟨6, ![4, 2, 1, 2, 1, 2048]⟩
abbrev S1x256x1x1x1024 : Shape := ⟨5, ![1, 256, 1, 1, 1024]⟩
abbrev S1x1x1x1x1024 : Shape := ⟨5, ![1, 1, 1, 1, 1024]⟩
abbrev S1x128x1x2x1x2048 : Shape := ⟨6, ![1, 128, 1, 2, 1, 2048]⟩
abbrev S1x1x1x2x1x2048 : Shape := ⟨6, ![1, 1, 1, 2, 1, 2048]⟩
abbrev S1x2x1x2x1x2048 : Shape := ⟨6, ![1, 2, 1, 2, 1, 2048]⟩
abbrev S256x992 : Shape := ⟨2, ![256, 992]⟩
abbrev S256x1023 : Shape := ⟨2, ![256, 1023]⟩
abbrev S512x1024 : Shape := ⟨2, ![512, 1024]⟩
abbrev S128x1024 : Shape := ⟨2, ![128, 1024]⟩
abbrev S1x2048 : Shape := ⟨2, ![1, 2048]⟩
abbrev S128x2048 : Shape := ⟨2, ![128, 2048]⟩
abbrev S1x128x1x1x1x2048 : Shape := ⟨6, ![1, 128, 1, 1, 1, 2048]⟩
abbrev S32x2048 : Shape := ⟨2, ![32, 2048]⟩
abbrev S2x2048 : Shape := ⟨2, ![2, 2048]⟩
abbrev S1x1x1x1x1x2048 : Shape := ⟨6, ![1, 1, 1, 1, 1, 2048]⟩
abbrev S1x2x1x1x1x2048 : Shape := ⟨6, ![1, 2, 1, 1, 1, 2048]⟩
abbrev S4x1x2x1x2048 : Shape := ⟨5, ![4, 1, 2, 1, 2048]⟩
abbrev S4x2x2x1x2048 : Shape := ⟨5, ![4, 2, 2, 1, 2048]⟩
abbrev S4x64x32x4x128 : Shape := ⟨5, ![4, 64, 32, 4, 128]⟩
abbrev S4x64x4x32x128 : Shape := ⟨5, ![4, 64, 4, 32, 128]⟩
abbrev S4x64x4x32x32x4 : Shape := ⟨6, ![4, 64, 4, 32, 32, 4]⟩
abbrev S4x64x4x4x32x32 : Shape := ⟨6, ![4, 64, 4, 4, 32, 32]⟩
abbrev S4x64x4x1x4096 : Shape := ⟨5, ![4, 64, 4, 1, 4096]⟩
abbrev S4x64x2x2x1x4096 : Shape := ⟨6, ![4, 64, 2, 2, 1, 4096]⟩
abbrev S1x1x128x64 : Shape := ⟨4, ![1, 1, 128, 64]⟩
abbrev S128x64 : Shape := ⟨2, ![128, 64]⟩
abbrev S64x128 : Shape := ⟨2, ![64, 128]⟩
abbrev S128x128 : Shape := ⟨2, ![128, 128]⟩
abbrev S32x64 : Shape := ⟨2, ![32, 64]⟩
abbrev S1x64 : Shape := ⟨2, ![1, 64]⟩
abbrev S4x1x2x2x1x4096 : Shape := ⟨6, ![4, 1, 2, 2, 1, 4096]⟩
abbrev S4x2x2x2x1x4096 : Shape := ⟨6, ![4, 2, 2, 2, 1, 4096]⟩
abbrev S1x128x1x1x2048 : Shape := ⟨5, ![1, 128, 1, 1, 2048]⟩
abbrev S1x1x1x1x2048 : Shape := ⟨5, ![1, 1, 1, 1, 2048]⟩
abbrev S1x64x1x2x1x4096 : Shape := ⟨6, ![1, 64, 1, 2, 1, 4096]⟩
abbrev S1x1x1x2x1x4096 : Shape := ⟨6, ![1, 1, 1, 2, 1, 4096]⟩
abbrev S1x2x1x2x1x4096 : Shape := ⟨6, ![1, 2, 1, 2, 1, 4096]⟩
abbrev S128x2016 : Shape := ⟨2, ![128, 2016]⟩
abbrev S128x1023 : Shape := ⟨2, ![128, 1023]⟩
abbrev S256x2048 : Shape := ⟨2, ![256, 2048]⟩
abbrev S64x2048 : Shape := ⟨2, ![64, 2048]⟩
abbrev S1x4096 : Shape := ⟨2, ![1, 4096]⟩
abbrev S64x1024 : Shape := ⟨2, ![64, 1024]⟩
abbrev S64x4096 : Shape := ⟨2, ![64, 4096]⟩
abbrev S1x64x1x1x1x4096 : Shape := ⟨6, ![1, 64, 1, 1, 1, 4096]⟩
abbrev S32x4096 : Shape := ⟨2, ![32, 4096]⟩
abbrev S2x4096 : Shape := ⟨2, ![2, 4096]⟩
abbrev S1x1x1x1x1x4096 : Shape := ⟨6, ![1, 1, 1, 1, 1, 4096]⟩
abbrev S1x2x1x1x1x4096 : Shape := ⟨6, ![1, 2, 1, 1, 1, 4096]⟩
abbrev S4x1x4x1x4096 : Shape := ⟨5, ![4, 1, 4, 1, 4096]⟩
abbrev S4x2x4x1x4096 : Shape := ⟨5, ![4, 2, 4, 1, 4096]⟩
abbrev S32x1x1 : Shape := ⟨3, ![32, 1, 1]⟩
abbrev S4x1x256x256 : Shape := ⟨4, ![4, 1, 256, 256]⟩
abbrev S1x32x32x256 : Shape := ⟨4, ![1, 32, 32, 256]⟩
abbrev S1x1x32x256 : Shape := ⟨4, ![1, 1, 32, 256]⟩
abbrev S32x32x256 : Shape := ⟨3, ![32, 32, 256]⟩
abbrev S1x32x256 : Shape := ⟨3, ![1, 32, 256]⟩
abbrev S4x1x32x8x256 : Shape := ⟨5, ![4, 1, 32, 8, 256]⟩
abbrev S4x1x8x32x256 : Shape := ⟨5, ![4, 1, 8, 32, 256]⟩
abbrev S4x1x8x32x32x8 : Shape := ⟨6, ![4, 1, 8, 32, 32, 8]⟩
abbrev S4x1x8x8x32x32 : Shape := ⟨6, ![4, 1, 8, 8, 32, 32]⟩
abbrev S4x1x8x1x8192 : Shape := ⟨5, ![4, 1, 8, 1, 8192]⟩
abbrev S4x1x4x2x1x8192 : Shape := ⟨6, ![4, 1, 4, 2, 1, 8192]⟩
abbrev S1x1x64x32 : Shape := ⟨4, ![1, 1, 64, 32]⟩
abbrev S64x64 : Shape := ⟨2, ![64, 64]⟩
abbrev S1x32 : Shape := ⟨2, ![1, 32]⟩
abbrev S1x64x1x1x4096 : Shape := ⟨5, ![1, 64, 1, 1, 4096]⟩
abbrev S1x1x1x1x4096 : Shape := ⟨5, ![1, 1, 1, 1, 4096]⟩
abbrev S1x1x1x2x1x8192 : Shape := ⟨6, ![1, 1, 1, 2, 1, 8192]⟩
abbrev S64x4064 : Shape := ⟨2, ![64, 4064]⟩
abbrev S64x1023 : Shape := ⟨2, ![64, 1023]⟩
abbrev S64x3072 : Shape := ⟨2, ![64, 3072]⟩
abbrev S128x4096 : Shape := ⟨2, ![128, 4096]⟩
abbrev S1x8192 : Shape := ⟨2, ![1, 8192]⟩
abbrev S32x8192 : Shape := ⟨2, ![32, 8192]⟩
abbrev S1x1x1x1x1x8192 : Shape := ⟨6, ![1, 1, 1, 1, 1, 8192]⟩
abbrev S4x1x2x2x32x32 : Shape := ⟨6, ![4, 1, 2, 2, 32, 32]⟩
abbrev S4x1x2x32x32x2 : Shape := ⟨6, ![4, 1, 2, 32, 32, 2]⟩
abbrev S4x1x2x32x64 : Shape := ⟨5, ![4, 1, 2, 32, 64]⟩
abbrev S4x1x32x2x64 : Shape := ⟨5, ![4, 1, 32, 2, 64]⟩
abbrev S4x1x64x64 : Shape := ⟨4, ![4, 1, 64, 64]⟩
abbrev S4x1x4x4x32x32 : Shape := ⟨6, ![4, 1, 4, 4, 32, 32]⟩
abbrev S4x1x4x32x32x4 : Shape := ⟨6, ![4, 1, 4, 32, 32, 4]⟩
abbrev S4x1x4x32x128 : Shape := ⟨5, ![4, 1, 4, 32, 128]⟩
abbrev S4x1x32x4x128 : Shape := ⟨5, ![4, 1, 32, 4, 128]⟩
abbrev S4x1x128x128 : Shape := ⟨4, ![4, 1, 128, 128]⟩
abbrev S4x2x32x32 : Shape := ⟨4, ![4, 2, 32, 32]⟩
abbrev S4x2x2x2x32x32 : Shape := ⟨6, ![4, 2, 2, 2, 32, 32]⟩
abbrev S4x2x2x32x32x2 : Shape := ⟨6, ![4, 2, 2, 32, 32, 2]⟩
abbrev S4x2x2x32x64 : Shape := ⟨5, ![4, 2, 2, 32, 64]⟩
abbrev S4x2x32x2x64 : Shape := ⟨5, ![4, 2, 32, 2, 64]⟩
abbrev S4x2x64x64 : Shape := ⟨4, ![4, 2, 64, 64]⟩
abbrev S4x2x4x4x32x32 : Shape := ⟨6, ![4, 2, 4, 4, 32, 32]⟩
abbrev S4x2x4x32x32x4 : Shape := ⟨6, ![4, 2, 4, 32, 32, 4]⟩
abbrev S4x2x4x32x128 : Shape := ⟨5, ![4, 2, 4, 32, 128]⟩
abbrev S4x2x32x4x128 : Shape := ⟨5, ![4, 2, 32, 4, 128]⟩
abbrev S4x2x128x128 : Shape := ⟨4, ![4, 2, 128, 128]⟩

abbrev nBuf : Space → Nat
  | .hbm => 239
  | .vmem => 98
  | .smem => 0
  | _ => 0

abbrev hbmTy0_0 (i : Nat) : BufTy := match i % 128 with
  | 0 => ⟨S4x256x32x32, .f32⟩
  | 1 => ⟨S4x1x32x32, .f32⟩
  | 2 => ⟨S4x128x64x64, .f32⟩
  | 3 => ⟨S4x64x128x128, .f32⟩
  | 4 => ⟨S4x32x256x256, .f32⟩
  | 5 => ⟨S3x3x256x128, .f32⟩
  | 6 => ⟨S128, .f32⟩
  | 7 => ⟨S3x3x128x64, .f32⟩
  | 8 => ⟨S64, .f32⟩
  | 9 => ⟨S3x3x64x32, .f32⟩
  | 10 => ⟨S32, .f32⟩
  | 11 => ⟨S256x1, .f32⟩
  | 12 => ⟨S1, .f32⟩
  | 13 => ⟨S128x1, .f32⟩
  | 14 => ⟨S1, .f32⟩
  | 15 => ⟨S64x1, .f32⟩
  | 16 => ⟨S1, .f32⟩
  | 17 => ⟨S32x1, .f32⟩
  | 18 => ⟨S1, .f32⟩
  | 19 => ⟨S256x32, .f32⟩
  | 20 => ⟨S32, .f32⟩
  | 21 => ⟨S32x2, .f32⟩
  | 22 => ⟨S2, .f32⟩
  | 23 => ⟨S128x32, .f32⟩
  | 24 => ⟨S32, .f32⟩
  | 25 => ⟨S32x2, .f32⟩
  | 26 => ⟨S2, .f32⟩
  | 27 => ⟨S64x32, .f32⟩
  | 28 => ⟨S32, .f32⟩
  | 29 => ⟨S32x2, .f32⟩
  | 30 => ⟨S2, .f32⟩
  | 31 => ⟨S4x256x1024, .f32⟩
  | 32 => ⟨S4x1x1024, .f32⟩
  | 33 => ⟨S32x256, .f32⟩
  | 34 => ⟨S32x1, .f32⟩
  | 35 => ⟨S2x32, .f32⟩
  | 36 => ⟨S2x1, .f32⟩
  | 37 => ⟨S1x256, .f32⟩
  | 38 => ⟨S1x1, .f32⟩
  | 39 => ⟨S4x1x1024, .f32⟩
  | 40 => ⟨S4x2x1024, .f32⟩
  | 41 => ⟨S4x1x1024, .f32⟩
  | 42 => ⟨S4x1x1024, .f32⟩
  | 43 => ⟨S4x256x1x1x1024, .f32⟩
  | 44 => ⟨S4x1x1x1x1024, .f32⟩
  | 45 => ⟨S4x128x32x2x64, .f32⟩
  | 46 => ⟨S4x128x2x32x64, .f32⟩
  | 47 => ⟨S4x128x2x32x32x2, .f32⟩
  | 48 => ⟨S4x128x2x2x32x32, .f32⟩
  | 49 => ⟨S4x128x2x1x2048, .f32⟩
  | 50 => ⟨S4x128x1x2x1x2048, .f32⟩
  | 51 => ⟨S1x1x256x128, .f32⟩
  | 52 => ⟨S256x128, .f32⟩
  | 53 => ⟨S128x256, .f32⟩
  | 54 => ⟨S1x1x256x128, .f32⟩
  | 55 => ⟨S256x128, .f32⟩
  | 56 => ⟨S128x256, .f32⟩
  | 57 => ⟨S1x1x256x128, .f32⟩
  | 58 => ⟨S256x128, .f32⟩
  | 59 => ⟨S128x256, .f32⟩
  | 60 => ⟨S1x1x256x128, .f32⟩
  | 61 => ⟨S256x128, .f32⟩
  | 62 => ⟨S128x256, .f32⟩
  | 63 => ⟨S512x256, .f32⟩
  | 64 => ⟨S1x1x256x128, .f32⟩
  | 65 => ⟨S256x128, .f32⟩
  | 66 => ⟨S128x256, .f32⟩
  | 67 => ⟨S1x1x256x128, .f32⟩
  | 68 => ⟨S256x128, .f32⟩
  | 69 => ⟨S128x256, .f32⟩
  | 70 => ⟨S256x256, .f32⟩
  | 71 => ⟨S1x1x256x128, .f32⟩
  | 72 => ⟨S256x128, .f32⟩
  | 73 => ⟨S128x256, .f32⟩
  | 74 => ⟨S1x1x256x128, .f32⟩
  | 75 => ⟨S256x128, .f32⟩
  | 76 => ⟨S128x256, .f32⟩
  | 77 => ⟨S256x256, .f32⟩
  | 78 => ⟨S1x1x256x128, .f32⟩
  | 79 => ⟨S256x128, .f32⟩
  | 80 => ⟨S128x256, .f32⟩
  | 81 => ⟨S128x1, .f32⟩
  | 82 => ⟨S32x128, .f32⟩
  | 83 => ⟨S32x1, .f32⟩
  | 84 => ⟨S2x32, .f32⟩
  | 85 => ⟨S2x1, .f32⟩
  | 86 => ⟨S1x128, .f32⟩
  | 87 => ⟨S1x1, .f32⟩
  | 88 => ⟨S4x128x1x2x1x2048, .f32⟩
  | 89 => ⟨S4x1x1x2x1x2048, .f32⟩
  | 90 => ⟨S4x2x1x2x1x2048, .f32⟩
  | 91 => ⟨S4x1x1x2x1x2048, .f32⟩
  | 92 => ⟨S4x1x1x2x1x2048, .f32⟩
  | 93 => ⟨S4x128x2x1x2048, .f32⟩
  | 94 => ⟨S4x1x2x1x2048, .f32⟩
  | 95 => ⟨S4x2x2x1x2048, .f32⟩
  | 96 => ⟨S4x1x2x1x2048, .f32⟩
  | 97 => ⟨S4x1x2x1x2048, .f32⟩
  | 98 => ⟨S4x64x32x4x128, .f32⟩
  | 99 => ⟨S4x64x4x32x128, .f32⟩
  | 100 => ⟨S4x64x4x32x32x4, .f32⟩
  | 101 => ⟨S4x64x4x4x32x32, .f32⟩
  | 102 => ⟨S4x64x4x1x4096, .f32⟩
  | 103 => ⟨S4x64x2x2x1x4096, .f32⟩
  | 104 => ⟨S1x1x128x64, .f32⟩
  | 105 => ⟨S128x64, .f32⟩
  | 106 => ⟨S64x128, .f32⟩
  | 107 => ⟨S1x1x128x64, .f32⟩
  | 108 => ⟨S128x64, .f32⟩
  | 109 => ⟨S64x128, .f32⟩
  | 110 => ⟨S1x1x128x64, .f32⟩
  | 111 => ⟨S128x64, .f32⟩
  | 112 => ⟨S64x128, .f32⟩
  | 113 => ⟨S1x1x128x64, .f32⟩
  | 114 => ⟨S128x64, .f32⟩
  | 115 => ⟨S64x128, .f32⟩
  | 116 => ⟨S256x128, .f32⟩
  | 117 => ⟨S1x1x128x64, .f32⟩
  | 118 => ⟨S128x64, .f32⟩
  | 119 => ⟨S64x128, .f32⟩
  | 120 => ⟨S1x1x128x64, .f32⟩
  | 121 => ⟨S128x64, .f32⟩
  | 122 => ⟨S64x128, .f32⟩
  | 123 => ⟨S128x128, .f32⟩
  | 124 => ⟨S1x1x128x64, .f32⟩
  | 125 => ⟨S128x64, .f32⟩
  | 126 => ⟨S64x128, .f32⟩
  | 127 => ⟨S1x1x128x64, .f32⟩
  | _ => ⟨S4x256x32x32, .f32⟩

abbrev hbmTy0_1 (i : Nat) : BufTy := match i % 128 with
  | 0 => ⟨S128x64, .f32⟩
  | 1 => ⟨S64x128, .f32⟩
  | 2 => ⟨S128x128, .f32⟩
  | 3 => ⟨S1x1x128x64, .f32⟩
  | 4 => ⟨S128x64, .f32⟩
  | 5 => ⟨S64x128, .f32⟩
  | 6 => ⟨S64x1, .f32⟩
  | 7 => ⟨S32x64, .f32⟩
  | 8 => ⟨S32x1, .f32⟩
  | 9 => ⟨S2x32, .f32⟩
  | 10 => ⟨S2x1, .f32⟩
  | 11 => ⟨S1x64, .f32⟩
  | 12 => ⟨S1x1, .f32⟩
  | 13 => ⟨S4x64x2x2x1x4096, .f32⟩
  | 14 => ⟨S4x1x2x2x1x4096, .f32⟩
  | 15 => ⟨S4x2x2x2x1x4096, .f32⟩
  | 16 => ⟨S4x1x2x2x1x4096, .f32⟩
  | 17 => ⟨S4x1x2x2x1x4096, .f32⟩
  | 18 => ⟨S4x64x4x1x4096, .f32⟩
  | 19 => ⟨S4x1x4x1x4096, .f32⟩
  | 20 => ⟨S4x2x4x1x4096, .f32⟩
  | 21 => ⟨S4x1x4x1x4096, .f32⟩
  | 22 => ⟨S4x1x4x1x4096, .f32⟩
  | 23 => ⟨S32x1x1, .f32⟩
  | 24 => ⟨S4x1x256x256, .f32⟩
  | 25 => ⟨S4x1x32x8x256, .f32⟩
  | 26 => ⟨S4x1x8x32x256, .f32⟩
  | 27 => ⟨S4x1x8x32x32x8, .f32⟩
  | 28 => ⟨S4x1x8x8x32x32, .f32⟩
  | 29 => ⟨S4x1x8x1x8192, .f32⟩
  | 30 => ⟨S4x1x4x2x1x8192, .f32⟩
  | 31 => ⟨S1x1x64x32, .f32⟩
  | 32 => ⟨S64x32, .f32⟩
  | 33 => ⟨S32x64, .f32⟩
  | 34 => ⟨S1x1x64x32, .f32⟩
  | 35 => ⟨S64x32, .f32⟩
  | 36 => ⟨S32x64, .f32⟩
  | 37 => ⟨S1x1x64x32, .f32⟩
  | 38 => ⟨S64x32, .f32⟩
  | 39 => ⟨S32x64, .f32⟩
  | 40 => ⟨S1x1x64x32, .f32⟩
  | 41 => ⟨S64x32, .f32⟩
  | 42 => ⟨S32x64, .f32⟩
  | 43 => ⟨S128x64, .f32⟩
  | 44 => ⟨S1x1x64x32, .f32⟩
  | 45 => ⟨S64x32, .f32⟩
  | 46 => ⟨S32x64, .f32⟩
  | 47 => ⟨S1x1x64x32, .f32⟩
  | 48 => ⟨S64x32, .f32⟩
  | 49 => ⟨S32x64, .f32⟩
  | 50 => ⟨S64x64, .f32⟩
  | 51 => ⟨S1x1x64x32, .f32⟩
  | 52 => ⟨S64x32, .f32⟩
  | 53 => ⟨S32x64, .f32⟩
  | 54 => ⟨S1x1x64x32, .f32⟩
  | 55 => ⟨S64x32, .f32⟩
  | 56 => ⟨S32x64, .f32⟩
  | 57 => ⟨S64x64, .f32⟩
  | 58 => ⟨S1x1x64x32, .f32⟩
  | 59 => ⟨S64x32, .f32⟩
  | 60 => ⟨S32x64, .f32⟩
  | 61 => ⟨S32x1, .f32⟩
  | 62 => ⟨S1x32, .f32⟩
  | 63 => ⟨S1x1, .f32⟩
  | 64 => ⟨S4x1x4x2x1x8192, .f32⟩
  | 65 => ⟨S4x1x4x2x1x8192, .f32⟩
  | 66 => ⟨S4x1x8x1x8192, .f32⟩
  | 67 => ⟨S4x1x8x1x8192, .f32⟩
  | 68 => ⟨S4x1x32x32, .f32⟩
  | 69 => ⟨S4x1x2x2x32x32, .f32⟩
  | 70 => ⟨S4x1x2x32x32x2, .f32⟩
  | 71 => ⟨S4x1x2x32x64, .f32⟩
  | 72 => ⟨S4x1x32x2x64, .f32⟩
  | 73 => ⟨S4x1x64x64, .f32⟩
  | 74 => ⟨S4x1x4x4x32x32, .f32⟩
  | 75 => ⟨S4x1x4x32x32x4, .f32⟩
  | 76 => ⟨S4x1x4x32x128, .f32⟩
  | 77 => ⟨S4x1x32x4x128, .f32⟩
  | 78 => ⟨S4x1x128x128, .f32⟩
  | 79 => ⟨S4x1x8x8x32x32, .f32⟩
  | 80 => ⟨S4x1x8x32x32x8, .f32⟩
  | 81 => ⟨S4x1x8x32x256, .f32⟩
  | 82 => ⟨S4x1x32x8x256, .f32⟩
  | 83 => ⟨S4x1x256x256, .f32⟩
  | 84 => ⟨S4x2x32x32, .f32⟩
  | 85 => ⟨S4x2x2x2x32x32, .f32⟩
  | 86 => ⟨S4x2x2x32x32x2, .f32⟩
  | 87 => ⟨S4x2x2x32x64, .f32⟩
  | 88 => ⟨S4x2x32x2x64, .f32⟩
  | 89 => ⟨S4x2x64x64, .f32⟩
  | 90 => ⟨S4x2x4x4x32x32, .f32⟩
  | 91 => ⟨S4x2x4x32x32x4, .f32⟩
  | 92 => ⟨S4x2x4x32x128, .f32⟩
  | 93 => ⟨S4x2x32x4x128, .f32⟩
  | 94 => ⟨S4x2x128x128, .f32⟩
  | 95 => ⟨S4x1x32x32, .f32⟩
  | 96 => ⟨S4x1x2x2x32x32, .f32⟩
  | 97 => ⟨S4x1x2x32x32x2, .f32⟩
  | 98 => ⟨S4x1x2x32x64, .f32⟩
  | 99 => ⟨S4x1x32x2x64, .f32⟩
  | 100 => ⟨S4x1x64x64, .f32⟩
  | 101 => ⟨S4x1x4x4x32x32, .f32⟩
  | 102 => ⟨S4x1x4x32x32x4, .f32⟩
  | 103 => ⟨S4x1x4x32x128, .f32⟩
  | 104 => ⟨S4x1x32x4x128, .f32⟩
  | 105 => ⟨S4x1x128x128, .f32⟩
  | 106 => ⟨S4x1x8x8x32x32, .f32⟩
  | 107 => ⟨S4x1x8x32x32x8, .f32⟩
  | 108 => ⟨S4x1x8x32x256, .f32⟩
  | 109 => ⟨S4x1x32x8x256, .f32⟩
  | 110 => ⟨S4x1x256x256, .f32⟩
  | _ => ⟨S4x256x32x32, .f32⟩

abbrev hbmTy (i : Nat) : BufTy := match i / 128 with
  | 0 => hbmTy0_0 i
  | 1 => hbmTy0_1 i
  | _ => ⟨S4x256x32x32, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S32x256, .f32⟩
  | .local _ .vmem, ⟨5, _⟩ => ⟨S32x1, .f32⟩
  | .local _ .vmem, ⟨6, _⟩ => ⟨S2x32, .f32⟩
  | .local _ .vmem, ⟨7, _⟩ => ⟨S2x1, .f32⟩
  | .local _ .vmem, ⟨8, _⟩ => ⟨S1x256, .f32⟩
  | .local _ .vmem, ⟨9, _⟩ => ⟨S1x1, .f32⟩
  | .local _ .vmem, ⟨10, _⟩ => ⟨S1x1x1024, .f32⟩
  | .local _ .vmem, ⟨11, _⟩ => ⟨S1x1x1024, .f32⟩
  | .local _ .vmem, ⟨12, _⟩ => ⟨S1x2x1024, .f32⟩
  | .local _ .vmem, ⟨13, _⟩ => ⟨S1x2x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x256x1x1x1024, .f32⟩
  | .local _ .vmem, ⟨19, _⟩ => ⟨S1x256x1x1x1024, .f32⟩
  | .local _ .vmem, ⟨20, _⟩ => ⟨S1x1x1x1x1024, .f32⟩
  | .local _ .vmem, ⟨21, _⟩ => ⟨S1x1x1x1x1024, .f32⟩
  | .local _ .vmem, ⟨22, _⟩ => ⟨S1x128x1x2x1x2048, .f32⟩
  | .local _ .vmem, ⟨23, _⟩ => ⟨S1x128x1x2x1x2048, .f32⟩
  | .local _ .vmem, ⟨24, _⟩ => ⟨S512x256, .f32⟩
  | .local _ .vmem, ⟨25, _⟩ => ⟨S256x256, .f32⟩
  | .local _ .vmem, ⟨26, _⟩ => ⟨S256x256, .f32⟩
  | .local _ .vmem, ⟨27, _⟩ => ⟨S128x256, .f32⟩
  | .local _ .vmem, ⟨28, _⟩ => ⟨S128x1, .f32⟩
  | .local _ .vmem, ⟨29, _⟩ => ⟨S32x128, .f32⟩
  | .local _ .vmem, ⟨30, _⟩ => ⟨S32x1, .f32⟩
  | .local _ .vmem, ⟨31, _⟩ => ⟨S2x32, .f32⟩
  | .local _ .vmem, ⟨32, _⟩ => ⟨S2x1, .f32⟩
  | .local _ .vmem, ⟨33, _⟩ => ⟨S1x128, .f32⟩
  | .local _ .vmem, ⟨34, _⟩ => ⟨S1x1, .f32⟩
  | .local _ .vmem, ⟨35, _⟩ => ⟨S1x128x1x2x1x2048, .f32⟩
  | .local _ .vmem, ⟨36, _⟩ => ⟨S1x128x1x2x1x2048, .f32⟩
  | .local _ .vmem, ⟨37, _⟩ => ⟨S1x1x1x2x1x2048, .f32⟩
  | .local _ .vmem, ⟨38, _⟩ => ⟨S1x1x1x2x1x2048, .f32⟩
  | .local _ .vmem, ⟨39, _⟩ => ⟨S1x2x1x2x1x2048, .f32⟩
  | .local _ .vmem, ⟨40, _⟩ => ⟨S1x2x1x2x1x2048, .f32⟩
  | .local _ .vmem, ⟨41, _⟩ => ⟨S1x1x1x2x1x2048, .f32⟩
  | .local _ .vmem, ⟨42, _⟩ => ⟨S1x1x1x2x1x2048, .f32⟩
  | .local _ .vmem, ⟨43, _⟩ => ⟨S1x1x1x2x1x2048, .f32⟩
  | .local _ .vmem, ⟨44, _⟩ => ⟨S1x1x1x2x1x2048, .f32⟩
  | .local _ .vmem, ⟨45, _⟩ => ⟨S1x128x1x1x2048, .f32⟩
  | .local _ .vmem, ⟨46, _⟩ => ⟨S1x128x1x1x2048, .f32⟩
  | .local _ .vmem, ⟨47, _⟩ => ⟨S1x128x1x1x2048, .f32⟩
  | .local _ .vmem, ⟨48, _⟩ => ⟨S1x128x1x1x2048, .f32⟩
  | .local _ .vmem, ⟨49, _⟩ => ⟨S1x1x1x1x2048, .f32⟩
  | .local _ .vmem, ⟨50, _⟩ => ⟨S1x1x1x1x2048, .f32⟩
  | .local _ .vmem, ⟨51, _⟩ => ⟨S1x64x1x2x1x4096, .f32⟩
  | .local _ .vmem, ⟨52, _⟩ => ⟨S1x64x1x2x1x4096, .f32⟩
  | .local _ .vmem, ⟨53, _⟩ => ⟨S256x128, .f32⟩
  | .local _ .vmem, ⟨54, _⟩ => ⟨S128x128, .f32⟩
  | .local _ .vmem, ⟨55, _⟩ => ⟨S128x128, .f32⟩
  | .local _ .vmem, ⟨56, _⟩ => ⟨S64x128, .f32⟩
  | .local _ .vmem, ⟨57, _⟩ => ⟨S64x1, .f32⟩
  | .local _ .vmem, ⟨58, _⟩ => ⟨S32x64, .f32⟩
  | .local _ .vmem, ⟨59, _⟩ => ⟨S32x1, .f32⟩
  | .local _ .vmem, ⟨60, _⟩ => ⟨S2x32, .f32⟩
  | .local _ .vmem, ⟨61, _⟩ => ⟨S2x1, .f32⟩
  | .local _ .vmem, ⟨62, _⟩ => ⟨S1x64, .f32⟩
  | .local _ .vmem, ⟨63, _⟩ => ⟨S1x1, .f32⟩
  | .local _ .vmem, ⟨64, _⟩ => ⟨S1x64x1x2x1x4096, .f32⟩
  | .local _ .vmem, ⟨65, _⟩ => ⟨S1x64x1x2x1x4096, .f32⟩
  | .local _ .vmem, ⟨66, _⟩ => ⟨S1x1x1x2x1x4096, .f32⟩
  | .local _ .vmem, ⟨67, _⟩ => ⟨S1x1x1x2x1x4096, .f32⟩
  | .local _ .vmem, ⟨68, _⟩ => ⟨S1x2x1x2x1x4096, .f32⟩
  | .local _ .vmem, ⟨69, _⟩ => ⟨S1x2x1x2x1x4096, .f32⟩
  | .local _ .vmem, ⟨70, _⟩ => ⟨S1x1x1x2x1x4096, .f32⟩
  | .local _ .vmem, ⟨71, _⟩ => ⟨S1x1x1x2x1x4096, .f32⟩
  | .local _ .vmem, ⟨72, _⟩ => ⟨S1x1x1x2x1x4096, .f32⟩
  | .local _ .vmem, ⟨73, _⟩ => ⟨S1x1x1x2x1x4096, .f32⟩
  | .local _ .vmem, ⟨74, _⟩ => ⟨S1x32x32x256, .f32⟩
  | .local _ .vmem, ⟨75, _⟩ => ⟨S1x32x32x256, .f32⟩
  | .local _ .vmem, ⟨76, _⟩ => ⟨S32x1x1, .f32⟩
  | .local _ .vmem, ⟨77, _⟩ => ⟨S1x1x32x256, .f32⟩
  | .local _ .vmem, ⟨78, _⟩ => ⟨S1x1x32x256, .f32⟩
  | .local _ .vmem, ⟨79, _⟩ => ⟨S1x64x1x1x4096, .f32⟩
  | .local _ .vmem, ⟨80, _⟩ => ⟨S1x64x1x1x4096, .f32⟩
  | .local _ .vmem, ⟨81, _⟩ => ⟨S1x64x1x1x4096, .f32⟩
  | .local _ .vmem, ⟨82, _⟩ => ⟨S1x64x1x1x4096, .f32⟩
  | .local _ .vmem, ⟨83, _⟩ => ⟨S1x1x1x1x4096, .f32⟩
  | .local _ .vmem, ⟨84, _⟩ => ⟨S1x1x1x1x4096, .f32⟩
  | .local _ .vmem, ⟨85, _⟩ => ⟨S1x1x1x2x1x8192, .f32⟩
  | .local _ .vmem, ⟨86, _⟩ => ⟨S1x1x1x2x1x8192, .f32⟩
  | .local _ .vmem, ⟨87, _⟩ => ⟨S128x64, .f32⟩
  | .local _ .vmem, ⟨88, _⟩ => ⟨S64x64, .f32⟩
  | .local _ .vmem, ⟨89, _⟩ => ⟨S64x64, .f32⟩
  | .local _ .vmem, ⟨90, _⟩ => ⟨S32x64, .f32⟩
  | .local _ .vmem, ⟨91, _⟩ => ⟨S32x1, .f32⟩
  | .local _ .vmem, ⟨92, _⟩ => ⟨S1x32, .f32⟩
  | .local _ .vmem, ⟨93, _⟩ => ⟨S1x1, .f32⟩
  | .local _ .vmem, ⟨94, _⟩ => ⟨S1x1x1x2x1x8192, .f32⟩
  | .local _ .vmem, ⟨95, _⟩ => ⟨S1x1x1x2x1x8192, .f32⟩
  | .local _ .vmem, ⟨96, _⟩ => ⟨S1x1x1x2x1x8192, .f32⟩
  | .local _ .vmem, ⟨97, _⟩ => ⟨S1x1x1x2x1x8192, .f32⟩
  | _, _ => ⟨S4x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8_0 : Ref sig .tc := ⟨.hbm, 39, rfl⟩
abbrev main_v8_1 : Ref sig .tc := ⟨.hbm, 40, rfl⟩
abbrev main_v8_2 : Ref sig .tc := ⟨.hbm, 41, rfl⟩
abbrev main_v8_3 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54_0 : Ref sig .tc := ⟨.hbm, 88, rfl⟩
abbrev main_v54_1 : Ref sig .tc := ⟨.hbm, 89, rfl⟩
abbrev main_v54_2 : Ref sig .tc := ⟨.hbm, 90, rfl⟩
abbrev main_v54_3 : Ref sig .tc := ⟨.hbm, 91, rfl⟩
abbrev main_v54_4 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103_0 : Ref sig .tc := ⟨.hbm, 141, rfl⟩
abbrev main_v103_1 : Ref sig .tc := ⟨.hbm, 142, rfl⟩
abbrev main_v103_2 : Ref sig .tc := ⟨.hbm, 143, rfl⟩
abbrev main_v103_3 : Ref sig .tc := ⟨.hbm, 144, rfl⟩
abbrev main_v103_4 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150_0 : Ref sig .tc := ⟨.hbm, 192, rfl⟩
abbrev main_v150_1 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg14_1 : Ref sig .tc := ⟨.vmem, 36, rfl⟩
abbrev cc1_stg15_0 : Ref sig .tc := ⟨.vmem, 37, rfl⟩
abbrev cc1_stg15_1 : Ref sig .tc := ⟨.vmem, 38, rfl⟩
abbrev cc1_stg16_0 : Ref sig .tc := ⟨.vmem, 39, rfl⟩
abbrev cc1_stg16_1 : Ref sig .tc := ⟨.vmem, 40, rfl⟩
abbrev cc1_stg17_0 : Ref sig .tc := ⟨.vmem, 41, rfl⟩
abbrev cc1_stg17_1 : Ref sig .tc := ⟨.vmem, 42, rfl⟩
abbrev cc1_stg18_0 : Ref sig .tc := ⟨.vmem, 43, rfl⟩
abbrev cc1_stg18_1 : Ref sig .tc := ⟨.vmem, 44, rfl⟩
abbrev cc2_stg0_0 : Ref sig .tc := ⟨.vmem, 45, rfl⟩
abbrev cc2_stg0_1 : Ref sig .tc := ⟨.vmem, 46, rfl⟩
abbrev cc2_stg1_0 : Ref sig .tc := ⟨.vmem, 47, rfl⟩
abbrev cc2_stg1_1 : Ref sig .tc := ⟨.vmem, 48, rfl⟩
abbrev cc2_stg2_0 : Ref sig .tc := ⟨.vmem, 49, rfl⟩
abbrev cc2_stg2_1 : Ref sig .tc := ⟨.vmem, 50, rfl⟩
abbrev cc2_stg3_0 : Ref sig .tc := ⟨.vmem, 51, rfl⟩
abbrev cc2_stg3_1 : Ref sig .tc := ⟨.vmem, 52, rfl⟩
abbrev cc2_stg4_0 : Ref sig .tc := ⟨.vmem, 53, rfl⟩
abbrev cc2_stg5_0 : Ref sig .tc := ⟨.vmem, 54, rfl⟩
abbrev cc2_stg6_0 : Ref sig .tc := ⟨.vmem, 55, rfl⟩
abbrev cc2_stg7_0 : Ref sig .tc := ⟨.vmem, 56, rfl⟩
abbrev cc2_stg8_0 : Ref sig .tc := ⟨.vmem, 57, rfl⟩
abbrev cc2_stg9_0 : Ref sig .tc := ⟨.vmem, 58, rfl⟩
abbrev cc2_stg10_0 : Ref sig .tc := ⟨.vmem, 59, rfl⟩
abbrev cc2_stg11_0 : Ref sig .tc := ⟨.vmem, 60, rfl⟩
abbrev cc2_stg12_0 : Ref sig .tc := ⟨.vmem, 61, rfl⟩
abbrev cc2_stg13_0 : Ref sig .tc := ⟨.vmem, 62, rfl⟩
abbrev cc2_stg14_0 : Ref sig .tc := ⟨.vmem, 63, rfl⟩
abbrev cc2_stg15_0 : Ref sig .tc := ⟨.vmem, 64, rfl⟩
abbrev cc2_stg15_1 : Ref sig .tc := ⟨.vmem, 65, rfl⟩
abbrev cc2_stg16_0 : Ref sig .tc := ⟨.vmem, 66, rfl⟩
abbrev cc2_stg16_1 : Ref sig .tc := ⟨.vmem, 67, rfl⟩
abbrev cc2_stg17_0 : Ref sig .tc := ⟨.vmem, 68, rfl⟩
abbrev cc2_stg17_1 : Ref sig .tc := ⟨.vmem, 69, rfl⟩
abbrev cc2_stg18_0 : Ref sig .tc := ⟨.vmem, 70, rfl⟩
abbrev cc2_stg18_1 : Ref sig .tc := ⟨.vmem, 71, rfl⟩
abbrev cc2_stg19_0 : Ref sig .tc := ⟨.vmem, 72, rfl⟩
abbrev cc2_stg19_1 : Ref sig .tc := ⟨.vmem, 73, rfl⟩
abbrev cc3_stg0_0 : Ref sig .tc := ⟨.vmem, 74, rfl⟩
abbrev cc3_stg0_1 : Ref sig .tc := ⟨.vmem, 75, rfl⟩
abbrev cc3_stg1_0 : Ref sig .tc := ⟨.vmem, 76, rfl⟩
abbrev cc3_stg2_0 : Ref sig .tc := ⟨.vmem, 77, rfl⟩
abbrev cc3_stg2_1 : Ref sig .tc := ⟨.vmem, 78, rfl⟩
abbrev cc4_stg0_0 : Ref sig .tc := ⟨.vmem, 79, rfl⟩
abbrev cc4_stg0_1 : Ref sig .tc := ⟨.vmem, 80, rfl⟩
abbrev cc4_stg1_0 : Ref sig .tc := ⟨.vmem, 81, rfl⟩
abbrev cc4_stg1_1 : Ref sig .tc := ⟨.vmem, 82, rfl⟩
abbrev cc4_stg2_0 : Ref sig .tc := ⟨.vmem, 83, rfl⟩
abbrev cc4_stg2_1 : Ref sig .tc := ⟨.vmem, 84, rfl⟩
abbrev cc4_stg3_0 : Ref sig .tc := ⟨.vmem, 85, rfl⟩
abbrev cc4_stg3_1 : Ref sig .tc := ⟨.vmem, 86, rfl⟩
abbrev cc4_stg4_0 : Ref sig .tc := ⟨.vmem, 87, rfl⟩
abbrev cc4_stg5_0 : Ref sig .tc := ⟨.vmem, 88, rfl⟩
abbrev cc4_stg6_0 : Ref sig .tc := ⟨.vmem, 89, rfl⟩
abbrev cc4_stg7_0 : Ref sig .tc := ⟨.vmem, 90, rfl⟩
abbrev cc4_stg8_0 : Ref sig .tc := ⟨.vmem, 91, rfl⟩
abbrev cc4_stg9_0 : Ref sig .tc := ⟨.vmem, 92, rfl⟩
abbrev cc4_stg10_0 : Ref sig .tc := ⟨.vmem, 93, rfl⟩
abbrev cc4_stg11_0 : Ref sig .tc := ⟨.vmem, 94, rfl⟩
abbrev cc4_stg11_1 : Ref sig .tc := ⟨.vmem, 95, rfl⟩
abbrev cc4_stg12_0 : Ref sig .tc := ⟨.vmem, 96, rfl⟩
abbrev cc4_stg12_1 : Ref sig .tc := ⟨.vmem, 97, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem14_1 : DmaSem sig := 36
abbrev cc1_sem15_0 : DmaSem sig := 37
abbrev cc1_sem15_1 : DmaSem sig := 38
abbrev cc1_sem16_0 : DmaSem sig := 39
abbrev cc1_sem16_1 : DmaSem sig := 40
abbrev cc1_sem17_0 : DmaSem sig := 41
abbrev cc1_sem17_1 : DmaSem sig := 42
abbrev cc1_sem18_0 : DmaSem sig := 43
abbrev cc1_sem18_1 : DmaSem sig := 44
abbrev cc2_sem0_0 : DmaSem sig := 45
abbrev cc2_sem0_1 : DmaSem sig := 46
abbrev cc2_sem1_0 : DmaSem sig := 47
abbrev cc2_sem1_1 : DmaSem sig := 48
abbrev cc2_sem2_0 : DmaSem sig := 49
abbrev cc2_sem2_1 : DmaSem sig := 50
abbrev cc2_sem3_0 : DmaSem sig := 51
abbrev cc2_sem3_1 : DmaSem sig := 52
abbrev cc2_sem4_0 : DmaSem sig := 53
abbrev cc2_sem5_0 : DmaSem sig := 54
abbrev cc2_sem6_0 : DmaSem sig := 55
abbrev cc2_sem7_0 : DmaSem sig := 56
abbrev cc2_sem8_0 : DmaSem sig := 57
abbrev cc2_sem9_0 : DmaSem sig := 58
abbrev cc2_sem10_0 : DmaSem sig := 59
abbrev cc2_sem11_0 : DmaSem sig := 60
abbrev cc2_sem12_0 : DmaSem sig := 61
abbrev cc2_sem13_0 : DmaSem sig := 62
abbrev cc2_sem14_0 : DmaSem sig := 63
abbrev cc2_sem15_0 : DmaSem sig := 64
abbrev cc2_sem15_1 : DmaSem sig := 65
abbrev cc2_sem16_0 : DmaSem sig := 66
abbrev cc2_sem16_1 : DmaSem sig := 67
abbrev cc2_sem17_0 : DmaSem sig := 68
abbrev cc2_sem17_1 : DmaSem sig := 69
abbrev cc2_sem18_0 : DmaSem sig := 70
abbrev cc2_sem18_1 : DmaSem sig := 71
abbrev cc2_sem19_0 : DmaSem sig := 72
abbrev cc2_sem19_1 : DmaSem sig := 73
abbrev cc3_sem0_0 : DmaSem sig := 74
abbrev cc3_sem0_1 : DmaSem sig := 75
abbrev cc3_sem1_0 : DmaSem sig := 76
abbrev cc3_sem2_0 : DmaSem sig := 77
abbrev cc3_sem2_1 : DmaSem sig := 78
abbrev cc4_sem0_0 : DmaSem sig := 79
abbrev cc4_sem0_1 : DmaSem sig := 80
abbrev cc4_sem1_0 : DmaSem sig := 81
abbrev cc4_sem1_1 : DmaSem sig := 82
abbrev cc4_sem2_0 : DmaSem sig := 83
abbrev cc4_sem2_1 : DmaSem sig := 84
abbrev cc4_sem3_0 : DmaSem sig := 85
abbrev cc4_sem3_1 : DmaSem sig := 86
abbrev cc4_sem4_0 : DmaSem sig := 87
abbrev cc4_sem5_0 : DmaSem sig := 88
abbrev cc4_sem6_0 : DmaSem sig := 89
abbrev cc4_sem7_0 : DmaSem sig := 90
abbrev cc4_sem8_0 : DmaSem sig := 91
abbrev cc4_sem9_0 : DmaSem sig := 92
abbrev cc4_sem10_0 : DmaSem sig := 93
abbrev cc4_sem11_0 : DmaSem sig := 94
abbrev cc4_sem11_1 : DmaSem sig := 95
abbrev cc4_sem12_0 : DmaSem sig := 96
abbrev cc4_sem12_1 : DmaSem sig := 97

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 1], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc1_transform_15 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc1_transform_16 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc1_transform_17 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc1_transform_18 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

abbrev stage1_0 : Fin 2 → Memref sig .tc .vmem S1x256x1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1x2x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S32x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S2x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S2x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S1x128x1x2x1x2048 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x1x1x2x1x2048 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x2x1x2x1x2048 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x1x1x2x1x2048 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x1x1x2x1x2048 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev grid2 : Pipeline.Grid := ⟨2, ![4, 2], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_1 (i : grid2.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  let c0_i32_7 : BitVec 32 := 0#32
  ![arg0.toNat, c0_i32_4.toNat, v10.toNat, c0_i32_5.toNat, c0_i32_6.toNat]

def cc2_transform_2 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_3 (i : grid2.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc2_transform_16 (i : grid2.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc2_transform_17 (i : grid2.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc2_transform_18 (i : grid2.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc2_transform_19 (i : grid2.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

abbrev stage2_0 : Fin 2 → Memref sig .tc .vmem S1x128x1x1x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x1x1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x64x1x2x1x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S32x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S32x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S2x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S2x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 2 → Memref sig .tc .vmem S1x64x1x2x1x4096 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]

abbrev stage2_16 : Fin 2 → Memref sig .tc .vmem S1x1x1x2x1x4096 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]

abbrev stage2_17 : Fin 2 → Memref sig .tc .vmem S1x2x1x2x1x4096 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true, true]

abbrev stage2_18 : Fin 2 → Memref sig .tc .vmem S1x1x1x2x1x4096 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true, true]

abbrev stage2_19 : Fin 2 → Memref sig .tc .vmem S1x1x1x2x1x4096 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true, true]

abbrev grid3 : Pipeline.Grid := ⟨2, ![4, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x32x32x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S32x1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1x32x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 4], ![false, false]⟩

def cc4_transform_0 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc4_transform_1 (i : grid4.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  let c0_i32_7 : BitVec 32 := 0#32
  ![arg0.toNat, c0_i32_4.toNat, v10.toNat, c0_i32_5.toNat, c0_i32_6.toNat]

def cc4_transform_2 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc4_transform_3 (i : grid4.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc4_transform_12 (i : grid4.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

abbrev stage4_0 : Fin 2 → Memref sig .tc .vmem S1x64x1x1x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x64x1x1x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x1x1x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1x1x2x1x8192 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S32x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S32x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 1 → Memref sig .tc .vmem S1x32 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false, false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev stage4_11 : Fin 2 → Memref sig .tc .vmem S1x1x1x2x1x8192 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, true]

abbrev stage4_12 : Fin 2 → Memref sig .tc .vmem S1x1x1x2x1x8192 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true, true]
-- ==== ReferenceIdeal.lean ====
abbrev S4x256x32x32 : Shape := ⟨4, ![4, 256, 32, 32]⟩
abbrev S4x1x32x32 : Shape := ⟨4, ![4, 1, 32, 32]⟩
abbrev S4x128x64x64 : Shape := ⟨4, ![4, 128, 64, 64]⟩
abbrev S4x64x128x128 : Shape := ⟨4, ![4, 64, 128, 128]⟩
abbrev S4x32x256x256 : Shape := ⟨4, ![4, 32, 256, 256]⟩
abbrev S3x3x256x128 : Shape := ⟨4, ![3, 3, 256, 128]⟩
abbrev S128 : Shape := ⟨1, ![128]⟩
abbrev S3x3x128x64 : Shape := ⟨4, ![3, 3, 128, 64]⟩
abbrev S64 : Shape := ⟨1, ![64]⟩
abbrev S3x3x64x32 : Shape := ⟨4, ![3, 3, 64, 32]⟩
abbrev S32 : Shape := ⟨1, ![32]⟩
abbrev S256x1 : Shape := ⟨2, ![256, 1]⟩
abbrev S1 : Shape := ⟨1, ![1]⟩
abbrev S128x1 : Shape := ⟨2, ![128, 1]⟩
abbrev S64x1 : Shape := ⟨2, ![64, 1]⟩
abbrev S32x1 : Shape := ⟨2, ![32, 1]⟩
abbrev S256x32 : Shape := ⟨2, ![256, 32]⟩
abbrev S32x2 : Shape := ⟨2, ![32, 2]⟩
abbrev S2 : Shape := ⟨1, ![2]⟩
abbrev S128x32 : Shape := ⟨2, ![128, 32]⟩
abbrev S64x32 : Shape := ⟨2, ![64, 32]⟩
abbrev S4x256x1024 : Shape := ⟨3, ![4, 256, 1024]⟩
abbrev S4x1x1024 : Shape := ⟨3, ![4, 1, 1024]⟩
abbrev S32x4x1024 : Shape := ⟨3, ![32, 4, 1024]⟩
abbrev S4x32x1024 : Shape := ⟨3, ![4, 32, 1024]⟩
abbrev S1x32x1 : Shape := ⟨3, ![1, 32, 1]⟩
abbrev S_ : Shape := ⟨0, ![]⟩
abbrev S2x4x1024 : Shape := ⟨3, ![2, 4, 1024]⟩
abbrev S4x2x1024 : Shape := ⟨3, ![4, 2, 1024]⟩
abbrev S1x2x1 : Shape := ⟨3, ![1, 2, 1]⟩
abbrev S4x1024 : Shape := ⟨2, ![4, 1024]⟩
abbrev S1x4x1024 : Shape := ⟨3, ![1, 4, 1024]⟩
abbrev S1x1x1 : Shape := ⟨3, ![1, 1, 1]⟩
abbrev S4x1x32x2x32 : Shape := ⟨5, ![4, 1, 32, 2, 32]⟩
abbrev S4x1x64x32 : Shape := ⟨4, ![4, 1, 64, 32]⟩
abbrev S4x1x64x32x2 : Shape := ⟨5, ![4, 1, 64, 32, 2]⟩
abbrev S4x1x64x64 : Shape := ⟨4, ![4, 1, 64, 64]⟩
abbrev S4x1x4096 : Shape := ⟨3, ![4, 1, 4096]⟩
abbrev S4x256x66x66 : Shape := ⟨4, ![4, 256, 66, 66]⟩
abbrev S4x256x64x64 : Shape := ⟨4, ![4, 256, 64, 64]⟩
abbrev S4x256x4096 : Shape := ⟨3, ![4, 256, 4096]⟩
abbrev S1x1x256x128 : Shape := ⟨4, ![1, 1, 256, 128]⟩
abbrev S256x128 : Shape := ⟨2, ![256, 128]⟩
abbrev S128x4x4096 : Shape := ⟨3, ![128, 4, 4096]⟩
abbrev S4x128x4096 : Shape := ⟨3, ![4, 128, 4096]⟩
abbrev S1x128x1 : Shape := ⟨3, ![1, 128, 1]⟩
abbrev S32x4x4096 : Shape := ⟨3, ![32, 4, 4096]⟩
abbrev S4x32x4096 : Shape := ⟨3, ![4, 32, 4096]⟩
abbrev S2x4x4096 : Shape := ⟨3, ![2, 4, 4096]⟩
abbrev S4x2x4096 : Shape := ⟨3, ![4, 2, 4096]⟩
abbrev S4x4096 : Shape := ⟨2, ![4, 4096]⟩
abbrev S1x4x4096 : Shape := ⟨3, ![1, 4, 4096]⟩
abbrev S4x1x64x2x64 : Shape := ⟨5, ![4, 1, 64, 2, 64]⟩
abbrev S4x1x128x64 : Shape := ⟨4, ![4, 1, 128, 64]⟩
abbrev S4x1x128x64x2 : Shape := ⟨5, ![4, 1, 128, 64, 2]⟩
abbrev S4x1x128x128 : Shape := ⟨4, ![4, 1, 128, 128]⟩
abbrev S4x1x16384 : Shape := ⟨3, ![4, 1, 16384]⟩
abbrev S4x128x130x130 : Shape := ⟨4, ![4, 128, 130, 130]⟩
abbrev S4x128x128x128 : Shape := ⟨4, ![4, 128, 128, 128]⟩
abbrev S4x128x16384 : Shape := ⟨3, ![4, 128, 16384]⟩
abbrev S1x1x128x64 : Shape := ⟨4, ![1, 1, 128, 64]⟩
abbrev S128x64 : Shape := ⟨2, ![128, 64]⟩
abbrev S64x4x16384 : Shape := ⟨3, ![64, 4, 16384]⟩
abbrev S4x64x16384 : Shape := ⟨3, ![4, 64, 16384]⟩
abbrev S1x64x1 : Shape := ⟨3, ![1, 64, 1]⟩
abbrev S32x4x16384 : Shape := ⟨3, ![32, 4, 16384]⟩
abbrev S4x32x16384 : Shape := ⟨3, ![4, 32, 16384]⟩
abbrev S2x4x16384 : Shape := ⟨3, ![2, 4, 16384]⟩
abbrev S4x2x16384 : Shape := ⟨3, ![4, 2, 16384]⟩
abbrev S4x16384 : Shape := ⟨2, ![4, 16384]⟩
abbrev S1x4x16384 : Shape := ⟨3, ![1, 4, 16384]⟩
abbrev S4x1x128x2x128 : Shape := ⟨5, ![4, 1, 128, 2, 128]⟩
abbrev S4x1x256x128 : Shape := ⟨4, ![4, 1, 256, 128]⟩
abbrev S4x1x256x128x2 : Shape := ⟨5, ![4, 1, 256, 128, 2]⟩
abbrev S4x1x256x256 : Shape := ⟨4, ![4, 1, 256, 256]⟩
abbrev S4x1x65536 : Shape := ⟨3, ![4, 1, 65536]⟩
abbrev S4x64x258x258 : Shape := ⟨4, ![4, 64, 258, 258]⟩
abbrev S4x64x256x256 : Shape := ⟨4, ![4, 64, 256, 256]⟩
abbrev S4x64x65536 : Shape := ⟨3, ![4, 64, 65536]⟩
abbrev S1x1x64x32 : Shape := ⟨4, ![1, 1, 64, 32]⟩
abbrev S32x4x65536 : Shape := ⟨3, ![32, 4, 65536]⟩
abbrev S4x32x65536 : Shape := ⟨3, ![4, 32, 65536]⟩
abbrev S1x4x65536 : Shape := ⟨3, ![1, 4, 65536]⟩
abbrev S4x2x32x32 : Shape := ⟨4, ![4, 2, 32, 32]⟩
abbrev S4x2x64x64 : Shape := ⟨4, ![4, 2, 64, 64]⟩
abbrev S4x2x128x128 : Shape := ⟨4, ![4, 2, 128, 128]⟩

abbrev nBuf : Space → Nat
  | .hbm => 509
  | .vmem => 0
  | .smem => 0
  | _ => 0

abbrev hbmTy0_0 (i : Nat) : BufTy := match i % 128 with
  | 0 => ⟨S4x256x32x32, .f32⟩
  | 1 => ⟨S4x1x32x32, .f32⟩
  | 2 => ⟨S4x128x64x64, .f32⟩
  | 3 => ⟨S4x64x128x128, .f32⟩
  | 4 => ⟨S4x32x256x256, .f32⟩
  | 5 => ⟨S3x3x256x128, .f32⟩
  | 6 => ⟨S128, .f32⟩
  | 7 => ⟨S3x3x128x64, .f32⟩
  | 8 => ⟨S64, .f32⟩
  | 9 => ⟨S3x3x64x32, .f32⟩
  | 10 => ⟨S32, .f32⟩
  | 11 => ⟨S256x1, .f32⟩
  | 12 => ⟨S1, .f32⟩
  | 13 => ⟨S128x1, .f32⟩
  | 14 => ⟨S1, .f32⟩
  | 15 => ⟨S64x1, .f32⟩
  | 16 => ⟨S1, .f32⟩
  | 17 => ⟨S32x1, .f32⟩
  | 18 => ⟨S1, .f32⟩
  | 19 => ⟨S256x32, .f32⟩
  | 20 => ⟨S32, .f32⟩
  | 21 => ⟨S32x2, .f32⟩
  | 22 => ⟨S2, .f32⟩
  | 23 => ⟨S128x32, .f32⟩
  | 24 => ⟨S32, .f32⟩
  | 25 => ⟨S32x2, .f32⟩
  | 26 => ⟨S2, .f32⟩
  | 27 => ⟨S64x32, .f32⟩
  | 28 => ⟨S32, .f32⟩
  | 29 => ⟨S32x2, .f32⟩
  | 30 => ⟨S2, .f32⟩
  | 31 => ⟨S4x256x1024, .f32⟩
  | 32 => ⟨S4x1x1024, .f32⟩
  | 33 => ⟨S32x4x1024, .f32⟩
  | 34 => ⟨S4x32x1024, .f32⟩
  | 35 => ⟨S1x32x1, .f32⟩
  | 36 => ⟨S4x32x1024, .f32⟩
  | 37 => ⟨S4x32x1024, .f32⟩
  | 38 => ⟨S_, .f32⟩
  | 39 => ⟨S4x32x1024, .f32⟩
  | 40 => ⟨S4x32x1024, .f32⟩
  | 41 => ⟨S4x32x1024, .f32⟩
  | 42 => ⟨S4x32x1024, .f32⟩
  | 43 => ⟨S2x4x1024, .f32⟩
  | 44 => ⟨S4x2x1024, .f32⟩
  | 45 => ⟨S1x2x1, .f32⟩
  | 46 => ⟨S4x2x1024, .f32⟩
  | 47 => ⟨S4x2x1024, .f32⟩
  | 48 => ⟨S4x2x1024, .f32⟩
  | 49 => ⟨S4x2x1024, .f32⟩
  | 50 => ⟨S_, .f32⟩
  | 51 => ⟨S4x1024, .f32⟩
  | 52 => ⟨S_, .f32⟩
  | 53 => ⟨S4x1024, .f32⟩
  | 54 => ⟨S4x1024, .f32⟩
  | 55 => ⟨S4x1x1024, .f32⟩
  | 56 => ⟨S4x2x1024, .f32⟩
  | 57 => ⟨S4x2x1024, .f32⟩
  | 58 => ⟨S4x2x1024, .f32⟩
  | 59 => ⟨S_, .f32⟩
  | 60 => ⟨S4x1024, .f32⟩
  | 61 => ⟨S4x1x1024, .f32⟩
  | 62 => ⟨S4x2x1024, .f32⟩
  | 63 => ⟨S4x2x1024, .f32⟩
  | 64 => ⟨S4x1x1024, .f32⟩
  | 65 => ⟨S_, .f32⟩
  | 66 => ⟨S4x1x1024, .f32⟩
  | 67 => ⟨S4x1x1024, .i1⟩
  | 68 => ⟨S4x1x1024, .f32⟩
  | 69 => ⟨S4x1x1024, .f32⟩
  | 70 => ⟨S1x4x1024, .f32⟩
  | 71 => ⟨S4x1x1024, .f32⟩
  | 72 => ⟨S1x1x1, .f32⟩
  | 73 => ⟨S4x1x1024, .f32⟩
  | 74 => ⟨S4x1x1024, .f32⟩
  | 75 => ⟨S4x1x1024, .f32⟩
  | 76 => ⟨S4x1x1024, .f32⟩
  | 77 => ⟨S_, .f32⟩
  | 78 => ⟨S4x1x1024, .f32⟩
  | 79 => ⟨S4x1x1024, .f32⟩
  | 80 => ⟨S_, .f32⟩
  | 81 => ⟨S4x1x1024, .f32⟩
  | 82 => ⟨S4x1x1024, .f32⟩
  | 83 => ⟨S4x1x1024, .f32⟩
  | 84 => ⟨S4x1x1024, .f32⟩
  | 85 => ⟨S_, .f32⟩
  | 86 => ⟨S4x1x1024, .f32⟩
  | 87 => ⟨S4x1x1024, .f32⟩
  | 88 => ⟨S4x1x32x32, .f32⟩
  | 89 => ⟨S4x1x32x2x32, .f32⟩
  | 90 => ⟨S4x1x64x32, .f32⟩
  | 91 => ⟨S4x1x64x32x2, .f32⟩
  | 92 => ⟨S4x1x64x64, .f32⟩
  | 93 => ⟨S4x1x4096, .f32⟩
  | 94 => ⟨S4x256x32x32, .f32⟩
  | 95 => ⟨S_, .f32⟩
  | 96 => ⟨S4x256x66x66, .f32⟩
  | 97 => ⟨S4x256x64x64, .f32⟩
  | 98 => ⟨S4x256x4096, .f32⟩
  | 99 => ⟨S1x1x256x128, .f32⟩
  | 100 => ⟨S256x128, .f32⟩
  | 101 => ⟨S128x4x4096, .f32⟩
  | 102 => ⟨S4x128x4096, .f32⟩
  | 103 => ⟨S_, .f32⟩
  | 104 => ⟨S4x128x4096, .f32⟩
  | 105 => ⟨S4x128x4096, .f32⟩
  | 106 => ⟨S4x256x64x64, .f32⟩
  | 107 => ⟨S4x256x4096, .f32⟩
  | 108 => ⟨S1x1x256x128, .f32⟩
  | 109 => ⟨S256x128, .f32⟩
  | 110 => ⟨S128x4x4096, .f32⟩
  | 111 => ⟨S4x128x4096, .f32⟩
  | 112 => ⟨S4x128x4096, .f32⟩
  | 113 => ⟨S4x256x64x64, .f32⟩
  | 114 => ⟨S4x256x4096, .f32⟩
  | 115 => ⟨S1x1x256x128, .f32⟩
  | 116 => ⟨S256x128, .f32⟩
  | 117 => ⟨S128x4x4096, .f32⟩
  | 118 => ⟨S4x128x4096, .f32⟩
  | 119 => ⟨S4x128x4096, .f32⟩
  | 120 => ⟨S4x256x64x64, .f32⟩
  | 121 => ⟨S4x256x4096, .f32⟩
  | 122 => ⟨S1x1x256x128, .f32⟩
  | 123 => ⟨S256x128, .f32⟩
  | 124 => ⟨S128x4x4096, .f32⟩
  | 125 => ⟨S4x128x4096, .f32⟩
  | 126 => ⟨S4x128x4096, .f32⟩
  | 127 => ⟨S4x256x64x64, .f32⟩
  | _ => ⟨S4x256x32x32, .f32⟩

abbrev hbmTy0_1 (i : Nat) : BufTy := match i % 128 with
  | 0 => ⟨S4x256x4096, .f32⟩
  | 1 => ⟨S1x1x256x128, .f32⟩
  | 2 => ⟨S256x128, .f32⟩
  | 3 => ⟨S128x4x4096, .f32⟩
  | 4 => ⟨S4x128x4096, .f32⟩
  | 5 => ⟨S4x128x4096, .f32⟩
  | 6 => ⟨S4x256x64x64, .f32⟩
  | 7 => ⟨S4x256x4096, .f32⟩
  | 8 => ⟨S1x1x256x128, .f32⟩
  | 9 => ⟨S256x128, .f32⟩
  | 10 => ⟨S128x4x4096, .f32⟩
  | 11 => ⟨S4x128x4096, .f32⟩
  | 12 => ⟨S4x128x4096, .f32⟩
  | 13 => ⟨S4x256x64x64, .f32⟩
  | 14 => ⟨S4x256x4096, .f32⟩
  | 15 => ⟨S1x1x256x128, .f32⟩
  | 16 => ⟨S256x128, .f32⟩
  | 17 => ⟨S128x4x4096, .f32⟩
  | 18 => ⟨S4x128x4096, .f32⟩
  | 19 => ⟨S4x128x4096, .f32⟩
  | 20 => ⟨S4x256x64x64, .f32⟩
  | 21 => ⟨S4x256x4096, .f32⟩
  | 22 => ⟨S1x1x256x128, .f32⟩
  | 23 => ⟨S256x128, .f32⟩
  | 24 => ⟨S128x4x4096, .f32⟩
  | 25 => ⟨S4x128x4096, .f32⟩
  | 26 => ⟨S4x128x4096, .f32⟩
  | 27 => ⟨S4x256x64x64, .f32⟩
  | 28 => ⟨S4x256x4096, .f32⟩
  | 29 => ⟨S1x1x256x128, .f32⟩
  | 30 => ⟨S256x128, .f32⟩
  | 31 => ⟨S128x4x4096, .f32⟩
  | 32 => ⟨S4x128x4096, .f32⟩
  | 33 => ⟨S4x128x4096, .f32⟩
  | 34 => ⟨S1x128x1, .f32⟩
  | 35 => ⟨S4x128x4096, .f32⟩
  | 36 => ⟨S4x128x4096, .f32⟩
  | 37 => ⟨S_, .f32⟩
  | 38 => ⟨S_, .f32⟩
  | 39 => ⟨S4x128x4096, .f32⟩
  | 40 => ⟨S4x128x4096, .i1⟩
  | 41 => ⟨S_, .f32⟩
  | 42 => ⟨S4x128x4096, .f32⟩
  | 43 => ⟨S4x128x4096, .f32⟩
  | 44 => ⟨S4x128x4096, .f32⟩
  | 45 => ⟨S4x128x4096, .f32⟩
  | 46 => ⟨S4x128x4096, .f32⟩
  | 47 => ⟨S4x128x4096, .f32⟩
  | 48 => ⟨S4x128x4096, .f32⟩
  | 49 => ⟨S4x128x4096, .f32⟩
  | 50 => ⟨S4x128x4096, .f32⟩
  | 51 => ⟨S_, .f32⟩
  | 52 => ⟨S4x128x4096, .f32⟩
  | 53 => ⟨S4x128x4096, .f32⟩
  | 54 => ⟨S32x4x4096, .f32⟩
  | 55 => ⟨S4x32x4096, .f32⟩
  | 56 => ⟨S1x32x1, .f32⟩
  | 57 => ⟨S4x32x4096, .f32⟩
  | 58 => ⟨S4x32x4096, .f32⟩
  | 59 => ⟨S_, .f32⟩
  | 60 => ⟨S4x32x4096, .f32⟩
  | 61 => ⟨S4x32x4096, .f32⟩
  | 62 => ⟨S4x32x4096, .f32⟩
  | 63 => ⟨S4x32x4096, .f32⟩
  | 64 => ⟨S2x4x4096, .f32⟩
  | 65 => ⟨S4x2x4096, .f32⟩
  | 66 => ⟨S1x2x1, .f32⟩
  | 67 => ⟨S4x2x4096, .f32⟩
  | 68 => ⟨S4x2x4096, .f32⟩
  | 69 => ⟨S4x2x4096, .f32⟩
  | 70 => ⟨S4x2x4096, .f32⟩
  | 71 => ⟨S_, .f32⟩
  | 72 => ⟨S4x4096, .f32⟩
  | 73 => ⟨S_, .f32⟩
  | 74 => ⟨S4x4096, .f32⟩
  | 75 => ⟨S4x4096, .f32⟩
  | 76 => ⟨S4x1x4096, .f32⟩
  | 77 => ⟨S4x2x4096, .f32⟩
  | 78 => ⟨S4x2x4096, .f32⟩
  | 79 => ⟨S4x2x4096, .f32⟩
  | 80 => ⟨S_, .f32⟩
  | 81 => ⟨S4x4096, .f32⟩
  | 82 => ⟨S4x1x4096, .f32⟩
  | 83 => ⟨S4x2x4096, .f32⟩
  | 84 => ⟨S4x2x4096, .f32⟩
  | 85 => ⟨S4x1x4096, .f32⟩
  | 86 => ⟨S_, .f32⟩
  | 87 => ⟨S4x1x4096, .f32⟩
  | 88 => ⟨S4x1x4096, .i1⟩
  | 89 => ⟨S4x1x4096, .f32⟩
  | 90 => ⟨S4x1x4096, .f32⟩
  | 91 => ⟨S1x4x4096, .f32⟩
  | 92 => ⟨S4x1x4096, .f32⟩
  | 93 => ⟨S1x1x1, .f32⟩
  | 94 => ⟨S4x1x4096, .f32⟩
  | 95 => ⟨S4x1x4096, .f32⟩
  | 96 => ⟨S4x1x4096, .f32⟩
  | 97 => ⟨S4x1x4096, .f32⟩
  | 98 => ⟨S_, .f32⟩
  | 99 => ⟨S4x1x4096, .f32⟩
  | 100 => ⟨S4x1x4096, .f32⟩
  | 101 => ⟨S_, .f32⟩
  | 102 => ⟨S4x1x4096, .f32⟩
  | 103 => ⟨S4x1x4096, .f32⟩
  | 104 => ⟨S4x1x4096, .f32⟩
  | 105 => ⟨S4x1x4096, .f32⟩
  | 106 => ⟨S_, .f32⟩
  | 107 => ⟨S4x1x4096, .f32⟩
  | 108 => ⟨S4x1x4096, .f32⟩
  | 109 => ⟨S4x1x64x64, .f32⟩
  | 110 => ⟨S4x1x64x2x64, .f32⟩
  | 111 => ⟨S4x1x128x64, .f32⟩
  | 112 => ⟨S4x1x128x64x2, .f32⟩
  | 113 => ⟨S4x1x128x128, .f32⟩
  | 114 => ⟨S4x1x16384, .f32⟩
  | 115 => ⟨S4x128x64x64, .f32⟩
  | 116 => ⟨S_, .f32⟩
  | 117 => ⟨S4x128x130x130, .f32⟩
  | 118 => ⟨S4x128x128x128, .f32⟩
  | 119 => ⟨S4x128x16384, .f32⟩
  | 120 => ⟨S1x1x128x64, .f32⟩
  | 121 => ⟨S128x64, .f32⟩
  | 122 => ⟨S64x4x16384, .f32⟩
  | 123 => ⟨S4x64x16384, .f32⟩
  | 124 => ⟨S_, .f32⟩
  | 125 => ⟨S4x64x16384, .f32⟩
  | 126 => ⟨S4x64x16384, .f32⟩
  | 127 => ⟨S4x128x128x128, .f32⟩
  | _ => ⟨S4x256x32x32, .f32⟩

abbrev hbmTy0_2 (i : Nat) : BufTy := match i % 128 with
  | 0 => ⟨S4x128x16384, .f32⟩
  | 1 => ⟨S1x1x128x64, .f32⟩
  | 2 => ⟨S128x64, .f32⟩
  | 3 => ⟨S64x4x16384, .f32⟩
  | 4 => ⟨S4x64x16384, .f32⟩
  | 5 => ⟨S4x64x16384, .f32⟩
  | 6 => ⟨S4x128x128x128, .f32⟩
  | 7 => ⟨S4x128x16384, .f32⟩
  | 8 => ⟨S1x1x128x64, .f32⟩
  | 9 => ⟨S128x64, .f32⟩
  | 10 => ⟨S64x4x16384, .f32⟩
  | 11 => ⟨S4x64x16384, .f32⟩
  | 12 => ⟨S4x64x16384, .f32⟩
  | 13 => ⟨S4x128x128x128, .f32⟩
  | 14 => ⟨S4x128x16384, .f32⟩
  | 15 => ⟨S1x1x128x64, .f32⟩
  | 16 => ⟨S128x64, .f32⟩
  | 17 => ⟨S64x4x16384, .f32⟩
  | 18 => ⟨S4x64x16384, .f32⟩
  | 19 => ⟨S4x64x16384, .f32⟩
  | 20 => ⟨S4x128x128x128, .f32⟩
  | 21 => ⟨S4x128x16384, .f32⟩
  | 22 => ⟨S1x1x128x64, .f32⟩
  | 23 => ⟨S128x64, .f32⟩
  | 24 => ⟨S64x4x16384, .f32⟩
  | 25 => ⟨S4x64x16384, .f32⟩
  | 26 => ⟨S4x64x16384, .f32⟩
  | 27 => ⟨S4x128x128x128, .f32⟩
  | 28 => ⟨S4x128x16384, .f32⟩
  | 29 => ⟨S1x1x128x64, .f32⟩
  | 30 => ⟨S128x64, .f32⟩
  | 31 => ⟨S64x4x16384, .f32⟩
  | 32 => ⟨S4x64x16384, .f32⟩
  | 33 => ⟨S4x64x16384, .f32⟩
  | 34 => ⟨S4x128x128x128, .f32⟩
  | 35 => ⟨S4x128x16384, .f32⟩
  | 36 => ⟨S1x1x128x64, .f32⟩
  | 37 => ⟨S128x64, .f32⟩
  | 38 => ⟨S64x4x16384, .f32⟩
  | 39 => ⟨S4x64x16384, .f32⟩
  | 40 => ⟨S4x64x16384, .f32⟩
  | 41 => ⟨S4x128x128x128, .f32⟩
  | 42 => ⟨S4x128x16384, .f32⟩
  | 43 => ⟨S1x1x128x64, .f32⟩
  | 44 => ⟨S128x64, .f32⟩
  | 45 => ⟨S64x4x16384, .f32⟩
  | 46 => ⟨S4x64x16384, .f32⟩
  | 47 => ⟨S4x64x16384, .f32⟩
  | 48 => ⟨S4x128x128x128, .f32⟩
  | 49 => ⟨S4x128x16384, .f32⟩
  | 50 => ⟨S1x1x128x64, .f32⟩
  | 51 => ⟨S128x64, .f32⟩
  | 52 => ⟨S64x4x16384, .f32⟩
  | 53 => ⟨S4x64x16384, .f32⟩
  | 54 => ⟨S4x64x16384, .f32⟩
  | 55 => ⟨S1x64x1, .f32⟩
  | 56 => ⟨S4x64x16384, .f32⟩
  | 57 => ⟨S4x64x16384, .f32⟩
  | 58 => ⟨S_, .f32⟩
  | 59 => ⟨S_, .f32⟩
  | 60 => ⟨S4x64x16384, .f32⟩
  | 61 => ⟨S4x64x16384, .i1⟩
  | 62 => ⟨S_, .f32⟩
  | 63 => ⟨S4x64x16384, .f32⟩
  | 64 => ⟨S4x64x16384, .f32⟩
  | 65 => ⟨S4x64x16384, .f32⟩
  | 66 => ⟨S4x64x16384, .f32⟩
  | 67 => ⟨S4x64x16384, .f32⟩
  | 68 => ⟨S4x64x16384, .f32⟩
  | 69 => ⟨S4x64x16384, .f32⟩
  | 70 => ⟨S4x64x16384, .f32⟩
  | 71 => ⟨S4x64x16384, .f32⟩
  | 72 => ⟨S_, .f32⟩
  | 73 => ⟨S4x64x16384, .f32⟩
  | 74 => ⟨S4x64x16384, .f32⟩
  | 75 => ⟨S32x4x16384, .f32⟩
  | 76 => ⟨S4x32x16384, .f32⟩
  | 77 => ⟨S1x32x1, .f32⟩
  | 78 => ⟨S4x32x16384, .f32⟩
  | 79 => ⟨S4x32x16384, .f32⟩
  | 80 => ⟨S_, .f32⟩
  | 81 => ⟨S4x32x16384, .f32⟩
  | 82 => ⟨S4x32x16384, .f32⟩
  | 83 => ⟨S4x32x16384, .f32⟩
  | 84 => ⟨S4x32x16384, .f32⟩
  | 85 => ⟨S2x4x16384, .f32⟩
  | 86 => ⟨S4x2x16384, .f32⟩
  | 87 => ⟨S1x2x1, .f32⟩
  | 88 => ⟨S4x2x16384, .f32⟩
  | 89 => ⟨S4x2x16384, .f32⟩
  | 90 => ⟨S4x2x16384, .f32⟩
  | 91 => ⟨S4x2x16384, .f32⟩
  | 92 => ⟨S_, .f32⟩
  | 93 => ⟨S4x16384, .f32⟩
  | 94 => ⟨S_, .f32⟩
  | 95 => ⟨S4x16384, .f32⟩
  | 96 => ⟨S4x16384, .f32⟩
  | 97 => ⟨S4x1x16384, .f32⟩
  | 98 => ⟨S4x2x16384, .f32⟩
  | 99 => ⟨S4x2x16384, .f32⟩
  | 100 => ⟨S4x2x16384, .f32⟩
  | 101 => ⟨S_, .f32⟩
  | 102 => ⟨S4x16384, .f32⟩
  | 103 => ⟨S4x1x16384, .f32⟩
  | 104 => ⟨S4x2x16384, .f32⟩
  | 105 => ⟨S4x2x16384, .f32⟩
  | 106 => ⟨S4x1x16384, .f32⟩
  | 107 => ⟨S_, .f32⟩
  | 108 => ⟨S4x1x16384, .f32⟩
  | 109 => ⟨S4x1x16384, .i1⟩
  | 110 => ⟨S4x1x16384, .f32⟩
  | 111 => ⟨S4x1x16384, .f32⟩
  | 112 => ⟨S1x4x16384, .f32⟩
  | 113 => ⟨S4x1x16384, .f32⟩
  | 114 => ⟨S1x1x1, .f32⟩
  | 115 => ⟨S4x1x16384, .f32⟩
  | 116 => ⟨S4x1x16384, .f32⟩
  | 117 => ⟨S4x1x16384, .f32⟩
  | 118 => ⟨S4x1x16384, .f32⟩
  | 119 => ⟨S_, .f32⟩
  | 120 => ⟨S4x1x16384, .f32⟩
  | 121 => ⟨S4x1x16384, .f32⟩
  | 122 => ⟨S_, .f32⟩
  | 123 => ⟨S4x1x16384, .f32⟩
  | 124 => ⟨S4x1x16384, .f32⟩
  | 125 => ⟨S4x1x16384, .f32⟩
  | 126 => ⟨S4x1x16384, .f32⟩
  | 127 => ⟨S_, .f32⟩
  | _ => ⟨S4x256x32x32, .f32⟩

abbrev hbmTy0_3 (i : Nat) : BufTy := match i % 128 with
  | 0 => ⟨S4x1x16384, .f32⟩
  | 1 => ⟨S4x1x16384, .f32⟩
  | 2 => ⟨S4x1x128x128, .f32⟩
  | 3 => ⟨S4x1x128x2x128, .f32⟩
  | 4 => ⟨S4x1x256x128, .f32⟩
  | 5 => ⟨S4x1x256x128x2, .f32⟩
  | 6 => ⟨S4x1x256x256, .f32⟩
  | 7 => ⟨S4x1x65536, .f32⟩
  | 8 => ⟨S4x64x128x128, .f32⟩
  | 9 => ⟨S_, .f32⟩
  | 10 => ⟨S4x64x258x258, .f32⟩
  | 11 => ⟨S4x64x256x256, .f32⟩
  | 12 => ⟨S4x64x65536, .f32⟩
  | 13 => ⟨S1x1x64x32, .f32⟩
  | 14 => ⟨S64x32, .f32⟩
  | 15 => ⟨S32x4x65536, .f32⟩
  | 16 => ⟨S4x32x65536, .f32⟩
  | 17 => ⟨S_, .f32⟩
  | 18 => ⟨S4x32x65536, .f32⟩
  | 19 => ⟨S4x32x65536, .f32⟩
  | 20 => ⟨S4x64x256x256, .f32⟩
  | 21 => ⟨S4x64x65536, .f32⟩
  | 22 => ⟨S1x1x64x32, .f32⟩
  | 23 => ⟨S64x32, .f32⟩
  | 24 => ⟨S32x4x65536, .f32⟩
  | 25 => ⟨S4x32x65536, .f32⟩
  | 26 => ⟨S4x32x65536, .f32⟩
  | 27 => ⟨S4x64x256x256, .f32⟩
  | 28 => ⟨S4x64x65536, .f32⟩
  | 29 => ⟨S1x1x64x32, .f32⟩
  | 30 => ⟨S64x32, .f32⟩
  | 31 => ⟨S32x4x65536, .f32⟩
  | 32 => ⟨S4x32x65536, .f32⟩
  | 33 => ⟨S4x32x65536, .f32⟩
  | 34 => ⟨S4x64x256x256, .f32⟩
  | 35 => ⟨S4x64x65536, .f32⟩
  | 36 => ⟨S1x1x64x32, .f32⟩
  | 37 => ⟨S64x32, .f32⟩
  | 38 => ⟨S32x4x65536, .f32⟩
  | 39 => ⟨S4x32x65536, .f32⟩
  | 40 => ⟨S4x32x65536, .f32⟩
  | 41 => ⟨S4x64x256x256, .f32⟩
  | 42 => ⟨S4x64x65536, .f32⟩
  | 43 => ⟨S1x1x64x32, .f32⟩
  | 44 => ⟨S64x32, .f32⟩
  | 45 => ⟨S32x4x65536, .f32⟩
  | 46 => ⟨S4x32x65536, .f32⟩
  | 47 => ⟨S4x32x65536, .f32⟩
  | 48 => ⟨S4x64x256x256, .f32⟩
  | 49 => ⟨S4x64x65536, .f32⟩
  | 50 => ⟨S1x1x64x32, .f32⟩
  | 51 => ⟨S64x32, .f32⟩
  | 52 => ⟨S32x4x65536, .f32⟩
  | 53 => ⟨S4x32x65536, .f32⟩
  | 54 => ⟨S4x32x65536, .f32⟩
  | 55 => ⟨S4x64x256x256, .f32⟩
  | 56 => ⟨S4x64x65536, .f32⟩
  | 57 => ⟨S1x1x64x32, .f32⟩
  | 58 => ⟨S64x32, .f32⟩
  | 59 => ⟨S32x4x65536, .f32⟩
  | 60 => ⟨S4x32x65536, .f32⟩
  | 61 => ⟨S4x32x65536, .f32⟩
  | 62 => ⟨S4x64x256x256, .f32⟩
  | 63 => ⟨S4x64x65536, .f32⟩
  | 64 => ⟨S1x1x64x32, .f32⟩
  | 65 => ⟨S64x32, .f32⟩
  | 66 => ⟨S32x4x65536, .f32⟩
  | 67 => ⟨S4x32x65536, .f32⟩
  | 68 => ⟨S4x32x65536, .f32⟩
  | 69 => ⟨S4x64x256x256, .f32⟩
  | 70 => ⟨S4x64x65536, .f32⟩
  | 71 => ⟨S1x1x64x32, .f32⟩
  | 72 => ⟨S64x32, .f32⟩
  | 73 => ⟨S32x4x65536, .f32⟩
  | 74 => ⟨S4x32x65536, .f32⟩
  | 75 => ⟨S4x32x65536, .f32⟩
  | 76 => ⟨S1x32x1, .f32⟩
  | 77 => ⟨S4x32x65536, .f32⟩
  | 78 => ⟨S4x32x65536, .f32⟩
  | 79 => ⟨S_, .f32⟩
  | 80 => ⟨S_, .f32⟩
  | 81 => ⟨S4x32x65536, .f32⟩
  | 82 => ⟨S4x32x65536, .i1⟩
  | 83 => ⟨S_, .f32⟩
  | 84 => ⟨S4x32x65536, .f32⟩
  | 85 => ⟨S4x32x65536, .f32⟩
  | 86 => ⟨S4x32x65536, .f32⟩
  | 87 => ⟨S4x32x65536, .f32⟩
  | 88 => ⟨S4x32x65536, .f32⟩
  | 89 => ⟨S4x32x65536, .f32⟩
  | 90 => ⟨S4x32x65536, .f32⟩
  | 91 => ⟨S4x32x65536, .f32⟩
  | 92 => ⟨S4x32x65536, .f32⟩
  | 93 => ⟨S_, .f32⟩
  | 94 => ⟨S4x32x65536, .f32⟩
  | 95 => ⟨S4x32x65536, .f32⟩
  | 96 => ⟨S1x4x65536, .f32⟩
  | 97 => ⟨S4x1x65536, .f32⟩
  | 98 => ⟨S1x1x1, .f32⟩
  | 99 => ⟨S4x1x65536, .f32⟩
  | 100 => ⟨S4x1x65536, .f32⟩
  | 101 => ⟨S4x1x65536, .f32⟩
  | 102 => ⟨S4x1x65536, .f32⟩
  | 103 => ⟨S_, .f32⟩
  | 104 => ⟨S4x1x65536, .f32⟩
  | 105 => ⟨S4x1x65536, .f32⟩
  | 106 => ⟨S_, .f32⟩
  | 107 => ⟨S4x1x65536, .f32⟩
  | 108 => ⟨S4x1x65536, .f32⟩
  | 109 => ⟨S4x1x65536, .f32⟩
  | 110 => ⟨S4x1x65536, .f32⟩
  | 111 => ⟨S_, .f32⟩
  | 112 => ⟨S4x1x65536, .f32⟩
  | 113 => ⟨S4x1x65536, .f32⟩
  | 114 => ⟨S4x1x32x32, .f32⟩
  | 115 => ⟨S4x1x64x64, .f32⟩
  | 116 => ⟨S4x1x128x128, .f32⟩
  | 117 => ⟨S4x1x256x256, .f32⟩
  | 118 => ⟨S4x2x32x32, .f32⟩
  | 119 => ⟨S4x2x64x64, .f32⟩
  | 120 => ⟨S4x2x128x128, .f32⟩
  | 121 => ⟨S4x1x32x32, .f32⟩
  | 122 => ⟨S4x1x64x64, .f32⟩
  | 123 => ⟨S4x1x128x128, .f32⟩
  | 124 => ⟨S4x1x256x256, .f32⟩
  | _ => ⟨S4x256x32x32, .f32⟩

abbrev hbmTy (i : Nat) : BufTy := match i / 128 with
  | 0 => hbmTy0_0 i
  | 1 => hbmTy0_1 i
  | 2 => hbmTy0_2 i
  | 3 => hbmTy0_3 i
  | _ => ⟨S4x256x32x32, .f32⟩

abbrev bufTy : (tb : Table) → Fin (tcTables nBuf tb) → BufTy
  | .hbm, ⟨i, _⟩ => hbmTy i
  | _, _ => ⟨S4x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_call0_cst : Ref sig .tc := ⟨.hbm, 38, rfl⟩
abbrev main_call0_v0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst : Ref sig .tc := ⟨.hbm, 50, rfl⟩
abbrev main_v17 : Ref sig .tc := ⟨.hbm, 51, rfl⟩
abbrev main_cst_0 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_1 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_2 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_3 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_6 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_7 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_8 : Ref sig .tc := ⟨.hbm, 165, rfl⟩
abbrev main_call1_cst : Ref sig .tc := ⟨.hbm, 166, rfl⟩
abbrev main_call1_v0 : Ref sig .tc := ⟨.hbm, 167, rfl⟩
abbrev main_call1_v1 : Ref sig .tc := ⟨.hbm, 168, rfl⟩
abbrev main_call1_v2 : Ref sig .tc := ⟨.hbm, 169, rfl⟩
abbrev main_call1_v3 : Ref sig .tc := ⟨.hbm, 170, rfl⟩
abbrev main_call1_v4 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_9 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_call2_cst : Ref sig .tc := ⟨.hbm, 187, rfl⟩
abbrev main_call2_v0 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_10 : Ref sig .tc := ⟨.hbm, 199, rfl⟩
abbrev main_v147 : Ref sig .tc := ⟨.hbm, 200, rfl⟩
abbrev main_cst_11 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_12 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_13 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_cst_14 : Ref sig .tc := ⟨.hbm, 226, rfl⟩
abbrev main_v170 : Ref sig .tc := ⟨.hbm, 227, rfl⟩
abbrev main_v171 : Ref sig .tc := ⟨.hbm, 228, rfl⟩
abbrev main_cst_15 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_cst_16 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_cst_17 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_18 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_cst_19 : Ref sig .tc := ⟨.hbm, 314, rfl⟩
abbrev main_call3_cst : Ref sig .tc := ⟨.hbm, 315, rfl⟩
abbrev main_call3_v0 : Ref sig .tc := ⟨.hbm, 316, rfl⟩
abbrev main_call3_v1 : Ref sig .tc := ⟨.hbm, 317, rfl⟩
abbrev main_call3_v2 : Ref sig .tc := ⟨.hbm, 318, rfl⟩
abbrev main_call3_v3 : Ref sig .tc := ⟨.hbm, 319, rfl⟩
abbrev main_call3_v4 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_cst_20 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_call4_cst : Ref sig .tc := ⟨.hbm, 336, rfl⟩
abbrev main_call4_v0 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_cst_21 : Ref sig .tc := ⟨.hbm, 348, rfl⟩
abbrev main_v277 : Ref sig .tc := ⟨.hbm, 349, rfl⟩
abbrev main_cst_22 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_cst_23 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_cst_24 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_cst_25 : Ref sig .tc := ⟨.hbm, 375, rfl⟩
abbrev main_v300 : Ref sig .tc := ⟨.hbm, 376, rfl⟩
abbrev main_v301 : Ref sig .tc := ⟨.hbm, 377, rfl⟩
abbrev main_cst_26 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_cst_27 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_cst_28 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_v318 : Ref sig .tc := ⟨.hbm, 397, rfl⟩
abbrev main_v319 : Ref sig .tc := ⟨.hbm, 398, rfl⟩
abbrev main_v320 : Ref sig .tc := ⟨.hbm, 399, rfl⟩
abbrev main_v321 : Ref sig .tc := ⟨.hbm, 400, rfl⟩
abbrev main_cst_29 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_v325 : Ref sig .tc := ⟨.hbm, 405, rfl⟩
abbrev main_v326 : Ref sig .tc := ⟨.hbm, 406, rfl⟩
abbrev main_v327 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_v379 : Ref sig .tc := ⟨.hbm, 459, rfl⟩
abbrev main_v380 : Ref sig .tc := ⟨.hbm, 460, rfl⟩
abbrev main_v381 : Ref sig .tc := ⟨.hbm, 461, rfl⟩
abbrev main_v382 : Ref sig .tc := ⟨.hbm, 462, rfl⟩
abbrev main_cst_30 : Ref sig .tc := ⟨.hbm, 463, rfl⟩
abbrev main_call5_cst : Ref sig .tc := ⟨.hbm, 464, rfl⟩
abbrev main_call5_v0 : Ref sig .tc := ⟨.hbm, 465, rfl⟩
abbrev main_call5_v1 : Ref sig .tc := ⟨.hbm, 466, rfl⟩
abbrev main_call5_v2 : Ref sig .tc := ⟨.hbm, 467, rfl⟩
abbrev main_call5_v3 : Ref sig .tc := ⟨.hbm, 468, rfl⟩
abbrev main_call5_v4 : Ref sig .tc := ⟨.hbm, 469, rfl⟩
abbrev main_v383 : Ref sig .tc := ⟨.hbm, 470, rfl⟩
abbrev main_v384 : Ref sig .tc := ⟨.hbm, 471, rfl⟩
abbrev main_v385 : Ref sig .tc := ⟨.hbm, 472, rfl⟩
abbrev main_v386 : Ref sig .tc := ⟨.hbm, 473, rfl⟩
abbrev main_v387 : Ref sig .tc := ⟨.hbm, 474, rfl⟩
abbrev main_v388 : Ref sig .tc := ⟨.hbm, 475, rfl⟩
abbrev main_v389 : Ref sig .tc := ⟨.hbm, 476, rfl⟩
abbrev main_cst_31 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_cst_32 : Ref sig .tc := ⟨.hbm, 487, rfl⟩
abbrev main_v399 : Ref sig .tc := ⟨.hbm, 488, rfl⟩
abbrev main_v400 : Ref sig .tc := ⟨.hbm, 489, rfl⟩
abbrev main_cst_33 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_v404 : Ref sig .tc := ⟨.hbm, 494, rfl⟩
abbrev main_cst_34 : Ref sig .tc := ⟨.hbm, 495, rfl⟩
abbrev main_v405 : Ref sig .tc := ⟨.hbm, 496, rfl⟩
abbrev main_v406 : Ref sig .tc := ⟨.hbm, 497, rfl⟩
abbrev main_v407 : Ref sig .tc := ⟨.hbm, 498, rfl⟩
abbrev main_v408 : Ref sig .tc := ⟨.hbm, 499, rfl⟩
abbrev main_v409 : Ref sig .tc := ⟨.hbm, 500, rfl⟩
abbrev main_v410 : Ref sig .tc := ⟨.hbm, 501, rfl⟩
abbrev main_v411 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩

abbrev nD : Nat := 1
abbrev τ : Topo := Topo.v7x

variable {F : FTy → Type} [FloatOps F]
-- ==== Proof.RefFrame.lean ====
/- The reference's frame: its run with the results dropped. -/
module
public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Dec

open Idealize.ShloMosaic

/-- The reference ends, leaves its arguments as they were, and declares no semaphore. -/
theorem frame_ref : Cert.quiescent_ReferenceIdeal := fun m ρ _ =>
  (θ_run Cert.ReferenceIdeal.defs _ _).mono (fun r h =>
    ⟨fun c => (h c).2.2.2.2.2.2.2.2.2.2.2, sem_eq_zero_of_no_sems (by decide) r.2⟩)
    (Cert.ReferenceIdeal.Value.run m ρ)

end Cert.Dec
-- ==== Proof.Spec.lean ====
/- The masked decoder as functions of natural coordinates. An image is a function of batch, channel, row and column.
   The kernel's arrays and the reference's are both shown equal to the functions below, level by level. -/
module

public import Idealize.ShloMosaic.Lib.Pointwise

@[expose] public section

noncomputable section

namespace Cert.Dec

open Idealize.ShloMosaic

/-- An image: batch, channel, row, column. -/
abbrev Img := ℕ → ℕ → ℕ → ℕ → EReal

/-- A rank 4 array at natural coordinates, zero outside. -/
def rd4 {a b c d : ℕ} (A : (⟨⟨4, ![a, b, c, d]⟩, .f32⟩ : BufTy).Contents (Elt Ideal)) : Img := fun n k y x =>
  if h : n < a ∧ k < b ∧ y < c ∧ x < d then A (ix4 ⟨n, h.1⟩ ⟨k, h.2.1⟩ ⟨y, h.2.2.1⟩ ⟨x, h.2.2.2⟩) else 0

/-- A rank 2 array at natural coordinates, zero outside. -/
def rd2 {a b : ℕ} (A : (⟨⟨2, ![a, b]⟩, .f32⟩ : BufTy).Contents (Elt Ideal)) : ℕ → ℕ → EReal := fun n k =>
  if h : n < a ∧ k < b then A (ix2 ⟨n, h.1⟩ ⟨k, h.2⟩) else 0

/-- A rank 1 array at a natural coordinate, zero outside. -/
def rd1 {a : ℕ} (A : (⟨⟨1, ![a]⟩, .f32⟩ : BufTy).Contents (Elt Ideal)) : ℕ → EReal := fun n =>
  if h : n < a then A (ix1 ⟨n, h⟩) else 0

theorem rd4_fin {a b c d : ℕ} (A : (⟨⟨4, ![a, b, c, d]⟩, .f32⟩ : BufTy).Contents (Elt Ideal)) (n : Fin a) (k : Fin b)
    (y : Fin c) (x : Fin d) : A (ix4 n k y x) = rd4 A n k y x := by
  rw [rd4, dif_pos ⟨n.2, k.2, y.2, x.2⟩]

theorem rd2_fin {a b : ℕ} (A : (⟨⟨2, ![a, b]⟩, .f32⟩ : BufTy).Contents (Elt Ideal)) (n : Fin a) (k : Fin b) :
    A (ix2 n k) = rd2 A n k := by
  rw [rd2, dif_pos ⟨n.2, k.2⟩]

theorem rd1_fin {a : ℕ} (A : (⟨⟨1, ![a]⟩, .f32⟩ : BufTy).Contents (Elt Ideal)) (n : Fin a) : A (ix1 n) = rd1 A n := by
  rw [rd1, dif_pos n.2]

/-! ## One level -/

/-- One output channel of a 1×1 convolution without its bias, `C` input channels. -/
def conv (C : ℕ) (w : ℕ → EReal) (X : Img) (n y x : ℕ) : EReal := ∑ c : Fin C, w c * X n c y x

/-- The mask predictor's hidden channels. -/
def hid (C : ℕ) (w : ℕ → ℕ → EReal) (b : ℕ → EReal) (X M : Img) : Img := fun n k y x =>
  max (conv C (fun c => w c k) X n y x + b k) 0 * M n 0 y x

/-- The mask predictor's two logits. -/
def logit (C : ℕ) (w₁ : ℕ → ℕ → EReal) (b₁ : ℕ → EReal) (w₂ : ℕ → ℕ → EReal) (b₂ : ℕ → EReal) (X M : Img) : Img :=
  fun n o y x => (conv 32 (fun k => w₂ k o) (hid C w₁ b₁ X M) n y x + b₂ o) * M n 0 y x

/-- The part of the mask this level keeps: where the second logit is the larger. -/
def keep (L M : Img) : Img := fun n _ y x => M n 0 y x * (if L n 0 y x < L n 1 y x then 1 else 0)

/-- The level's output on the mask `T`. -/
def outp (C : ℕ) (w : ℕ → EReal) (b : EReal) (X T : Img) : Img := fun n _ y x =>
  Ideal.logistic (conv C w X n y x + b) * T n 0 y x

/-- What of the mask is handed on. -/
def rest (M T : Img) : Img := fun n _ y x => M n 0 y x - T n 0 y x

/-- A mask with every pixel doubled along both axes. -/
def grow (M : Img) : Img := fun n _ y x => M n 0 (y / 2) (x / 2)

/-- The image moved down one row, zeros entering. -/
def down (X : Img) : Img := fun n c y x => if y = 0 then 0 else X n c (y - 1) x

/-- The image moved right one column, zeros entering. -/
def right (X : Img) : Img := fun n c y x => if x = 0 then 0 else X n c y (x - 1)

/-- The stride 2 transposed convolution: each parity of the output pixel takes its own taps. -/
def dec (C : ℕ) (w : Img) (b : ℕ → EReal) (X : Img) : Img := fun n o y x =>
  (if y % 2 = 0 then
    if x % 2 = 0 then
      conv C (fun c => w 2 2 c o) X n (y / 2) (x / 2) + conv C (fun c => w 0 2 c o) (down X) n (y / 2) (x / 2)
        + conv C (fun c => w 2 0 c o) (right X) n (y / 2) (x / 2)
        + conv C (fun c => w 0 0 c o) (right (down X)) n (y / 2) (x / 2)
    else conv C (fun c => w 2 1 c o) X n (y / 2) (x / 2) + conv C (fun c => w 0 1 c o) (down X) n (y / 2) (x / 2)
  else
    if x % 2 = 0 then
      conv C (fun c => w 1 2 c o) X n (y / 2) (x / 2) + conv C (fun c => w 1 0 c o) (right X) n (y / 2) (x / 2)
    else conv C (fun c => w 1 1 c o) X n (y / 2) (x / 2))
  + b o

/-- The leaky rectifier, its slope the nearest binary fraction to 0.01. -/
def leaky (v : EReal) : EReal := if 0 ≤ v then v else Ideal.ofBits .f32 0x3C23D70A#32 * v

/-- The level's features: the rectified transposed convolution and the skip connection, masked and averaged. -/
def mix (D S M : Img) : Img := fun n o y x =>
  (leaky (D n o y x) * M n 0 y x + S n o y x * M n 0 y x) * Ideal.ofBits .f32 0x3F000000#32

/-! ## The four levels -/

/-- The arguments at natural coordinates. -/
structure Net where
  x0 : Img
  m0 : Img
  s1 : Img
  s2 : Img
  s3 : Img
  d1 : Img
  e1 : ℕ → EReal
  d2 : Img
  e2 : ℕ → EReal
  d3 : Img
  e3 : ℕ → EReal
  o0 : ℕ → EReal
  p0 : EReal
  o1 : ℕ → EReal
  p1 : EReal
  o2 : ℕ → EReal
  p2 : EReal
  o3 : ℕ → EReal
  p3 : EReal
  a0 : ℕ → ℕ → EReal
  b0 : ℕ → EReal
  f0 : ℕ → ℕ → EReal
  g0 : ℕ → EReal
  a1 : ℕ → ℕ → EReal
  b1 : ℕ → EReal
  f1 : ℕ → ℕ → EReal
  g1 : ℕ → EReal
  a2 : ℕ → ℕ → EReal
  b2 : ℕ → EReal
  f2 : ℕ → ℕ → EReal
  g2 : ℕ → EReal

namespace Net

variable (N : Net)

def l0 : Img := logit 256 N.a0 N.b0 N.f0 N.g0 N.x0 N.m0
def t0 : Img := keep N.l0 N.m0
def y0 : Img := outp 256 N.o0 N.p0 N.x0 N.t0
def r0 : Img := rest N.m0 N.t0

def m1 : Img := grow N.r0
def x1 : Img := mix (dec 256 N.d1 N.e1 N.x0) N.s1 N.m1
def l1 : Img := logit 128 N.a1 N.b1 N.f1 N.g1 N.x1 N.m1
def t1 : Img := keep N.l1 N.m1
def y1 : Img := outp 128 N.o1 N.p1 N.x1 N.t1
def r1 : Img := rest N.m1 N.t1

def m2 : Img := grow N.r1
def x2 : Img := mix (dec 128 N.d2 N.e2 N.x1) N.s2 N.m2
def l2 : Img := logit 64 N.a2 N.b2 N.f2 N.g2 N.x2 N.m2
def t2 : Img := keep N.l2 N.m2
def y2 : Img := outp 64 N.o2 N.p2 N.x2 N.t2
def r2 : Img := rest N.m2 N.t2

def m3 : Img := grow N.r2
def x3 : Img := mix (dec 64 N.d3 N.e3 N.x2) N.s3 N.m3
def y3 : Img := outp 32 N.o3 N.p3 N.x3 N.m3

end Net

/-- The arguments, in the order of the program's. -/
structure Args where
  x0 : (⟨⟨4, ![4, 256, 32, 32]⟩, .f32⟩ : BufTy).Contents (Elt Ideal)
  x1 : (⟨⟨4, ![4, 1, 32, 32]⟩, .f32⟩ : BufTy).Contents (Elt Ideal)
  x2 : (⟨⟨4, ![4, 128, 64, 64]⟩, .f32⟩ : BufTy).Contents (Elt Ideal)
  x3 : (⟨⟨4, ![4, 64, 128, 128]⟩, .f32⟩ : BufTy).Contents (Elt Ideal)
  x4 : (⟨⟨4, ![4, 32, 256, 256]⟩, .f32⟩ : BufTy).Contents (Elt Ideal)
  x5 : (⟨⟨4, ![3, 3, 256, 128]⟩, .f32⟩ : BufTy).Contents (Elt Ideal)
  x6 : (⟨⟨1, ![128]⟩, .f32⟩ : BufTy).Contents (Elt Ideal)
  x7 : (⟨⟨4, ![3, 3, 128, 64]⟩, .f32⟩ : BufTy).Contents (Elt Ideal)
  x8 : (⟨⟨1, ![64]⟩, .f32⟩ : BufTy).Contents (Elt Ideal)
  x9 : (⟨⟨4, ![3, 3, 64, 32]⟩, .f32⟩ : BufTy).Contents (Elt Ideal)
  x10 : (⟨⟨1, ![32]⟩, .f32⟩ : BufTy).Contents (Elt Ideal)
  x11 : (⟨⟨2, ![256, 1]⟩, .f32⟩ : BufTy).Contents (Elt Ideal)
  x12 : (⟨⟨1, ![1]⟩, .f32⟩ : BufTy).Contents (Elt Ideal)
  x13 : (⟨⟨2, ![128, 1]⟩, .f32⟩ : BufTy).Contents (Elt Ideal)
  x14 : (⟨⟨1, ![1]⟩, .f32⟩ : BufTy).Contents (Elt Ideal)
  x15 : (⟨⟨2, ![64, 1]⟩, .f32⟩ : BufTy).Contents (Elt Ideal)
  x16 : (⟨⟨1, ![1]⟩, .f32⟩ : BufTy).Contents (Elt Ideal)
  x17 : (⟨⟨2, ![32, 1]⟩, .f32⟩ : BufTy).Contents (Elt Ideal)
  x18 : (⟨⟨1, ![1]⟩, .f32⟩ : BufTy).Contents (Elt Ideal)
  x19 : (⟨⟨2, ![256, 32]⟩, .f32⟩ : BufTy).Contents (Elt Ideal)
  x20 : (⟨⟨1, ![32]⟩, .f32⟩ : BufTy).Contents (Elt Ideal)
  x21 : (⟨⟨2, ![32, 2]⟩, .f32⟩ : BufTy).Contents (Elt Ideal)
  x22 : (⟨⟨1, ![2]⟩, .f32⟩ : BufTy).Contents (Elt Ideal)
  x23 : (⟨⟨2, ![128, 32]⟩, .f32⟩ : BufTy).Contents (Elt Ideal)
  x24 : (⟨⟨1, ![32]⟩, .f32⟩ : BufTy).Contents (Elt Ideal)
  x25 : (⟨⟨2, ![32, 2]⟩, .f32⟩ : BufTy).Contents (Elt Ideal)
  x26 : (⟨⟨1, ![2]⟩, .f32⟩ : BufTy).Contents (Elt Ideal)
  x27 : (⟨⟨2, ![64, 32]⟩, .f32⟩ : BufTy).Contents (Elt Ideal)
  x28 : (⟨⟨1, ![32]⟩, .f32⟩ : BufTy).Contents (Elt Ideal)
  x29 : (⟨⟨2, ![32, 2]⟩, .f32⟩ : BufTy).Contents (Elt Ideal)
  x30 : (⟨⟨1, ![2]⟩, .f32⟩ : BufTy).Contents (Elt Ideal)

/-- The arguments at natural coordinates. -/
def Args.net (a : Args) : Net where
  x0 := rd4 a.x0
  m0 := rd4 a.x1
  s1 := rd4 a.x2
  s2 := rd4 a.x3
  s3 := rd4 a.x4
  d1 := rd4 a.x5
  e1 := rd1 a.x6
  d2 := rd4 a.x7
  e2 := rd1 a.x8
  d3 := rd4 a.x9
  e3 := rd1 a.x10
  o0 := fun k => rd2 a.x11 k 0
  p0 := rd1 a.x12 0
  o1 := fun k => rd2 a.x13 k 0
  p1 := rd1 a.x14 0
  o2 := fun k => rd2 a.x15 k 0
  p2 := rd1 a.x16 0
  o3 := fun k => rd2 a.x17 k 0
  p3 := rd1 a.x18 0
  a0 := rd2 a.x19
  b0 := rd1 a.x20
  f0 := rd2 a.x21
  g0 := rd1 a.x22
  a1 := rd2 a.x23
  b1 := rd1 a.x24
  f1 := rd2 a.x25
  g1 := rd1 a.x26
  a2 := rd2 a.x27
  b2 := rd1 a.x28
  f2 := rd2 a.x29
  g2 := rd1 a.x30

end Cert.Dec
-- ==== Proof.Facts.lean ====
/- Facts about the decoder's functions: the constants, which values are real numbers, the two-class softmax as a
   comparison of the logits, the nine taps of the dilated image, and the last level's projection of the skip
   connection. -/
module

public import proofs.«01_k».proof.Proof.Spec
public import Idealize.ShloMosaic.PureOps.Ideal.Laws

@[expose] public section

noncomputable section

namespace Cert.Dec

open Idealize.ShloMosaic

/-! ## Constants -/

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem neg_inf_eq : Ideal.ofBits .f32 0xFF800000#32 = ⊥ := by
  simp [Ideal.ofBits, Ideal.ieee]

theorem inf_eq : Ideal.ofBits .f32 0x7F800000#32 = ⊤ := by
  simp [Ideal.ofBits, Ideal.ieee]

/-- Halving is multiplying by one half. -/
theorem div_two (v : EReal) : Ideal.div v (Ideal.ofBits .f32 0x40000000#32) = v * Ideal.ofBits .f32 0x3F000000#32 := by
  rw [two_eq, half_eq, Ideal.div_coe (by norm_num)]

/-- A comparison's bit as a float. -/
theorem bit_eq (p : Prop) [Decidable p] :
    FloatOps.uitofp (F := Ideal) FTy.f32 (BitVec.ofBool (decide p)) = if p then (1 : EReal) else 0 := by
  by_cases h : p
  · simp only [h, decide_true, if_true]; change (((1#1 : BitVec 1).toNat : ℝ) : EReal) = 1; norm_num
  · simp only [h, decide_false, if_false]; change (((0#1 : BitVec 1).toNat : ℝ) : EReal) = 0; norm_num

/-! ## Real values -/

/-- The value is a real number. -/
def IsR (v : EReal) : Prop := ∃ r : ℝ, v = (r : EReal)

theorem isR_coe (r : ℝ) : IsR (r : EReal) := ⟨r, rfl⟩
theorem isR_zero : IsR 0 := ⟨0, rfl⟩
theorem isR_one : IsR 1 := ⟨1, rfl⟩

theorem IsR.add {a b : EReal} (ha : IsR a) (hb : IsR b) : IsR (a + b) := by
  obtain ⟨r, rfl⟩ := ha; obtain ⟨q, rfl⟩ := hb; exact ⟨r + q, by push_cast; rfl⟩

theorem IsR.sub {a b : EReal} (ha : IsR a) (hb : IsR b) : IsR (a - b) := by
  obtain ⟨r, rfl⟩ := ha; obtain ⟨q, rfl⟩ := hb; exact ⟨r - q, by push_cast; rfl⟩

theorem IsR.mul {a b : EReal} (ha : IsR a) (hb : IsR b) : IsR (a * b) := by
  obtain ⟨r, rfl⟩ := ha; obtain ⟨q, rfl⟩ := hb; exact ⟨r * q, by push_cast; rfl⟩

theorem IsR.max {a b : EReal} (ha : IsR a) (hb : IsR b) : IsR (max a b) := by
  rcases max_choice a b with h | h <;> rw [h] <;> assumption

theorem IsR.ite {p : Prop} [Decidable p] {a b : EReal} (ha : IsR a) (hb : IsR b) : IsR (if p then a else b) := by
  split <;> assumption

theorem IsR.sum {ι : Type} (s : Finset ι) {f : ι → EReal} (h : ∀ i, IsR (f i)) : IsR (∑ i ∈ s, f i) := by
  classical
  induction s using Finset.induction_on with
  | empty => simpa using isR_zero
  | insert a s ha ih => rw [Finset.sum_insert ha]; exact (h a).add ih

/-- An extended real below infinity in absolute value is a real number. -/
theorem isR_of_abs {v : EReal} (h : max v (-v) < ⊤) : IsR v := by
  induction v with
  | bot => simp at h
  | top => simp at h
  | coe r => exact ⟨r, rfl⟩

/-- Every value of the image is a real number. -/
def RImg (X : Img) : Prop := ∀ n c y x, IsR (X n c y x)

theorem slope_isR : IsR (Ideal.ofBits .f32 0x3C23D70A#32) := by
  rw [show Ideal.ofBits .f32 0x3C23D70A#32 = Ideal.ieee 8 23 (0x3C23D70A#32) from rfl]
  unfold Ideal.ieee
  dsimp only
  split
  · rename_i h; exact absurd h (by decide)
  split <;> exact ⟨_, rfl⟩

theorem leaky_isR {v : EReal} (h : IsR v) : IsR (leaky v) := IsR.ite h (slope_isR.mul h)

theorem conv_isR {C w X n y x} (hw : ∀ c, IsR (w c)) (hX : RImg X) : IsR (conv C w X n y x) :=
  IsR.sum _ fun c => (hw c).mul (hX _ _ _ _)

theorem down_isR {X} (hX : RImg X) : RImg (down X) := fun _ _ _ _ => IsR.ite isR_zero (hX _ _ _ _)
theorem right_isR {X} (hX : RImg X) : RImg (right X) := fun _ _ _ _ => IsR.ite isR_zero (hX _ _ _ _)

theorem hid_isR {C w b X M} (hw : ∀ c k, IsR (w c k)) (hb : ∀ k, IsR (b k)) (hX : RImg X) (hM : RImg M) :
    RImg (hid C w b X M) := fun _ _ _ _ => ((conv_isR (fun _ => hw _ _) hX).add (hb _)).max isR_zero |>.mul (hM _ _ _ _)

theorem logit_isR {C w b w' b' X M} (hw : ∀ c k, IsR (w c k)) (hb : ∀ k, IsR (b k)) (hw' : ∀ c k, IsR (w' c k))
    (hb' : ∀ k, IsR (b' k)) (hX : RImg X) (hM : RImg M) : RImg (logit C w b w' b' X M) :=
  fun _ _ _ _ => ((conv_isR (fun _ => hw' _ _) (hid_isR hw hb hX hM)).add (hb' _)).mul (hM _ _ _ _)

theorem keep_isR {L M} (hM : RImg M) : RImg (keep L M) := fun _ _ _ _ => (hM _ _ _ _).mul (IsR.ite isR_one isR_zero)
theorem rest_isR {M T} (hM : RImg M) (hT : RImg T) : RImg (rest M T) := fun _ _ _ _ => (hM _ _ _ _).sub (hT _ _ _ _)
theorem grow_isR {M} (hM : RImg M) : RImg (grow M) := fun _ _ _ _ => hM _ _ _ _

theorem dec_isR {C w b X} (hw : RImg w) (hb : ∀ k, IsR (b k)) (hX : RImg X) : RImg (dec C w b X) := by
  intro n o y x
  refine IsR.add (IsR.ite (IsR.ite ?_ ?_) (IsR.ite ?_ ?_)) (hb _)
  · exact (((conv_isR (fun _ => hw _ _ _ _) hX).add (conv_isR (fun _ => hw _ _ _ _) (down_isR hX))).add
      (conv_isR (fun _ => hw _ _ _ _) (right_isR hX))).add (conv_isR (fun _ => hw _ _ _ _) (right_isR (down_isR hX)))
  · exact (conv_isR (fun _ => hw _ _ _ _) hX).add (conv_isR (fun _ => hw _ _ _ _) (down_isR hX))
  · exact (conv_isR (fun _ => hw _ _ _ _) hX).add (conv_isR (fun _ => hw _ _ _ _) (right_isR hX))
  · exact conv_isR (fun _ => hw _ _ _ _) hX

theorem mix_isR {D S M} (hD : RImg D) (hS : RImg S) (hM : RImg M) : RImg (mix D S M) := fun _ _ _ _ =>
  (((leaky_isR (hD _ _ _ _)).mul (hM _ _ _ _)).add ((hS _ _ _ _).mul (hM _ _ _ _))).mul (half_eq ▸ isR_coe _)

/-! ## The mask handed on -/

/-- The mask is nowhere negative and real. -/
def Mask (M : Img) : Prop := ∀ n c y x, ∃ r : ℝ, 0 ≤ r ∧ M n c y x = (r : EReal)

theorem Mask.isR {M} (h : Mask M) : RImg M := fun n c y x => let ⟨r, _, hr⟩ := h n c y x; ⟨r, hr⟩

theorem rest_mask {M} (L : Img) (h : Mask M) : Mask (rest M (keep L M)) := by
  intro n c y x
  obtain ⟨r, h0, hr⟩ := h n 0 y x
  unfold rest keep
  rw [hr]
  split
  · exact ⟨0, le_rfl, by rw [mul_one, ← EReal.coe_sub]; simp⟩
  · exact ⟨r, h0, by simp⟩

theorem grow_mask {M} (h : Mask M) : Mask (grow M) := fun _ _ _ _ => h _ _ _ _

/-- What is handed on is nowhere negative, so raising it to zero changes nothing. -/
theorem rest_max {M} (L : Img) (h : Mask M) (n c y x : ℕ) :
    max (M n 0 y x - keep L M n c y x) 0 = rest M (keep L M) n c y x := by
  obtain ⟨r, h0, hr⟩ := rest_mask L h n c y x
  change max (rest M (keep L M) n c y x) 0 = _
  rw [hr]; exact max_eq_left (EReal.coe_nonneg.mpr h0)

/-! ## The two-class softmax -/

/-- The second class has probability above one half where its logit is the larger. -/
theorem softmax_gt {a b m : EReal} (ha : IsR a) (hb : IsR b) (hm : IsR m) :
    Ideal.ofBits .f32 0x3F000000#32 < Ideal.div (Ideal.exp (b - m)) (Ideal.exp (a - m) + Ideal.exp (b - m)) ↔ a < b := by
  obtain ⟨a, rfl⟩ := ha; obtain ⟨b, rfl⟩ := hb; obtain ⟨m, rfl⟩ := hm
  rw [half_eq, ← EReal.coe_sub, ← EReal.coe_sub, Ideal.exp_coe, Ideal.exp_coe, ← EReal.coe_add,
    Ideal.div_coe (by positivity), ← EReal.coe_mul, EReal.coe_lt_coe_iff, EReal.coe_lt_coe_iff]
  have h1 := Real.exp_pos (a - m)
  have h2 := Real.exp_pos (b - m)
  rw [mul_one_div, lt_div_iff₀ (by positivity)]
  have h3 : Real.exp (a - m) < Real.exp (b - m) ↔ a < b := by rw [Real.exp_lt_exp]; constructor <;> intro h <;> linarith
  rw [← h3]
  constructor <;> intro h <;> linarith

/-- The largest of the two logits, as the softmax takes it. -/
theorem top_isR (L : Img) (h : RImg L) (n y x : ℕ) :
    IsR (max (Ideal.ofBits .f32 0xFF800000#32)
      (Finset.fold max (Ideal.ofBits .f32 0xFF800000#32) (fun k : Fin 2 => L n k y x) Finset.univ)) := by
  rw [neg_inf_eq]
  have : Finset.fold max ⊥ (fun k : Fin 2 => L n k y x) Finset.univ = max (L n 0 y x) (L n 1 y x) := by
    rw [show (Finset.univ : Finset (Fin 2)) = {0, 1} from by decide, Finset.fold_insert (by decide), Finset.fold_singleton]
    simp
  rw [this, max_eq_right bot_le]
  exact (h _ _ _ _).max (h _ _ _ _)

/-- The softmax's test of the second class is the comparison of the logits. -/
theorem keep_of_softmax (L M : Img) (hL : RImg L) (n c y x : ℕ) :
    M n 0 y x * (if Ideal.ofBits .f32 0x3F000000#32 < Ideal.div
      (Ideal.exp (L n 1 y x - max (Ideal.ofBits .f32 0xFF800000#32)
        (Finset.fold max (Ideal.ofBits .f32 0xFF800000#32) (fun k : Fin 2 => L n k y x) Finset.univ)))
      (∑ k : Fin 2, Ideal.exp (L n k y x - max (Ideal.ofBits .f32 0xFF800000#32)
        (Finset.fold max (Ideal.ofBits .f32 0xFF800000#32) (fun k : Fin 2 => L n k y x) Finset.univ)))
      then 1 else 0) = keep L M n c y x := by
  rw [Fin.sum_univ_two]
  unfold keep
  congr 1
  simp only [show (((0 : Fin 2) : ℕ)) = 0 from rfl, show (((1 : Fin 2) : ℕ)) = 1 from rfl]
  exact if_congr (softmax_gt (hL _ _ _ _) (hL _ _ _ _) (top_isR L hL n y x)) rfl rfl

/-! ## The dilated image's nine taps -/

/-- The image with a zero between any two pixels and two zeros before the first, along both axes. -/
def dil (X : Img) : Img := fun n c p q =>
  if 2 ≤ p ∧ (p - 2) % 2 = 0 ∧ 2 ≤ q ∧ (q - 2) % 2 = 0 then X n c ((p - 2) / 2) ((q - 2) / 2) else 0

theorem dil_odd (X : Img) (n c p q : ℕ) (h : p % 2 = 1 ∨ q % 2 = 1) : dil X n c p q = 0 := by
  unfold dil; rw [if_neg (by omega)]

theorem dil_even (X : Img) (n c p q : ℕ) (hp : p % 2 = 0) (hq : q % 2 = 0) :
    dil X n c p q = right (down X) n c (p / 2) (q / 2) := by
  unfold dil right down
  by_cases h1 : p < 2
  · rw [if_neg (by omega), if_pos (show p / 2 = 0 by omega)]; simp
  by_cases h2 : q < 2
  · rw [if_neg (by omega), if_pos (show q / 2 = 0 by omega)]
  rw [if_pos (by omega), if_neg (by omega), if_neg (by omega)]
  rw [show (p - 2) / 2 = p / 2 - 1 by omega, show (q - 2) / 2 = q / 2 - 1 by omega]

theorem conv_dil_odd (C : ℕ) (w : ℕ → EReal) (X : Img) (n p q : ℕ) (h : p % 2 = 1 ∨ q % 2 = 1) :
    conv C w (dil X) n p q = 0 :=
  Finset.sum_eq_zero fun c _ => by rw [dil_odd X n c p q h, mul_zero]

theorem conv_dil_even (C : ℕ) (w : ℕ → EReal) (X : Img) (n p q : ℕ) (hp : p % 2 = 0) (hq : q % 2 = 0) :
    conv C w (dil X) n p q = conv C w (right (down X)) n (p / 2) (q / 2) :=
  Finset.sum_congr rfl fun c _ => by rw [dil_even X n c p q hp hq]

theorem conv_row (C : ℕ) (w : ℕ → EReal) (X : Img) (n i j : ℕ) :
    conv C w (right (down X)) n (i + 1) j = conv C w (right X) n i j :=
  Finset.sum_congr rfl fun c _ => by simp [right, down]

theorem conv_col (C : ℕ) (w : ℕ → EReal) (X : Img) (n i j : ℕ) :
    conv C w (right X) n i (j + 1) = conv C w X n i j :=
  Finset.sum_congr rfl fun c _ => by simp [right]

/-- The nine taps, summed row by row, are the transposed convolution. -/
theorem dec_of_taps (C : ℕ) (w : Img) (b : ℕ → EReal) (X : Img) (n o y x : ℕ) :
    conv C (fun c => w 0 0 c o) (dil X) n y x + conv C (fun c => w 0 1 c o) (dil X) n y (1 + x)
      + conv C (fun c => w 0 2 c o) (dil X) n y (2 + x) + conv C (fun c => w 1 0 c o) (dil X) n (1 + y) x
      + conv C (fun c => w 1 1 c o) (dil X) n (1 + y) (1 + x) + conv C (fun c => w 1 2 c o) (dil X) n (1 + y) (2 + x)
      + conv C (fun c => w 2 0 c o) (dil X) n (2 + y) x + conv C (fun c => w 2 1 c o) (dil X) n (2 + y) (1 + x)
      + conv C (fun c => w 2 2 c o) (dil X) n (2 + y) (2 + x) + b o = dec C w b X n o y x := by
  rw [Nat.add_comm 1 y, Nat.add_comm 2 y, Nat.add_comm 1 x, Nat.add_comm 2 x]
  unfold dec
  congr 1
  rcases Nat.mod_two_eq_zero_or_one y with hy | hy <;> rcases Nat.mod_two_eq_zero_or_one x with hx | hx
  · rw [conv_dil_even _ _ _ _ y x hy hx, conv_dil_odd _ _ _ _ y (x + 1) (by omega),
      conv_dil_even _ _ _ _ y (x + 2) (by omega) (by omega), conv_dil_odd _ _ _ _ (y + 1) x (by omega),
      conv_dil_odd _ _ _ _ (y + 1) (x + 1) (by omega), conv_dil_odd _ _ _ _ (y + 1) (x + 2) (by omega),
      conv_dil_even _ _ _ _ (y + 2) x (by omega) (by omega), conv_dil_odd _ _ _ _ (y + 2) (x + 1) (by omega),
      conv_dil_even _ _ _ _ (y + 2) (x + 2) (by omega) (by omega), if_pos hy, if_pos hx,
      show (x + 2) / 2 = x / 2 + 1 by omega, show (y + 2) / 2 = y / 2 + 1 by omega, conv_row, conv_row, conv_col, conv_col]
    simp only [zero_add, add_zero]
    ac_rfl
  · rw [conv_dil_odd _ _ _ _ y x (by omega), conv_dil_even _ _ _ _ y (x + 1) (by omega) (by omega),
      conv_dil_odd _ _ _ _ y (x + 2) (by omega), conv_dil_odd _ _ _ _ (y + 1) x (by omega),
      conv_dil_odd _ _ _ _ (y + 1) (x + 1) (by omega), conv_dil_odd _ _ _ _ (y + 1) (x + 2) (by omega),
      conv_dil_odd _ _ _ _ (y + 2) x (by omega), conv_dil_even _ _ _ _ (y + 2) (x + 1) (by omega) (by omega),
      conv_dil_odd _ _ _ _ (y + 2) (x + 2) (by omega), if_pos hy, if_neg (by omega),
      show (x + 1) / 2 = x / 2 + 1 by omega, show (y + 2) / 2 = y / 2 + 1 by omega, conv_row, conv_col, conv_col]
    simp only [zero_add, add_zero]
    ac_rfl
  · rw [conv_dil_odd _ _ _ _ y x (by omega), conv_dil_odd _ _ _ _ y (x + 1) (by omega),
      conv_dil_odd _ _ _ _ y (x + 2) (by omega), conv_dil_even _ _ _ _ (y + 1) x (by omega) (by omega),
      conv_dil_odd _ _ _ _ (y + 1) (x + 1) (by omega), conv_dil_even _ _ _ _ (y + 1) (x + 2) (by omega) (by omega),
      conv_dil_odd _ _ _ _ (y + 2) x (by omega), conv_dil_odd _ _ _ _ (y + 2) (x + 1) (by omega),
      conv_dil_odd _ _ _ _ (y + 2) (x + 2) (by omega), if_neg (by omega), if_pos hx,
      show (x + 2) / 2 = x / 2 + 1 by omega, show (y + 1) / 2 = y / 2 + 1 by omega, conv_row, conv_row, conv_col]
    simp only [zero_add, add_zero]
    ac_rfl
  · rw [conv_dil_odd _ _ _ _ y x (by omega), conv_dil_odd _ _ _ _ y (x + 1) (by omega),
      conv_dil_odd _ _ _ _ y (x + 2) (by omega), conv_dil_odd _ _ _ _ (y + 1) x (by omega),
      conv_dil_even _ _ _ _ (y + 1) (x + 1) (by omega) (by omega), conv_dil_odd _ _ _ _ (y + 1) (x + 2) (by omega),
      conv_dil_odd _ _ _ _ (y + 2) x (by omega), conv_dil_odd _ _ _ _ (y + 2) (x + 1) (by omega),
      conv_dil_odd _ _ _ _ (y + 2) (x + 2) (by omega), if_neg (by omega), if_neg (by omega),
      show (x + 1) / 2 = x / 2 + 1 by omega, show (y + 1) / 2 = y / 2 + 1 by omega, conv_row, conv_col]
    simp only [zero_add, add_zero]

/-! ## The last level -/

/-- A real factor times a sum one part of which is real. -/
theorem coe_mul_add (r s : ℝ) (z : EReal) : (r : EReal) * (z + s) = r * z + r * s := by
  induction z with
  | coe t => norm_cast; ring
  | bot =>
    rcases lt_trichotomy r 0 with h | rfl | h
    · rw [EReal.bot_add, EReal.coe_mul_bot_of_neg h, ← EReal.coe_mul, EReal.top_add_coe]
    · simp
    · rw [EReal.bot_add, EReal.coe_mul_bot_of_pos h, EReal.bot_add]
  | top =>
    rcases lt_trichotomy r 0 with h | rfl | h
    · rw [EReal.top_add_coe, EReal.coe_mul_top_of_neg h, EReal.bot_add]
    · simp
    · rw [EReal.top_add_coe, EReal.coe_mul_top_of_pos h, ← EReal.coe_mul, EReal.top_add_coe]

/-- A real factor that is not negative goes inside a sum of two. -/
theorem add_mul_coe {k : ℝ} (hk : 0 ≤ k) (a b : EReal) : (a + b) * (k : EReal) = a * k + b * k := by
  rcases hk.eq_or_lt with rfl | h
  · simp
  · induction a <;> induction b <;>
      simp only [EReal.bot_add, EReal.add_bot, EReal.bot_mul_coe_of_pos h, EReal.top_mul_coe_of_pos h,
        EReal.top_add_coe, EReal.coe_add_top, EReal.top_add_top, ← EReal.coe_mul, ← EReal.coe_add, add_mul]

theorem sum_mul_coe {k : ℝ} (hk : 0 ≤ k) {ι : Type} (s : Finset ι) (f : ι → EReal) :
    (∑ i ∈ s, f i) * (k : EReal) = ∑ i ∈ s, f i * k := by
  classical
  induction s using Finset.induction_on with
  | empty => simp
  | insert a s ha ih => rw [Finset.sum_insert ha, Finset.sum_insert ha, add_mul_coe hk, ih]

/-- The output convolution of the mixed features, the skip connection projected apart and the mask's half factored
    out of both. -/
theorem conv_mix (C : ℕ) (w : ℕ → EReal) (D S M : Img) (hw : ∀ c, IsR (w c)) (hS : RImg S) (hM : Mask M) (n y x : ℕ) :
    (conv C w (fun n c y x => leaky (D n c y x)) n y x + conv C w S n y x) * (Ideal.ofBits .f32 0x3F000000#32 * M n 0 y x)
      = conv C w (mix D S M) n y x := by
  obtain ⟨r, h0, hr⟩ := hM n 0 y x
  unfold conv mix
  rw [← Finset.sum_add_distrib, hr, half_eq, ← EReal.coe_mul, sum_mul_coe (by positivity)]
  refine Finset.sum_congr rfl fun c _ => ?_
  obtain ⟨a, ha⟩ := hw c
  obtain ⟨s, hs⟩ := hS n c y x
  rw [ha, hs, ← coe_mul_add, ← add_mul_coe h0]
  rw [mul_assoc (a : EReal), mul_assoc (leaky _ + _), ← EReal.coe_mul r, mul_comm (1 / 2 : ℝ) r]

/-! ## Tame arguments -/

/-- The mask is nowhere negative, and what the mask predictors and the last skip connection read is real. -/
structure Tame (N : Net) : Prop where
  m0 : Mask N.m0
  x0 : RImg N.x0
  s1 : RImg N.s1
  s2 : RImg N.s2
  s3 : RImg N.s3
  d1 : RImg N.d1
  e1 : ∀ k, IsR (N.e1 k)
  d2 : RImg N.d2
  e2 : ∀ k, IsR (N.e2 k)
  o3 : ∀ c, IsR (N.o3 c)
  a0 : ∀ c k, IsR (N.a0 c k)
  b0 : ∀ k, IsR (N.b0 k)
  f0 : ∀ c k, IsR (N.f0 c k)
  g0 : ∀ k, IsR (N.g0 k)
  a1 : ∀ c k, IsR (N.a1 c k)
  b1 : ∀ k, IsR (N.b1 k)
  f1 : ∀ c k, IsR (N.f1 c k)
  g1 : ∀ k, IsR (N.g1 k)
  a2 : ∀ c k, IsR (N.a2 c k)
  b2 : ∀ k, IsR (N.b2 k)
  f2 : ∀ c k, IsR (N.f2 c k)
  g2 : ∀ k, IsR (N.g2 k)

namespace Tame

variable {N : Net} (h : Tame N)
include h

theorem l0 : RImg N.l0 := logit_isR h.a0 h.b0 h.f0 h.g0 h.x0 h.m0.isR
theorem m1 : Mask N.m1 := grow_mask (rest_mask _ h.m0)
theorem x1 : RImg N.x1 := mix_isR (dec_isR h.d1 h.e1 h.x0) h.s1 h.m1.isR
theorem l1 : RImg N.l1 := logit_isR h.a1 h.b1 h.f1 h.g1 h.x1 h.m1.isR
theorem m2 : Mask N.m2 := grow_mask (rest_mask _ h.m1)
theorem x2 : RImg N.x2 := mix_isR (dec_isR h.d2 h.e2 h.x1) h.s2 h.m2.isR
theorem l2 : RImg N.l2 := logit_isR h.a2 h.b2 h.f2 h.g2 h.x2 h.m2.isR
theorem m3 : Mask N.m3 := grow_mask (rest_mask _ h.m2)

end Tame

end Cert.Dec
-- ==== Proof.Lanes.lean ====
/- Lanes of the levels' arrays: chunk `s` of 1024 lanes holds the columns that are `s` modulo the number of chunks. -/
module

public import proofs.«01_k».proof.Proof.Spec

@[expose] public section

set_option maxRecDepth 16384

noncomputable section

namespace Cert.Dec.Ker

open Idealize.ShloMosaic

/-- The image row of lane `l`, the rows being `S` modulo `G`. -/
def row (G S l : ℕ) : ℕ := l % 1024 / 32 * G + S

/-- The image column of lane `l`, of `G` chunks. -/
def col (G l : ℕ) : ℕ := l % 1024 % 32 * G + l / 1024

/-- A comparison's bit, widened and read as a number. -/
theorem sbit_eq (p : Prop) [Decidable p] :
    FloatOps.sitofp (F := Ideal) FTy.f32 (BitVec.setWidth 32 (BitVec.ofBool (decide p))) = if p then (1 : EReal) else 0 := by
  by_cases h : p
  · simp only [h, decide_true, if_true]
    show ((((BitVec.setWidth 32 (BitVec.ofBool true)).toInt : ℝ)) : EReal) = 1
    rw [show (BitVec.setWidth 32 (BitVec.ofBool true)).toInt = 1 by decide]
    simp
  · simp only [h, decide_false, if_false]
    show ((((BitVec.setWidth 32 (BitVec.ofBool false)).toInt : ℝ)) : EReal) = 0
    rw [show (BitVec.setWidth 32 (BitVec.ofBool false)).toInt = 0 by decide]
    simp

/-- A choice by a decided bit. -/
theorem sel_eq {α : Type} (p : Prop) [Decidable p] (a b : α) :
    Scalar.select (BitVec.ofBool (decide p)) a b = if p then a else b := by
  by_cases h : p
  · simp only [h, decide_true, if_true]; rfl
  · simp only [h, decide_false, if_false]; rfl

/-- The remainder of lane `l` by `m`, as the kernel computes it. -/
def rem (m : BitVec 32) (l : ℕ) : BitVec 32 :=
  Scalar.select
    (IntOp.andi
      (IntOp.xori
        (IntOp.cmpi .slt (IntOp.remsi .vector (BitVec.ofNat 32 l) (Scalar.select (Scalar.cmpi .eq m 0#32) 1#32 m)) 0#32)
        (Scalar.cmpi .slt (Scalar.select (Scalar.cmpi .eq m 0#32) 1#32 m) 0#32))
      (IntOp.cmpi .ne (IntOp.remsi .vector (BitVec.ofNat 32 l) (Scalar.select (Scalar.cmpi .eq m 0#32) 1#32 m)) 0#32))
    (IntOp.addi (IntOp.remsi .vector (BitVec.ofNat 32 l) (Scalar.select (Scalar.cmpi .eq m 0#32) 1#32 m))
      (Scalar.select (Scalar.cmpi .eq m 0#32) 1#32 m))
    (IntOp.remsi .vector (BitVec.ofNat 32 l) (Scalar.select (Scalar.cmpi .eq m 0#32) 1#32 m))

theorem rem_row : ∀ l : Fin 4096, IntOp.cmpi .slt (rem 1024#32 l) 32#32 = BitVec.ofBool (decide (l.val % 1024 < 32)) := by
  decide +kernel

theorem rem_col : ∀ l : Fin 4096, IntOp.cmpi .eq (rem 32#32 l) 0#32 = BitVec.ofBool (decide (l.val % 1024 % 32 = 0)) := by
  decide +kernel

/-- A choice by whether the lane stands in its chunk's first row. -/
theorem sel_row {α : Type} (l : ℕ) (h : l < 4096) (a b : α) :
    Scalar.select (IntOp.cmpi .slt (rem 1024#32 l) 32#32) a b = if l % 1024 < 32 then a else b := by
  rw [rem_row ⟨l, h⟩, sel_eq]

/-- A choice by whether the lane stands in its chunk's first column. -/
theorem sel_col {α : Type} (l : ℕ) (h : l < 4096) (a b : α) :
    Scalar.select (IntOp.cmpi .eq (rem 32#32 l) 0#32) a b = if l % 1024 % 32 = 0 then a else b := by
  rw [rem_col ⟨l, h⟩, sel_eq]

/-- A row further up. -/
theorem lane_up {l : ℕ} (h : ¬ l % 1024 < 32) :
    (l - 32) % 1024 / 32 + 1 = l % 1024 / 32 ∧ (l - 32) % 1024 % 32 = l % 1024 % 32 ∧ (l - 32) / 1024 = l / 1024 := by
  have e₁ : (l - 32) % 1024 = l % 1024 - 32 := by omega
  have e₂ : (l - 32) / 1024 = l / 1024 := by omega
  rw [e₁, e₂]
  omega

/-- A column further left. -/
theorem lane_left {l : ℕ} (h : ¬ l % 1024 % 32 = 0) :
    (l - 1) % 1024 / 32 = l % 1024 / 32 ∧ (l - 1) % 1024 % 32 + 1 = l % 1024 % 32 ∧ (l - 1) / 1024 = l / 1024 := by
  have e₁ : (l - 1) % 1024 = l % 1024 - 1 := by omega
  have e₂ : (l - 1) / 1024 = l / 1024 := by omega
  rw [e₁, e₂]
  omega

theorem eq_zero : ∀ S : Fin 4, Scalar.cmpi .eq (BitVec.ofNat 32 S.val) 0#32 = BitVec.ofBool (decide (S.val = 0)) := by
  decide +kernel

/-- A choice by whether the chunk is the first. -/
theorem sel_first {α : Type} (S : ℕ) (h : S < 4) (a b : α) :
    Scalar.select (Scalar.cmpi .eq (BitVec.ofNat 32 S) 0#32) a b = if S = 0 then a else b := by
  rw [eq_zero ⟨S, h⟩, sel_eq]

/-! The transposed convolution at the four parities of the output pixel. -/

section Dec

variable {C : ℕ} {w : Img} {b : ℕ → EReal} {X : Img} {n o y x r c : ℕ}

theorem dec_00 (hy : y = 2 * r) (hx : x = 2 * c) :
    conv C (fun c => w 2 2 c o) X n r c + conv C (fun c => w 0 2 c o) (down X) n r c + conv C (fun c => w 2 0 c o) (right X) n r c
      + conv C (fun c => w 0 0 c o) (right (down X)) n r c + b o = dec C w b X n o y x := by
  subst hy hx
  rw [dec, if_pos (by omega), if_pos (by omega), Nat.mul_div_cancel_left r two_pos, Nat.mul_div_cancel_left c two_pos]

theorem dec_01 (hy : y = 2 * r) (hx : x = 2 * c + 1) :
    conv C (fun c => w 2 1 c o) X n r c + conv C (fun c => w 0 1 c o) (down X) n r c + b o = dec C w b X n o y x := by
  subst hy hx
  rw [dec, if_pos (by omega), if_neg (by omega), Nat.mul_div_cancel_left r two_pos, show (2 * c + 1) / 2 = c by omega]

theorem dec_10 (hy : y = 2 * r + 1) (hx : x = 2 * c) :
    conv C (fun c => w 1 2 c o) X n r c + conv C (fun c => w 1 0 c o) (right X) n r c + b o = dec C w b X n o y x := by
  subst hy hx
  rw [dec, if_neg (by omega), if_pos (by omega), Nat.mul_div_cancel_left c two_pos, show (2 * r + 1) / 2 = r by omega]

theorem dec_11 (hy : y = 2 * r + 1) (hx : x = 2 * c + 1) :
    conv C (fun c => w 1 1 c o) X n r c + b o = dec C w b X n o y x := by
  subst hy hx
  rw [dec, if_neg (by omega), if_neg (by omega), show (2 * r + 1) / 2 = r by omega, show (2 * c + 1) / 2 = c by omega]

theorem grow_of {M : Img} {p q : ℕ} (hp : p < 2) (hq : q < 2) (hy : y = 2 * r + p) (hx : x = 2 * c + q) :
    M n 0 r c = grow M n 0 y x := by
  subst hy hx
  rw [grow, show (2 * r + p) / 2 = r by omega, show (2 * c + q) / 2 = c by omega]

end Dec

/-- The same pixel, spelt in two ways. -/
theorem img_congr (X : Img) (n k : ℕ) {y x y' x' : ℕ} (hy : y = y') (hx : x = x') : X n k y x = X n k y' x' := by
  rw [hy, hx]

end Cert.Dec.Ker
-- ==== Proof.K0.lean ====
/- The first level's call: its four results at lane `l`, which is the pixel at row `l / 32`, column `l % 32`. -/
module

public import proofs.«01_k».proof.Proof.Lanes
public import proofs.«01_k».proof.Proof.Gen.KernelIdeal.Frame.Region0
public import Idealize.ShloMosaic.Lib.Pipeline.ValueKit

@[expose] public section

set_option maxRecDepth 16384

noncomputable section

namespace Cert.Dec.Ker

open Cert.KernelIdeal Cert.KernelIdeal.Gen Idealize.ShloMosaic Idealize.ShloMosaic.TcCoe Idealize.ShloMosaic.Pipeline

/-- The buffers' contents when a call is entered. -/
abbrev Bufs := (c : Dev nD) → (b : Ref sig .tc) → Buf (Elt Ideal) ((c : Thread nD τ).loc b)

/-- What the first call's operands hold. -/
structure In0 (V : Bufs) (c : Dev nD) (X M : Img) (w₁ : ℕ → ℕ → EReal) (b₁ : ℕ → EReal) (w₂ : ℕ → ℕ → EReal) (b₂ : ℕ → EReal)
    (w : ℕ → EReal) (b : EReal) : Prop where
  x : ∀ (n : Fin 4) (k : Fin 256) (l : Fin 1024), V c main_v0 (ix3 n k l) = X n k (l / 32) (l % 32)
  m : ∀ (n : Fin 4) (l : Fin 1024), V c main_v1 (ix3 n 0 l) = M n 0 (l / 32) (l % 32)
  w₁ : ∀ (o : Fin 32) (k : Fin 256), V c main_v2 (ix2 o k) = w₁ k o
  b₁ : ∀ o : Fin 32, V c main_v3 (ix2 o 0) = b₁ o
  w₂ : ∀ (o : Fin 2) (k : Fin 32), V c main_v4 (ix2 o k) = w₂ k o
  b₂ : ∀ o : Fin 2, V c main_v5 (ix2 o 0) = b₂ o
  w : ∀ k : Fin 256, V c main_v6 (ix2 0 k) = w k
  b : V c main_v7 (ix2 0 0) = b

theorem idx0 : ∀ t : Fin cfg0.N, t.val < 4 ∧ win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0, 0] ∧ win0_9.index t = ![t.val, 0, 0] ∧ win0_10.index t = ![t.val, 0, 0]
    ∧ win0_11.index t = ![t.val, 0, 0] := (by decide +kernel : ∀ t : Fin grid0.N, _)

section Blocks

variable {V : Bufs} {c : Dev nD} {X M : Img} {w₁ : ℕ → ℕ → EReal} {b₁ : ℕ → EReal} {w₂ : ℕ → ℕ → EReal} {b₂ : ℕ → EReal} {w : ℕ → EReal} {b : EReal}
  (h : In0 V c X M w₁ b₁ w₂ b₂ w b) (t : Fin cfg0.N)

include h

theorem blk0_x (k : Fin 256) (l : Fin 1024) : iblk0 V c 0 t (ix3 0 k l) = X t k (l / 32) (l % 32) := by
  refine Eq.trans ?_ (h.x ⟨t, (idx0 t).1⟩ k l)
  blk_ext [iblk0, idx0 t]

theorem blk0_m (l : Fin 1024) : iblk0 V c 1 t (ix3 0 0 l) = M t 0 (l / 32) (l % 32) := by
  refine Eq.trans ?_ (h.m ⟨t, (idx0 t).1⟩ l)
  blk_ext [iblk0, idx0 t]

theorem blk0_w₁ (o : Fin 32) (k : Fin 256) : iblk0 V c 2 t (ix2 o k) = w₁ k o := by
  refine Eq.trans ?_ (h.w₁ o k)
  blk_ext [iblk0, idx0 t]

theorem blk0_b₁ (o : Fin 32) : iblk0 V c 3 t (ix2 o 0) = b₁ o := by
  refine Eq.trans ?_ (h.b₁ o)
  blk_ext [iblk0, idx0 t]

theorem blk0_w₂ (o : Fin 2) (k : Fin 32) : iblk0 V c 4 t (ix2 o k) = w₂ k o := by
  refine Eq.trans ?_ (h.w₂ o k)
  blk_ext [iblk0, idx0 t]

theorem blk0_b₂ (o : Fin 2) : iblk0 V c 5 t (ix2 o 0) = b₂ o := by
  refine Eq.trans ?_ (h.b₂ o)
  blk_ext [iblk0, idx0 t]

theorem blk0_w (k : Fin 256) : iblk0 V c 6 t (ix2 0 k) = w k := by
  refine Eq.trans ?_ (h.w k)
  blk_ext [iblk0, idx0 t]

theorem blk0_b : iblk0 V c 7 t (ix2 0 0) = b := by
  refine Eq.trans ?_ h.b
  blk_ext [iblk0, idx0 t]

/-- The logits. -/
theorem call0_logit : (dat0 V c).arrAt 9 cfg0.N = fun i => logit 256 w₁ b₁ w₂ b₂ X M (i 0) (i 1) (i 2 / 32) (i 2 % 32) := by
  refine (dat0 V c).arrAt_eq_of_covers 9 _ (by decide +kernel) fun t _ y => ?_
  blk_simp
  rw [after0_9]
  frame_out
  blk_simp [idx0 t]
  idx_vars y
  pointwise [k0_pay2, k0_pay7, k0_pay6, k0_pay5, blk0_x h t, blk0_m h t, blk0_w₁ h t, blk0_b₁ h t, blk0_w₂ h t, blk0_b₂ h t, blk0_w h t, blk0_b h t]
  rfl

/-- The mask kept. -/
theorem call0_keep : (dat0 V c).arrAt 10 cfg0.N = fun i => keep (logit 256 w₁ b₁ w₂ b₂ X M) M (i 0) 0 (i 2 / 32) (i 2 % 32) := by
  refine (dat0 V c).arrAt_eq_of_covers 10 _ (by decide +kernel) fun t _ y => ?_
  blk_simp
  rw [after0_10]
  frame_out
  blk_simp [idx0 t]
  idx_vars y
  pointwise [k0_pay3, k0_pay10, k0_pay8, k0_pay7, k0_pay6, k0_pay5, blk0_x h t, blk0_m h t, blk0_w₁ h t, blk0_b₁ h t, blk0_w₂ h t, blk0_b₂ h t, blk0_w h t, blk0_b h t]
  simp only [sbit_eq]
  rfl

/-- The mask handed on. -/
theorem call0_rest : (dat0 V c).arrAt 11 cfg0.N = fun i => rest M (keep (logit 256 w₁ b₁ w₂ b₂ X M) M) (i 0) 0 (i 2 / 32) (i 2 % 32) := by
  refine (dat0 V c).arrAt_eq_of_covers 11 _ (by decide +kernel) fun t _ y => ?_
  blk_simp
  rw [after0_11]
  frame_out
  blk_simp [idx0 t]
  idx_vars y
  pointwise [k0_pay4, k0_pay10, k0_pay8, k0_pay7, k0_pay6, k0_pay5, blk0_x h t, blk0_m h t, blk0_w₁ h t, blk0_b₁ h t, blk0_w₂ h t, blk0_b₂ h t, blk0_w h t, blk0_b h t]
  simp only [sbit_eq]
  rfl

/-- The output. -/
theorem call0_out : (dat0 V c).arrAt 8 cfg0.N = fun i => outp 256 w b X (keep (logit 256 w₁ b₁ w₂ b₂ X M) M) (i 0) 0 (i 2 / 32) (i 2 % 32) := by
  refine (dat0 V c).arrAt_eq_of_covers 8 _ (by decide +kernel) fun t _ y => ?_
  blk_simp
  rw [after0_8]
  frame_out
  blk_simp [idx0 t]
  idx_vars y
  pointwise [k0_pay1, k0_pay9, k0_pay10, k0_pay8, k0_pay7, k0_pay6, k0_pay5, blk0_x h t, blk0_m h t, blk0_w₁ h t, blk0_b₁ h t, blk0_w₂ h t, blk0_b₂ h t, blk0_w h t, blk0_b h t]
  simp only [sbit_eq]
  rfl

end Blocks

end Cert.Dec.Ker
-- ==== Proof.H0.lean ====
/- The operations before the first call: what its operands hold. -/
module

public import proofs.«01_k».proof.Proof.K0
public import proofs.«01_k».proof.Proof.Gen.KernelIdeal.Frame.Fold0
public import Idealize.ShloMosaic.Lib.StableHlo.ReadAt

@[expose] public section

set_option maxRecDepth 16384

noncomputable section

namespace Cert.Dec.Ker

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-- The arguments core `c` is given. -/
def argsOf : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)
  x26 := m ((c : Thread nD τ).loc main_arg26)
  x27 := m ((c : Thread nD τ).loc main_arg27)
  x28 := m ((c : Thread nD τ).loc main_arg28)
  x29 := m ((c : Thread nD τ).loc main_arg29)
  x30 := m ((c : Thread nD τ).loc main_arg30)

theorem in0_x (n : Fin 4) (k : Fin 256) (l : Fin 1024) : V1 m ρ c main_v0 (ix3 n k l) = (argsOf m c).net.x0 n k (l / 32) (l % 32) := by
  unfold_abbrev_sides
  after_reads_at
  exact (congrFun (W0_args m ρ c main_arg0 (by decide)) _).trans (rd4_fin _ n k ⟨l / 32, _⟩ ⟨l % 32, _⟩)

theorem in0_m (n : Fin 4) (l : Fin 1024) : V1 m ρ c main_v1 (ix3 n 0 l) = (argsOf m c).net.m0 n 0 (l / 32) (l % 32) := by
  unfold_abbrev_sides
  after_reads_at
  exact (congrFun (W0_args m ρ c main_arg1 (by decide)) _).trans (rd4_fin _ n 0 ⟨l / 32, _⟩ ⟨l % 32, _⟩)

theorem in0_w₁ (o : Fin 32) (k : Fin 256) : V1 m ρ c main_v2 (ix2 o k) = (argsOf m c).net.a0 k o := by
  unfold_abbrev_sides
  after_reads_at
  exact (congrFun (W0_args m ρ c main_arg19 (by decide)) _).trans (rd2_fin _ k o)

theorem in0_b₁ (o : Fin 32) : V1 m ρ c main_v3 (ix2 o 0) = (argsOf m c).net.b0 o := by
  unfold_abbrev_sides
  after_reads_at
  exact (congrFun (W0_args m ρ c main_arg20 (by decide)) _).trans (rd1_fin _ o)

theorem in0_w₂ (o : Fin 2) (k : Fin 32) : V1 m ρ c main_v4 (ix2 o k) = (argsOf m c).net.f0 k o := by
  unfold_abbrev_sides
  after_reads_at
  exact (congrFun (W0_args m ρ c main_arg21 (by decide)) _).trans (rd2_fin _ k o)

theorem in0_b₂ (o : Fin 2) : V1 m ρ c main_v5 (ix2 o 0) = (argsOf m c).net.g0 o := by
  unfold_abbrev_sides
  after_reads_at
  exact (congrFun (W0_args m ρ c main_arg22 (by decide)) _).trans (rd1_fin _ o)

theorem in0_w (k : Fin 256) : V1 m ρ c main_v6 (ix2 0 k) = (argsOf m c).net.o0 k := by
  unfold_abbrev_sides
  after_reads_at
  exact (congrFun (W0_args m ρ c main_arg11 (by decide)) _).trans (rd2_fin _ k 0)

theorem in0_b : V1 m ρ c main_v7 (ix2 0 0) = (argsOf m c).net.p0 := by
  unfold_abbrev_sides
  after_reads_at
  exact (congrFun (W0_args m ρ c main_arg12 (by decide)) _).trans (rd1_fin _ 0)

/-- What call 0 is entered with. -/
theorem in0 : In0 (V1 m ρ) c (argsOf m c).net.x0 (argsOf m c).net.m0 (argsOf m c).net.a0 (argsOf m c).net.b0 (argsOf m c).net.f0 (argsOf m c).net.g0 (argsOf m c).net.o0 (argsOf m c).net.p0 :=
  ⟨in0_x m ρ c,
    in0_m m ρ c,
    in0_w₁ m ρ c,
    in0_b₁ m ρ c,
    in0_w₂ m ρ c,
    in0_b₂ m ρ c,
    in0_w m ρ c,
    in0_b m ρ c⟩

theorem res0_out (n : Fin 4) (l : Fin 1024) : W2 m ρ c main_v8_0 (ix3 n 0 l) = (argsOf m c).net.y0 n 0 (l / 32) (l % 32) :=
  congrFun ((W2_arr m ρ c 8).trans (call0_out (in0 m ρ c))) (ix3 n 0 l)

theorem res0_logit (n : Fin 4) (o : Fin 2) (l : Fin 1024) : W2 m ρ c main_v8_1 (ix3 n o l) = (argsOf m c).net.l0 n o (l / 32) (l % 32) :=
  congrFun ((W2_arr m ρ c 9).trans (call0_logit (in0 m ρ c))) (ix3 n o l)

theorem res0_keep (n : Fin 4) (l : Fin 1024) : W2 m ρ c main_v8_2 (ix3 n 0 l) = (argsOf m c).net.t0 n 0 (l / 32) (l % 32) :=
  congrFun ((W2_arr m ρ c 10).trans (call0_keep (in0 m ρ c))) (ix3 n 0 l)

theorem res0_rest (n : Fin 4) (l : Fin 1024) : W2 m ρ c main_v8_3 (ix3 n 0 l) = (argsOf m c).net.r0 n 0 (l / 32) (l % 32) :=
  congrFun ((W2_arr m ρ c 11).trans (call0_rest (in0 m ρ c))) (ix3 n 0 l)

end Cert.Dec.Ker
-- ==== Proof.Pre.lean ====
/- The precondition, entry by entry: the arguments it speaks of are real, and the mask is nowhere negative. -/
module

public import proofs.«01_k».proof.Defs
public import proofs.«01_k».proof.Proof.Facts
public import proofs.«01_k».proof.Proof.H0

@[expose] public section

set_option maxRecDepth 16384

noncomputable section

namespace Cert.Dec

open Idealize.ShloMosaic Idealize.ShloMosaic.TcCoe

/-- The shape relations of the precondition's operations. -/
instance preFacts : Cert.Pre_tame.Facts where
  bcast_S_S4x256x32x32 := by decide
  bcast_S_S4x1x32x32 := by decide
  bcast_S_S4x128x64x64 := by decide
  bcast_S_S4x64x128x128 := by decide
  bcast_S_S4x32x256x256 := by decide
  bcast_S_S3x3x256x128 := by decide
  bcast_S_S128 := by decide
  bcast_S_S3x3x128x64 := by decide
  bcast_S_S64 := by decide
  bcast_S_S32x1 := by decide
  bcast_S_S256x32 := by decide
  bcast_S_S32 := by decide
  bcast_S_S32x2 := by decide
  bcast_S_S2 := by decide
  bcast_S_S128x32 := by decide
  bcast_S_S64x32 := by decide

/-- A value whose size is below infinity is real. -/
theorem isR_of_lt {x : EReal} (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- A real value that is at least zero is a real at least zero. -/
theorem nonneg_of_ge {x : EReal} (hx : IsR x) (h : Ideal.cmp .oge x (Ideal.ofBits .f32 0x00000000#32) = 1#1) : ∃ r : ℝ, 0 ≤ r ∧ x = r := by
  obtain ⟨r, rfl⟩ := hx
  rw [Ideal.ofBits_zero_f32] at h
  refine ⟨r, ?_, rfl⟩
  by_contra hr
  have hr' : ¬ ((0 : EReal) ≤ (r : EReal)) := fun h' => hr (by exact_mod_cast h')
  simp [Ideal.cmp, hr'] at h

/-- An array whose sizes are all below infinity has real entries. -/
theorem isR_of_pre {S : Shape} {A : FVec Ideal S .f32} {e : (⟨0, ![]⟩ : Shape).BroadcastsInDim S ![]}
    (h : cmpf .olt (Host.absf A) (broadcastInDim S ![] e (constant (F := Ideal) ⟨0, ![]⟩ .f32 0x7F800000#32)) = fun _ => 1#1) (i : S.Idx) :
    IsR (A i) := isR_of_lt (congrFun h i)

/-- An array of reals found at least zero has entries that are reals at least zero. -/
theorem nonneg_of_pre {S : Shape} {A : FVec Ideal S .f32} {e : (⟨0, ![]⟩ : Shape).BroadcastsInDim S ![]} (hA : ∀ i, IsR (A i))
    (h : cmpf .oge A (broadcastInDim S ![] e (constant (F := Ideal) ⟨0, ![]⟩ .f32 0x00000000#32)) = fun _ => 1#1) (i : S.Idx) :
    ∃ r : ℝ, 0 ≤ r ∧ A i = r := nonneg_of_ge (hA i) (congrFun h i)

theorem rd4_isR {a b c d : ℕ} {A : (⟨⟨4, ![a, b, c, d]⟩, .f32⟩ : BufTy).Contents (Elt Ideal)} (h : ∀ i, IsR (A i)) : RImg (rd4 A) := by
  intro n k y x
  unfold rd4
  split
  · exact h _
  · exact ⟨0, rfl⟩

theorem rd4_mask {a b c d : ℕ} {A : (⟨⟨4, ![a, b, c, d]⟩, .f32⟩ : BufTy).Contents (Elt Ideal)} (h : ∀ i, ∃ r : ℝ, 0 ≤ r ∧ A i = r) : Mask (rd4 A) := by
  intro n k y x
  unfold rd4
  split
  · exact h _
  · exact ⟨0, le_refl _, rfl⟩

theorem rd2_isR {a b : ℕ} {A : (⟨⟨2, ![a, b]⟩, .f32⟩ : BufTy).Contents (Elt Ideal)} (h : ∀ i, IsR (A i)) (n k : ℕ) : IsR (rd2 A n k) := by
  unfold rd2
  split
  · exact h _
  · exact ⟨0, rfl⟩

theorem rd1_isR {a : ℕ} {A : (⟨⟨1, ![a]⟩, .f32⟩ : BufTy).Contents (Elt Ideal)} (h : ∀ i, IsR (A i)) (n : ℕ) : IsR (rd1 A n) := by
  unfold rd1
  split
  · exact h _
  · exact ⟨0, rfl⟩

open Cert.KernelIdeal in
/-- Arguments that meet the precondition are tame. -/
theorem tame_of_pre (m : (ℓ : Loc nD τ sig) → Buf (Elt Ideal) ℓ) (h : Cert.Pre_KernelIdeal_tame m) (c : Dev nD) : Tame (Ker.argsOf m c).net := by
  obtain ⟨h0, h1, h2, h3, h4, h5, h6, h7, h8, h9, h10, h11, h12, h13, h14, h15, h16, h17, h18, h19, h20, h21, h22⟩ := h c
  exact {
    m0 := rd4_mask (nonneg_of_pre (isR_of_pre h2) h0)
    x0 := rd4_isR (isR_of_pre h1)
    s1 := rd4_isR (isR_of_pre h3)
    s2 := rd4_isR (isR_of_pre h4)
    s3 := rd4_isR (isR_of_pre h5)
    d1 := rd4_isR (isR_of_pre h6)
    e1 := rd1_isR (isR_of_pre h7)
    d2 := rd4_isR (isR_of_pre h8)
    e2 := rd1_isR (isR_of_pre h9)
    o3 := fun k => rd2_isR (isR_of_pre h10) k 0
    a0 := rd2_isR (isR_of_pre h11)
    b0 := rd1_isR (isR_of_pre h12)
    f0 := rd2_isR (isR_of_pre h13)
    g0 := rd1_isR (isR_of_pre h14)
    a1 := rd2_isR (isR_of_pre h15)
    b1 := rd1_isR (isR_of_pre h16)
    f1 := rd2_isR (isR_of_pre h17)
    g1 := rd1_isR (isR_of_pre h18)
    a2 := rd2_isR (isR_of_pre h19)
    b2 := rd1_isR (isR_of_pre h20)
    f2 := rd2_isR (isR_of_pre h21)
    g2 := rd1_isR (isR_of_pre h22) }

end Cert.Dec
-- ==== Proof.Ref0.lean ====
/- The reference's first level, entry by entry. Its images are flattened, pixel `p` standing at row `p / 32`, column `p % 32`. -/
module

public import proofs.«01_k».proof.Proof.Facts
public import proofs.«01_k».proof.Proof.Gen.ReferenceIdeal.Read

@[expose] public section

set_option maxRecDepth 16384

noncomputable section

namespace Cert.Dec.Ref

open Cert.ReferenceIdeal Cert.ReferenceIdeal.Gen Cert.ReferenceIdeal.Read Idealize.ShloMosaic

variable (a : Args)

/-- The input. -/
theorem feat0 (n : Fin 4) (c : Fin 256) (p : Fin 1024) :
    val_main_v0 (F := Ideal) a.x0 (ix3 n c p) = a.net.x0 n c (p / 32) (p % 32) := by
  pointwise [val_main_v0]
  simp only [rd4_fin]
  rfl

/-- The mask. -/
theorem mask0 (n : Fin 4) (p : Fin 1024) :
    val_main_v1 (F := Ideal) a.x1 (ix3 n 0 p) = a.net.m0 n 0 (p / 32) (p % 32) := by
  pointwise [val_main_v1]
  simp only [rd4_fin]
  rfl

/-- The first level's logits. -/
theorem logit0 (n : Fin 4) (o : Fin 2) (p : Fin 1024) :
    val_main_v16 (F := Ideal) a.x0 a.x1 a.x19 a.x20 a.x21 a.x22 (ix3 n o p) = a.net.l0 n o (p / 32) (p % 32) := by
  pointwise [val_main_v16, val_main_v14, val_main_v15, val_main_v11, val_main_v13, val_main_v10, val_main_v12, val_main_v9, val_main_v7,
    val_main_v8, val_main_v6, val_main_call0_v0, val_main_v3, val_main_v5, val_main_call0_cst, val_main_v2, val_main_v4, feat0 a, mask0 a]
  simp only [rd2_fin, rd1_fin]
  rfl

/-- The mask the first level keeps. -/
theorem keep0 (h : Tame a.net) (n : Fin 4) (p : Fin 1024) :
    val_main_v32 (F := Ideal) a.x0 a.x1 a.x19 a.x20 a.x21 a.x22 (ix3 n 0 p) = a.net.t0 n 0 (p / 32) (p % 32) := by
  pointwise [val_main_v32, val_main_v31, val_main_v30, val_main_v28, val_main_v29, val_main_v27, val_main_cst_2, val_main_v23,
    val_main_v26, val_main_v22, val_main_v25, val_main_v21, val_main_v24, val_main_v20, val_main_cst_1, val_main_v19, val_main_v18,
    val_main_v17, val_main_cst_0, val_main_cst, logit0 a, mask0 a]
  simp only [bit_eq]
  exact keep_of_softmax a.net.l0 a.net.m0 h.l0 n 0 (p / 32) (p % 32)

/-- The first level's output. -/
theorem out0 (h : Tame a.net) (n : Fin 4) (p : Fin 1024) :
    val_main_v44 (F := Ideal) a.x0 a.x1 a.x11 a.x12 a.x19 a.x20 a.x21 a.x22 (ix3 n 0 p) = a.net.y0 n 0 (p / 32) (p % 32) := by
  pointwise [val_main_v44, val_main_v43, val_main_v42, val_main_v41, val_main_cst_4, val_main_v40, val_main_v39, val_main_cst_3,
    val_main_v38, val_main_v37, val_main_v34, val_main_v36, val_main_v33, val_main_v35, feat0 a, keep0 a h]
  simp only [rd2_fin, rd1_fin]
  rfl

end Cert.Dec.Ref
-- ==== Proof.Ref1.lean ====
/- The reference's second level, entry by entry. Its images are flattened, pixel `p` standing at row `p / 64`, column `p % 64`. -/
module

public import proofs.«01_k».proof.Proof.Ref0

@[expose] public section

set_option maxRecDepth 16384

noncomputable section

namespace Cert.Dec.Ref

open Cert.ReferenceIdeal Cert.ReferenceIdeal.Gen Cert.ReferenceIdeal.Read Idealize.ShloMosaic

variable (a : Args)

/-- The mask the second level enters with. -/
theorem mask1 (h : Tame a.net) (n : Fin 4) (p : Fin 4096) :
    val_main_v53 (F := Ideal) a.x0 a.x1 a.x19 a.x20 a.x21 a.x22 (ix3 n 0 p) = a.net.m1 n 0 (p / 64) (p % 64) := by
  pointwise [val_main_v53, val_main_v52, val_main_v51, val_main_v50, val_main_v49, val_main_v48, val_main_v47, val_main_v45, val_main_v46,
    val_main_cst_5, keep0 a h, mask0 a]
  have e₁ : ((p : ℕ) / 64 / 2 * 32 + (p : ℕ) % 64 / 2) / 32 = (p : ℕ) / 64 / 2 := by omega
  have e₂ : ((p : ℕ) / 64 / 2 * 32 + (p : ℕ) % 64 / 2) % 32 = (p : ℕ) % 64 / 2 := by omega
  rw [e₁, e₂]
  exact rest_max a.net.l0 h.m0 n 0 (p / 64 / 2) (p % 64 / 2)

/-- The first level's features, dilated. -/
theorem dil1 (n : Fin 4) (c : Fin 256) (y x : Fin 66) :
    val_main_v55 (F := Ideal) a.x0 (ix4 n c y x) = dil a.net.x0 n c y x := by
  pointwise [val_main_v55, val_main_v54, val_main_cst_6, feat0 a]
  unfold dil
  split
  · next hp =>
    have e₁ : (((y : ℕ) - 2) / 2 * 32 + ((x : ℕ) - 2) / 2) / 32 = ((y : ℕ) - 2) / 2 := by omega
    have e₂ : (((y : ℕ) - 2) / 2 * 32 + ((x : ℕ) - 2) / 2) % 32 = ((x : ℕ) - 2) / 2 := by omega
    rw [if_pos (by omega), e₁, e₂]
  · rw [if_neg (by omega)]

/-- The transposed convolution. -/
theorem dec1 (n : Fin 4) (o : Fin 128) (p : Fin 4096) :
    val_main_v122 (F := Ideal) a.x0 a.x5 a.x6 (ix3 n o p) = dec 256 a.net.d1 a.net.e1 a.net.x0 n o (p / 64) (p % 64) := by
  pointwise [val_main_v122, val_main_v119, val_main_v121, val_main_v112, val_main_v118, val_main_v120, val_main_v105, val_main_v111,
    val_main_v117, val_main_v98, val_main_v104, val_main_v110, val_main_v116, val_main_v114, val_main_v91, val_main_v97, val_main_v103,
    val_main_v109, val_main_v107, val_main_v115, val_main_v113, val_main_v84, val_main_v90, val_main_v96, val_main_v102, val_main_v100,
    val_main_v108, val_main_v106, val_main_v77, val_main_v83, val_main_v89, val_main_v95, val_main_v93, val_main_v101, val_main_v99,
    val_main_v70, val_main_v76, val_main_v82, val_main_v88, val_main_v86, val_main_v94, val_main_v92, val_main_v63, val_main_v69,
    val_main_v75, val_main_v81, val_main_v79, val_main_v87, val_main_v85, val_main_v62, val_main_v61, val_main_v68, val_main_v74,
    val_main_v72, val_main_v80, val_main_v78, val_main_cst_7, val_main_v60, val_main_v67, val_main_v65, val_main_v73, val_main_v71,
    val_main_v59, val_main_v57, val_main_v66, val_main_v64, val_main_v58, val_main_v56, dil1 a]
  simp only [rd4_fin, rd1_fin]
  exact dec_of_taps 256 a.net.d1 a.net.e1 a.net.x0 n o (p / 64) (p % 64)

/-- The second level's features. -/
theorem feat1 (h : Tame a.net) (n : Fin 4) (o : Fin 128) (p : Fin 4096) :
    val_main_v131 (F := Ideal) a.x0 a.x1 a.x2 a.x5 a.x6 a.x19 a.x20 a.x21 a.x22 (ix3 n o p) = a.net.x1 n o (p / 64) (p % 64) := by
  pointwise [val_main_v131, val_main_v129, val_main_v130, val_main_v125, val_main_v128, val_main_cst_9, val_main_v123, val_main_v124,
    val_main_v126, val_main_v127, val_main_call1_v1, val_main_call1_v4, val_main_call1_v0, val_main_call1_v3, val_main_call1_cst,
    val_main_call1_v2, val_main_cst_8, dec1 a, mask1 a h]
  rw [div_two]
  simp only [rd4_fin]
  rfl

/-- The second level's logits. -/
theorem logit1 (h : Tame a.net) (n : Fin 4) (o : Fin 2) (p : Fin 4096) :
    val_main_v146 (F := Ideal) a.x0 a.x1 a.x2 a.x5 a.x6 a.x19 a.x20 a.x21 a.x22 a.x23 a.x24 a.x25 a.x26 (ix3 n o p) = a.net.l1 n o (p / 64) (p % 64) := by
  pointwise [val_main_v146, val_main_v144, val_main_v145, val_main_v141, val_main_v143, val_main_v140, val_main_v142, val_main_v139,
    val_main_v137, val_main_v138, val_main_v136, val_main_call2_v0, val_main_v133, val_main_v135, val_main_call2_cst, val_main_v132,
    val_main_v134, feat1 a h, mask1 a h]
  simp only [rd2_fin, rd1_fin]
  rfl

/-- The mask the second level keeps. -/
theorem keep1 (h : Tame a.net) (n : Fin 4) (p : Fin 4096) :
    val_main_v162 (F := Ideal) a.x0 a.x1 a.x2 a.x5 a.x6 a.x19 a.x20 a.x21 a.x22 a.x23 a.x24 a.x25 a.x26 (ix3 n 0 p) = a.net.t1 n 0 (p / 64) (p % 64) := by
  pointwise [val_main_v162, val_main_v161, val_main_v160, val_main_v158, val_main_v159, val_main_v157, val_main_cst_13, val_main_v153,
    val_main_v156, val_main_v152, val_main_v155, val_main_v151, val_main_v154, val_main_v150, val_main_cst_12, val_main_v149,
    val_main_v148, val_main_v147, val_main_cst_11, val_main_cst_10, logit1 a h, mask1 a h]
  simp only [bit_eq]
  exact keep_of_softmax a.net.l1 a.net.m1 h.l1 n 0 (p / 64) (p % 64)

/-- The second level's output. -/
theorem out1 (h : Tame a.net) (n : Fin 4) (p : Fin 4096) :
    val_main_v174 (F := Ideal) a.x0 a.x1 a.x2 a.x5 a.x6 a.x13 a.x14 a.x19 a.x20 a.x21 a.x22 a.x23 a.x24 a.x25 a.x26 (ix3 n 0 p) = a.net.y1 n 0 (p / 64) (p % 64) := by
  pointwise [val_main_v174, val_main_v173, val_main_v172, val_main_v171, val_main_cst_15, val_main_v170, val_main_v169, val_main_cst_14,
    val_main_v168, val_main_v167, val_main_v164, val_main_v166, val_main_v163, val_main_v165, feat1 a h, keep1 a h]
  simp only [rd2_fin, rd1_fin]
  rfl

end Cert.Dec.Ref
-- ==== Proof.Ref2.lean ====
/- The reference's third level, entry by entry. Its images are flattened, pixel `p` standing at row `p / 128`, column `p % 128`. -/
module

public import proofs.«01_k».proof.Proof.Ref1

@[expose] public section

set_option maxRecDepth 16384

noncomputable section

namespace Cert.Dec.Ref

open Cert.ReferenceIdeal Cert.ReferenceIdeal.Gen Cert.ReferenceIdeal.Read Idealize.ShloMosaic

variable (a : Args)

/-- The mask the third level enters with. -/
theorem mask2 (h : Tame a.net) (n : Fin 4) (p : Fin 16384) :
    val_main_v183 (F := Ideal) a.x0 a.x1 a.x2 a.x5 a.x6 a.x19 a.x20 a.x21 a.x22 a.x23 a.x24 a.x25 a.x26 (ix3 n 0 p) = a.net.m2 n 0 (p / 128) (p % 128) := by
  pointwise [val_main_v183, val_main_v182, val_main_v181, val_main_v180, val_main_v179, val_main_v178, val_main_v177, val_main_v175,
    val_main_v176, val_main_cst_16, keep1 a h, mask1 a h]
  have e₁ : ((p : ℕ) / 128 / 2 * 64 + (p : ℕ) % 128 / 2) / 64 = (p : ℕ) / 128 / 2 := by omega
  have e₂ : ((p : ℕ) / 128 / 2 * 64 + (p : ℕ) % 128 / 2) % 64 = (p : ℕ) % 128 / 2 := by omega
  rw [e₁, e₂]
  exact rest_max a.net.l1 h.m1 n 0 (p / 128 / 2) (p % 128 / 2)

/-- The second level's features, dilated. -/
theorem dil2 (h : Tame a.net) (n : Fin 4) (c : Fin 128) (y x : Fin 130) :
    val_main_v185 (F := Ideal) a.x0 a.x1 a.x2 a.x5 a.x6 a.x19 a.x20 a.x21 a.x22 (ix4 n c y x) = dil a.net.x1 n c y x := by
  pointwise [val_main_v185, val_main_v184, val_main_cst_17, feat1 a h]
  unfold dil
  split
  · next hp =>
    have e₁ : (((y : ℕ) - 2) / 2 * 64 + ((x : ℕ) - 2) / 2) / 64 = ((y : ℕ) - 2) / 2 := by omega
    have e₂ : (((y : ℕ) - 2) / 2 * 64 + ((x : ℕ) - 2) / 2) % 64 = ((x : ℕ) - 2) / 2 := by omega
    rw [if_pos (by omega), e₁, e₂]
  · rw [if_neg (by omega)]

/-- The transposed convolution. -/
theorem dec2 (h : Tame a.net) (n : Fin 4) (o : Fin 64) (p : Fin 16384) :
    val_main_v252 (F := Ideal) a.x0 a.x1 a.x2 a.x5 a.x6 a.x7 a.x8 a.x19 a.x20 a.x21 a.x22 (ix3 n o p) = dec 128 a.net.d2 a.net.e2 a.net.x1 n o (p / 128) (p % 128) := by
  pointwise [val_main_v252, val_main_v249, val_main_v251, val_main_v242, val_main_v248, val_main_v250, val_main_v235, val_main_v241,
    val_main_v247, val_main_v228, val_main_v234, val_main_v240, val_main_v246, val_main_v244, val_main_v221, val_main_v227, val_main_v233,
    val_main_v239, val_main_v237, val_main_v245, val_main_v243, val_main_v214, val_main_v220, val_main_v226, val_main_v232, val_main_v230,
    val_main_v238, val_main_v236, val_main_v207, val_main_v213, val_main_v219, val_main_v225, val_main_v223, val_main_v231, val_main_v229,
    val_main_v200, val_main_v206, val_main_v212, val_main_v218, val_main_v216, val_main_v224, val_main_v222, val_main_v193, val_main_v199,
    val_main_v205, val_main_v211, val_main_v209, val_main_v217, val_main_v215, val_main_v192, val_main_v191, val_main_v198, val_main_v204,
    val_main_v202, val_main_v210, val_main_v208, val_main_cst_18, val_main_v190, val_main_v197, val_main_v195, val_main_v203,
    val_main_v201, val_main_v189, val_main_v187, val_main_v196, val_main_v194, val_main_v188, val_main_v186, dil2 a h]
  simp only [rd4_fin, rd1_fin]
  exact dec_of_taps 128 a.net.d2 a.net.e2 a.net.x1 n o (p / 128) (p % 128)

/-- The third level's features. -/
theorem feat2 (h : Tame a.net) (n : Fin 4) (o : Fin 64) (p : Fin 16384) :
    val_main_v261 (F := Ideal) a.x0 a.x1 a.x2 a.x3 a.x5 a.x6 a.x7 a.x8 a.x19 a.x20 a.x21 a.x22 a.x23 a.x24 a.x25 a.x26 (ix3 n o p) = a.net.x2 n o (p / 128) (p % 128) := by
  pointwise [val_main_v261, val_main_v259, val_main_v260, val_main_v255, val_main_v258, val_main_cst_20, val_main_v253, val_main_v254,
    val_main_v256, val_main_v257, val_main_call3_v1, val_main_call3_v4, val_main_call3_v0, val_main_call3_v3, val_main_call3_cst,
    val_main_call3_v2, val_main_cst_19, dec2 a h, mask2 a h]
  rw [div_two]
  simp only [rd4_fin]
  rfl

/-- The third level's logits. -/
theorem logit2 (h : Tame a.net) (n : Fin 4) (o : Fin 2) (p : Fin 16384) :
    val_main_v276 (F := Ideal) a.x0 a.x1 a.x2 a.x3 a.x5 a.x6 a.x7 a.x8 a.x19 a.x20 a.x21 a.x22 a.x23 a.x24 a.x25 a.x26 a.x27 a.x28 a.x29 a.x30 (ix3 n o p) = a.net.l2 n o (p / 128) (p % 128) := by
  pointwise [val_main_v276, val_main_v274, val_main_v275, val_main_v271, val_main_v273, val_main_v270, val_main_v272, val_main_v269,
    val_main_v267, val_main_v268, val_main_v266, val_main_call4_v0, val_main_v263, val_main_v265, val_main_call4_cst, val_main_v262,
    val_main_v264, feat2 a h, mask2 a h]
  simp only [rd2_fin, rd1_fin]
  rfl

/-- The mask the third level keeps. -/
theorem keep2 (h : Tame a.net) (n : Fin 4) (p : Fin 16384) :
    val_main_v292 (F := Ideal) a.x0 a.x1 a.x2 a.x3 a.x5 a.x6 a.x7 a.x8 a.x19 a.x20 a.x21 a.x22 a.x23 a.x24 a.x25 a.x26 a.x27 a.x28 a.x29 a.x30 (ix3 n 0 p) = a.net.t2 n 0 (p / 128) (p % 128) := by
  pointwise [val_main_v292, val_main_v291, val_main_v290, val_main_v288, val_main_v289, val_main_v287, val_main_cst_24, val_main_v283,
    val_main_v286, val_main_v282, val_main_v285, val_main_v281, val_main_v284, val_main_v280, val_main_cst_23, val_main_v279,
    val_main_v278, val_main_v277, val_main_cst_22, val_main_cst_21, logit2 a h, mask2 a h]
  simp only [bit_eq]
  exact keep_of_softmax a.net.l2 a.net.m2 h.l2 n 0 (p / 128) (p % 128)

/-- The third level's output. -/
theorem out2 (h : Tame a.net) (n : Fin 4) (p : Fin 16384) :
    val_main_v304 (F := Ideal) a.x0 a.x1 a.x2 a.x3 a.x5 a.x6 a.x7 a.x8 a.x15 a.x16 a.x19 a.x20 a.x21 a.x22 a.x23 a.x24 a.x25 a.x26 a.x27 a.x28 a.x29 a.x30 (ix3 n 0 p) = a.net.y2 n 0 (p / 128) (p % 128) := by
  pointwise [val_main_v304, val_main_v303, val_main_v302, val_main_v301, val_main_cst_26, val_main_v300, val_main_v299, val_main_cst_25,
    val_main_v298, val_main_v297, val_main_v294, val_main_v296, val_main_v293, val_main_v295, feat2 a h, keep2 a h]
  simp only [rd2_fin, rd1_fin]
  rfl

end Cert.Dec.Ref
-- ==== Proof.Ref3.lean ====
/- The reference's fourth level, entry by entry. Its images are flattened, pixel `p` standing at row `p / 256`, column `p % 256`. -/
module

public import proofs.«01_k».proof.Proof.Ref2

@[expose] public section

set_option maxRecDepth 16384

noncomputable section

namespace Cert.Dec.Ref

open Cert.ReferenceIdeal Cert.ReferenceIdeal.Gen Cert.ReferenceIdeal.Read Idealize.ShloMosaic

variable (a : Args)

/-- The mask the fourth level enters with. -/
theorem mask3 (h : Tame a.net) (n : Fin 4) (p : Fin 65536) :
    val_main_v313 (F := Ideal) a.x0 a.x1 a.x2 a.x3 a.x5 a.x6 a.x7 a.x8 a.x19 a.x20 a.x21 a.x22 a.x23 a.x24 a.x25 a.x26 a.x27 a.x28 a.x29 a.x30 (ix3 n 0 p) = a.net.m3 n 0 (p / 256) (p % 256) := by
  pointwise [val_main_v313, val_main_v312, val_main_v311, val_main_v310, val_main_v309, val_main_v308, val_main_v307, val_main_v305,
    val_main_v306, val_main_cst_27, keep2 a h, mask2 a h]
  have e₁ : ((p : ℕ) / 256 / 2 * 128 + (p : ℕ) % 256 / 2) / 128 = (p : ℕ) / 256 / 2 := by omega
  have e₂ : ((p : ℕ) / 256 / 2 * 128 + (p : ℕ) % 256 / 2) % 128 = (p : ℕ) % 256 / 2 := by omega
  rw [e₁, e₂]
  exact rest_max a.net.l2 h.m2 n 0 (p / 256 / 2) (p % 256 / 2)

/-- The third level's features, dilated. -/
theorem dil3 (h : Tame a.net) (n : Fin 4) (c : Fin 64) (y x : Fin 258) :
    val_main_v315 (F := Ideal) a.x0 a.x1 a.x2 a.x3 a.x5 a.x6 a.x7 a.x8 a.x19 a.x20 a.x21 a.x22 a.x23 a.x24 a.x25 a.x26 (ix4 n c y x) = dil a.net.x2 n c y x := by
  pointwise [val_main_v315, val_main_v314, val_main_cst_28, feat2 a h]
  unfold dil
  split
  · next hp =>
    have e₁ : (((y : ℕ) - 2) / 2 * 128 + ((x : ℕ) - 2) / 2) / 128 = ((y : ℕ) - 2) / 2 := by omega
    have e₂ : (((y : ℕ) - 2) / 2 * 128 + ((x : ℕ) - 2) / 2) % 128 = ((x : ℕ) - 2) / 2 := by omega
    rw [if_pos (by omega), e₁, e₂]
  · rw [if_neg (by omega)]

/-- The transposed convolution. -/
theorem dec3 (h : Tame a.net) (n : Fin 4) (o : Fin 32) (p : Fin 65536) :
    val_main_v382 (F := Ideal) a.x0 a.x1 a.x2 a.x3 a.x5 a.x6 a.x7 a.x8 a.x9 a.x10 a.x19 a.x20 a.x21 a.x22 a.x23 a.x24 a.x25 a.x26 (ix3 n o p) = dec 64 a.net.d3 a.net.e3 a.net.x2 n o (p / 256) (p % 256) := by
  pointwise [val_main_v382, val_main_v379, val_main_v381, val_main_v372, val_main_v378, val_main_v380, val_main_v365, val_main_v371,
    val_main_v377, val_main_v358, val_main_v364, val_main_v370, val_main_v376, val_main_v374, val_main_v351, val_main_v357, val_main_v363,
    val_main_v369, val_main_v367, val_main_v375, val_main_v373, val_main_v344, val_main_v350, val_main_v356, val_main_v362, val_main_v360,
    val_main_v368, val_main_v366, val_main_v337, val_main_v343, val_main_v349, val_main_v355, val_main_v353, val_main_v361, val_main_v359,
    val_main_v330, val_main_v336, val_main_v342, val_main_v348, val_main_v346, val_main_v354, val_main_v352, val_main_v323, val_main_v329,
    val_main_v335, val_main_v341, val_main_v339, val_main_v347, val_main_v345, val_main_v322, val_main_v321, val_main_v328, val_main_v334,
    val_main_v332, val_main_v340, val_main_v338, val_main_cst_29, val_main_v320, val_main_v327, val_main_v325, val_main_v333,
    val_main_v331, val_main_v319, val_main_v317, val_main_v326, val_main_v324, val_main_v318, val_main_v316, dil3 a h]
  simp only [rd4_fin, rd1_fin]
  exact dec_of_taps 64 a.net.d3 a.net.e3 a.net.x2 n o (p / 256) (p % 256)

/-- The fourth level's features. -/
theorem feat3 (h : Tame a.net) (n : Fin 4) (o : Fin 32) (p : Fin 65536) :
    val_main_v391 (F := Ideal) a.x0 a.x1 a.x2 a.x3 a.x4 a.x5 a.x6 a.x7 a.x8 a.x9 a.x10 a.x19 a.x20 a.x21 a.x22 a.x23 a.x24 a.x25 a.x26 a.x27 a.x28 a.x29 a.x30 (ix3 n o p) = a.net.x3 n o (p / 256) (p % 256) := by
  pointwise [val_main_v391, val_main_v389, val_main_v390, val_main_v385, val_main_v388, val_main_cst_31, val_main_v383, val_main_v384,
    val_main_v386, val_main_v387, val_main_call5_v1, val_main_call5_v4, val_main_call5_v0, val_main_call5_v3, val_main_call5_cst,
    val_main_call5_v2, val_main_cst_30, dec3 a h, mask3 a h]
  rw [div_two]
  simp only [rd4_fin]
  rfl

/-- The fourth level's output. -/
theorem out3 (h : Tame a.net) (n : Fin 4) (p : Fin 65536) :
    val_main_v403 (F := Ideal) a.x0 a.x1 a.x2 a.x3 a.x4 a.x5 a.x6 a.x7 a.x8 a.x9 a.x10 a.x17 a.x18 a.x19 a.x20 a.x21 a.x22 a.x23 a.x24 a.x25 a.x26 a.x27 a.x28 a.x29 a.x30 (ix3 n 0 p) = a.net.y3 n 0 (p / 256) (p % 256) := by
  pointwise [val_main_v403, val_main_v402, val_main_v401, val_main_v400, val_main_cst_33, val_main_v399, val_main_v398, val_main_cst_32,
    val_main_v397, val_main_v396, val_main_v393, val_main_v395, val_main_v392, val_main_v394, feat3 a h, mask3 a h]
  simp only [rd2_fin, rd1_fin]
  rfl

end Cert.Dec.Ref
-- ==== Proof.RefEnds.lean ====
/- The reference's eleven results, entry by entry: its flattened images put back into rows and columns. -/
module

public import proofs.«01_k».proof.Proof.Ref3
public import proofs.«01_k».proof.Proof.Lanes

@[expose] public section

set_option maxRecDepth 16384

noncomputable section

namespace Cert.Dec.Ref

open Cert.ReferenceIdeal Cert.ReferenceIdeal.Gen Cert.ReferenceIdeal.Read Idealize.ShloMosaic

variable (a : Args)

theorem v407_at (h : Tame a.net) (n : Fin 4) (y x : Fin 32) :
    val_main_v407 (F := Ideal) a.x0 a.x1 a.x11 a.x12 a.x19 a.x20 a.x21 a.x22 (ix4 n 0 y x) = a.net.y0 n 0 y x := by
  pointwise [val_main_v407, out0 a h]
  exact Ker.img_congr a.net.y0 _ _ (by omega) (by omega)

theorem v408_at (h : Tame a.net) (n : Fin 4) (y x : Fin 64) :
    val_main_v408 (F := Ideal) a.x0 a.x1 a.x2 a.x5 a.x6 a.x13 a.x14 a.x19 a.x20 a.x21 a.x22 a.x23 a.x24 a.x25 a.x26 (ix4 n 0 y x) = a.net.y1 n 0 y x := by
  pointwise [val_main_v408, out1 a h]
  exact Ker.img_congr a.net.y1 _ _ (by omega) (by omega)

theorem v409_at (h : Tame a.net) (n : Fin 4) (y x : Fin 128) :
    val_main_v409 (F := Ideal) a.x0 a.x1 a.x2 a.x3 a.x5 a.x6 a.x7 a.x8 a.x15 a.x16 a.x19 a.x20 a.x21 a.x22 a.x23 a.x24 a.x25 a.x26 a.x27 a.x28 a.x29 a.x30 (ix4 n 0 y x) = a.net.y2 n 0 y x := by
  pointwise [val_main_v409, out2 a h]
  exact Ker.img_congr a.net.y2 _ _ (by omega) (by omega)

theorem v410_at (h : Tame a.net) (n : Fin 4) (y x : Fin 256) :
    val_main_v410 (F := Ideal) a.x0 a.x1 a.x2 a.x3 a.x4 a.x5 a.x6 a.x7 a.x8 a.x9 a.x10 a.x17 a.x18 a.x19 a.x20 a.x21 a.x22 a.x23 a.x24 a.x25 a.x26 a.x27 a.x28 a.x29 a.x30 (ix4 n 0 y x) = a.net.y3 n 0 y x := by
  pointwise [val_main_v410, out3 a h]
  exact Ker.img_congr a.net.y3 _ _ (by omega) (by omega)

theorem v411_at (n : Fin 4) (o : Fin 2) (y x : Fin 32) :
    val_main_v411 (F := Ideal) a.x0 a.x1 a.x19 a.x20 a.x21 a.x22 (ix4 n o y x) = a.net.l0 n o y x := by
  pointwise [val_main_v411, logit0 a]
  exact Ker.img_congr a.net.l0 _ _ (by omega) (by omega)

theorem v412_at (h : Tame a.net) (n : Fin 4) (o : Fin 2) (y x : Fin 64) :
    val_main_v412 (F := Ideal) a.x0 a.x1 a.x2 a.x5 a.x6 a.x19 a.x20 a.x21 a.x22 a.x23 a.x24 a.x25 a.x26 (ix4 n o y x) = a.net.l1 n o y x := by
  pointwise [val_main_v412, logit1 a h]
  exact Ker.img_congr a.net.l1 _ _ (by omega) (by omega)

theorem v413_at (h : Tame a.net) (n : Fin 4) (o : Fin 2) (y x : Fin 128) :
    val_main_v413 (F := Ideal) a.x0 a.x1 a.x2 a.x3 a.x5 a.x6 a.x7 a.x8 a.x19 a.x20 a.x21 a.x22 a.x23 a.x24 a.x25 a.x26 a.x27 a.x28 a.x29 a.x30 (ix4 n o y x) = a.net.l2 n o y x := by
  pointwise [val_main_v413, logit2 a h]
  exact Ker.img_congr a.net.l2 _ _ (by omega) (by omega)

theorem v414_at (h : Tame a.net) (n : Fin 4) (y x : Fin 32) :
    val_main_v414 (F := Ideal) a.x0 a.x1 a.x19 a.x20 a.x21 a.x22 (ix4 n 0 y x) = a.net.t0 n 0 y x := by
  pointwise [val_main_v414, keep0 a h]
  exact Ker.img_congr a.net.t0 _ _ (by omega) (by omega)

theorem v415_at (h : Tame a.net) (n : Fin 4) (y x : Fin 64) :
    val_main_v415 (F := Ideal) a.x0 a.x1 a.x2 a.x5 a.x6 a.x19 a.x20 a.x21 a.x22 a.x23 a.x24 a.x25 a.x26 (ix4 n 0 y x) = a.net.t1 n 0 y x := by
  pointwise [val_main_v415, keep1 a h]
  exact Ker.img_congr a.net.t1 _ _ (by omega) (by omega)

theorem v416_at (h : Tame a.net) (n : Fin 4) (y x : Fin 128) :
    val_main_v416 (F := Ideal) a.x0 a.x1 a.x2 a.x3 a.x5 a.x6 a.x7 a.x8 a.x19 a.x20 a.x21 a.x22 a.x23 a.x24 a.x25 a.x26 a.x27 a.x28 a.x29 a.x30 (ix4 n 0 y x) = a.net.t2 n 0 y x := by
  pointwise [val_main_v416, keep2 a h]
  exact Ker.img_congr a.net.t2 _ _ (by omega) (by omega)

theorem v417_at (h : Tame a.net) (n : Fin 4) (y x : Fin 256) :
    val_main_v417 (F := Ideal) a.x0 a.x1 a.x2 a.x3 a.x5 a.x6 a.x7 a.x8 a.x19 a.x20 a.x21 a.x22 a.x23 a.x24 a.x25 a.x26 a.x27 a.x28 a.x29 a.x30 (ix4 n 0 y x) = a.net.m3 n 0 y x := by
  pointwise [val_main_v417, mask3 a h]
  exact Ker.img_congr a.net.m3 _ _ (by omega) (by omega)

end Cert.Dec.Ref
-- ==== Proof.K1.lean ====
/- The second level's call: each result at output chunk (i 2, i 3), lane i 5, which is the pixel (row 2 a l, col 2 l) with a = i 3. -/
module

public import proofs.«01_k».proof.Proof.K0
public import proofs.«01_k».proof.Proof.Gen.KernelIdeal.Frame.Region1

@[expose] public section

set_option maxRecDepth 16384

noncomputable section

namespace Cert.Dec.Ker

open Cert.KernelIdeal Cert.KernelIdeal.Gen Idealize.ShloMosaic Idealize.ShloMosaic.TcCoe Idealize.ShloMosaic.Pipeline

/-- What the second level's blocks hold at image `n`. -/
structure Blk1 (x0 : Vec Ideal S1x256x1x1x1024 .f32) (x1 : Vec Ideal S1x1x1x1x1024 .f32) (x2 : Vec Ideal S1x128x1x2x1x2048 .f32) (x3 : Vec Ideal S512x256 .f32) (x4 : Vec Ideal S256x256 .f32) (x5 : Vec Ideal S256x256 .f32) (x6 : Vec Ideal S128x256 .f32) (x7 : Vec Ideal S128x1 .f32) (x8 : Vec Ideal S32x128 .f32) (x9 : Vec Ideal S32x1 .f32) (x10 : Vec Ideal S2x32 .f32) (x11 : Vec Ideal S2x1 .f32) (x12 : Vec Ideal S1x128 .f32) (x13 : Vec Ideal S1x1 .f32) (n : ℕ) (X M T w : Img) (b : ℕ → EReal)
    (w₁ : ℕ → ℕ → EReal) (b₁ : ℕ → EReal) (w₂ : ℕ → ℕ → EReal) (b₂ : ℕ → EReal) (v : ℕ → EReal) (d : EReal) : Prop where
  x : ∀ (k : Fin 256) (l : Fin 1024), x0 (ix5 0 k 0 0 l) = X n k (row 1 0 l) (col 1 l)
  m : ∀ l : Fin 1024, x1 (ix5 0 0 0 0 l) = M n 0 (row 1 0 l) (col 1 l)
  s : ∀ (o : Fin 128) (a : Fin 2) (l : Fin 2048), x2 (ix6 0 o 0 a 0 l) = T n o (row 2 a l) (col 2 l)
  wa : ∀ (o : Fin 128) (k : Fin 256), x3 (ix2 ⟨o, by omega⟩ k) = w 2 2 k o ∧ x3 (ix2 ⟨128 + o, by omega⟩ k) = w 2 1 k o
    ∧ x3 (ix2 ⟨256 + o, by omega⟩ k) = w 1 2 k o ∧ x3 (ix2 ⟨384 + o, by omega⟩ k) = w 1 1 k o
  wb : ∀ (o : Fin 128) (k : Fin 256), x4 (ix2 ⟨o, by omega⟩ k) = w 0 2 k o ∧ x4 (ix2 ⟨128 + o, by omega⟩ k) = w 0 1 k o
  wc : ∀ (o : Fin 128) (k : Fin 256), x5 (ix2 ⟨o, by omega⟩ k) = w 2 0 k o ∧ x5 (ix2 ⟨128 + o, by omega⟩ k) = w 1 0 k o
  wd : ∀ (o : Fin 128) (k : Fin 256), x6 (ix2 o k) = w 0 0 k o
  b : ∀ o : Fin 128, x7 (ix2 o 0) = b o
  w₁ : ∀ (o : Fin 32) (k : Fin 128), x8 (ix2 o k) = w₁ k o
  b₁ : ∀ o : Fin 32, x9 (ix2 o 0) = b₁ o
  w₂ : ∀ (o : Fin 2) (k : Fin 32), x10 (ix2 o k) = w₂ k o
  b₂ : ∀ o : Fin 2, x11 (ix2 o 0) = b₂ o
  v : ∀ k : Fin 128, x12 (ix2 0 k) = v k
  d : x13 (ix2 0 0) = d

section Pure

variable {x0 : Vec Ideal S1x256x1x1x1024 .f32} {x1 : Vec Ideal S1x1x1x1x1024 .f32} {x2 : Vec Ideal S1x128x1x2x1x2048 .f32} {x3 : Vec Ideal S512x256 .f32} {x4 : Vec Ideal S256x256 .f32} {x5 : Vec Ideal S256x256 .f32} {x6 : Vec Ideal S128x256 .f32} {x7 : Vec Ideal S128x1 .f32} {x8 : Vec Ideal S32x128 .f32} {x9 : Vec Ideal S32x1 .f32} {x10 : Vec Ideal S2x32 .f32} {x11 : Vec Ideal S2x1 .f32} {x12 : Vec Ideal S1x128 .f32} {x13 : Vec Ideal S1x1 .f32}
  {n : ℕ} {X M T w : Img} {b : ℕ → EReal} {w₁ : ℕ → ℕ → EReal} {b₁ : ℕ → EReal} {w₂ : ℕ → ℕ → EReal} {b₂ : ℕ → EReal} {v : ℕ → EReal} {d : EReal}
  (h : Blk1 x0 x1 x2 x3 x4 x5 x6 x7 x8 x9 x10 x11 x12 x13 n X M T w b w₁ b₁ w₂ b₂ v d)

include h

/-- The rows above. -/
theorem pu1 (k : Fin 256) (l : Fin 1024) : k1_pay45 x0 x1 x2 x3 x4 x5 x6 x7 x8 x9 x10 x11 x12 x13 (ix2 k l) = down X n k (row 1 0 l) (col 1 l) := by
  pointwise [k1_pay45, k1_pay3, k1_pay2, h.x]
  refine (sel_row l (by omega) _ _).trans ?_
  unfold down row col
  split
  · rw [if_pos (by omega)]
  · next hl =>
    have := lane_up hl
    rw [if_neg (by omega), dif_neg (by omega)]
    exact img_congr _ _ _ (by omega) (by omega)

/-- The columns to the left. -/
theorem pl1 (k : Fin 256) (l : Fin 1024) : k1_pay46 x0 x1 x2 x3 x4 x5 x6 x7 x8 x9 x10 x11 x12 x13 (ix2 k l) = right X n k (row 1 0 l) (col 1 l) := by
  pointwise [k1_pay46, k1_pay4, k1_pay7, k1_pay5, k1_pay6, k1_pay2, h.x]
  refine (sel_col l (by omega) _ _).trans ?_
  unfold right row col
  split
  · rw [if_pos (by omega)]
  · next hl =>
    have := lane_left hl
    rw [if_neg (by omega), dif_neg (by omega)]
    exact img_congr _ _ _ (by omega) (by omega)

/-- The rows above, of the columns to the left. -/
theorem pul1 (k : Fin 256) (l : Fin 1024) : k1_pay47 x0 x1 x2 x3 x4 x5 x6 x7 x8 x9 x10 x11 x12 x13 (ix2 k l) = right (down X) n k (row 1 0 l) (col 1 l) := by
  pointwise [k1_pay47, k1_pay8, pu1 h]
  refine (sel_col l (by omega) _ _).trans ?_
  unfold right row col
  split
  · rw [if_pos (by omega)]
  · next hl =>
    have := lane_left hl
    rw [if_neg (by omega), dif_neg (by omega)]
    exact img_congr _ _ _ (by omega) (by omega)

/-- The upper output rows. -/
theorem up1 (o : Fin 128) (l : Fin 2048) : k1_pay50 x0 x1 x2 x3 x4 x5 x6 x7 x8 x9 x10 x11 x12 x13 (ix2 o l) = dec 256 w b X n o (row 2 0 l) (col 2 l) := by
  pointwise [k1_pay50, k1_pay15, k1_pay14, k1_pay10, k1_pay48, k1_pay9, k1_pay2, pu1 h, pl1 h, pul1 h, h.x, (h.wa _ _).1, (h.wa _ _).2.1, (h.wb _ _).1, (h.wb _ _).2, (h.wc _ _).1, h.wd, h.b]
  split
  · exact dec_00 (by unfold row; omega) (by unfold col; omega)
  · exact dec_01 (by unfold row; omega) (by unfold col; omega)

/-- The lower output rows. -/
theorem lo1 (o : Fin 128) (l : Fin 2048) : k1_pay56 x0 x1 x2 x3 x4 x5 x6 x7 x8 x9 x10 x11 x12 x13 (ix2 o l) = dec 256 w b X n o (row 2 1 l) (col 2 l) := by
  pointwise [k1_pay56, k1_pay31, k1_pay11, k1_pay12, k1_pay14, k1_pay10, k1_pay48, k1_pay9, k1_pay2, pu1 h, pl1 h, pul1 h, h.x, (h.wa _ _).2.2.1, (h.wa _ _).2.2.2, (h.wc _ _).2, h.b]
  split
  · exact dec_10 (by unfold row; omega) (by unfold col; omega)
  · exact dec_11 (by unfold row; omega) (by unfold col; omega)

/-- The mask at the output's size. -/
theorem mask1 (a : Fin 2) (l : Fin 2048) : k1_pay49 x0 x1 x2 x3 x4 x5 x6 x7 x8 x9 x10 x11 x12 x13 (ix2 0 l) = grow M n 0 (row 2 a l) (col 2 l) := by
  pointwise [k1_pay49, k1_pay13, h.m]
  split
  · exact grow_of a.2 zero_lt_two (by unfold row; omega) (by unfold col; omega)
  · exact grow_of a.2 one_lt_two (by unfold row; omega) (by unfold col; omega)

theorem up1' (o : Fin 128) (l : Fin 2048) :
    k1_pay15 (k1_pay45 x0 x1 x2 x3 x4 x5 x6 x7 x8 x9 x10 x11 x12 x13) (k1_pay46 x0 x1 x2 x3 x4 x5 x6 x7 x8 x9 x10 x11 x12 x13) (k1_pay47 x0 x1 x2 x3 x4 x5 x6 x7 x8 x9 x10 x11 x12 x13) (k1_pay48 x0 x1 x2 x3 x4 x5 x6 x7 x8 x9 x10 x11 x12 x13) (View.ld x4 r1_2) (View.ld x5 r1_2) (View.ld x6 r1_3)
      (View.ld x7 r1_5) (ix2 o l) = dec 256 w b X n o (row 2 0 l) (col 2 l) := up1 h o l

/-- The features of the upper output rows. -/
theorem xup1 (o : Fin 128) (l : Fin 2048) :
    k1_pay19 (k1_pay49 x0 x1 x2 x3 x4 x5 x6 x7 x8 x9 x10 x11 x12 x13) (k1_pay50 x0 x1 x2 x3 x4 x5 x6 x7 x8 x9 x10 x11 x12 x13) (k1_pay51 x0 x1 x2 x3 x4 x5 x6 x7 x8 x9 x10 x11 x12 x13) (k1_pay52 x0 x1 x2 x3 x4 x5 x6 x7 x8 x9 x10 x11 x12 x13) (k1_pay53 x0 x1 x2 x3 x4 x5 x6 x7 x8 x9 x10 x11 x12 x13) (ix2 o l)
      = mix (dec 256 w b X) T (grow M) n o (row 2 0 l) (col 2 l) := by
  pointwise [k1_pay19, k1_pay51, k1_pay52, k1_pay53, k1_pay16, k1_pay17, k1_pay18, up1 h, up1' h, mask1 h 0, h.s]
  rfl

/-- The features of the lower output rows. -/
theorem xlo1 (o : Fin 128) (l : Fin 2048) : k1_pay32 (k1_pay49 x0 x1 x2 x3 x4 x5 x6 x7 x8 x9 x10 x11 x12 x13) (k1_pay56 x0 x1 x2 x3 x4 x5 x6 x7 x8 x9 x10 x11 x12 x13) (View.ld x2 r1_15) (ix2 o l)
    = mix (dec 256 w b X) T (grow M) n o (row 2 1 l) (col 2 l) := by
  pointwise [k1_pay32, lo1 h, mask1 h 1, h.s]
  rfl

/-- The logits of the upper output rows. -/
theorem lup1 (o : Fin 2) (l : Fin 2048) :
    k1_pay23 (k1_pay49 x0 x1 x2 x3 x4 x5 x6 x7 x8 x9 x10 x11 x12 x13) (k1_pay50 x0 x1 x2 x3 x4 x5 x6 x7 x8 x9 x10 x11 x12 x13) (k1_pay51 x0 x1 x2 x3 x4 x5 x6 x7 x8 x9 x10 x11 x12 x13) (k1_pay52 x0 x1 x2 x3 x4 x5 x6 x7 x8 x9 x10 x11 x12 x13) (k1_pay53 x0 x1 x2 x3 x4 x5 x6 x7 x8 x9 x10 x11 x12 x13) (View.ld x8 r1_7) (View.ld x9 r1_8) (View.ld x10 r1_9) (View.ld x11 r1_10) (ix2 o l)
      = logit 128 w₁ b₁ w₂ b₂ (mix (dec 256 w b X) T (grow M)) (grow M) n o (row 2 0 l) (col 2 l) := by
  pointwise [k1_pay23, xup1 h, mask1 h 0, h.w₁, h.b₁, h.w₂, h.b₂]
  rfl

/-- The logits of the lower output rows. -/
theorem llo1 (o : Fin 2) (l : Fin 2048) : k1_pay39 (k1_pay49 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (ix2 o l)
    = logit 128 w₁ b₁ w₂ b₂ (mix (dec 256 w b X) T (grow M)) (grow M) n o (row 2 1 l) (col 2 l) := by
  pointwise [k1_pay39, k1_pay57, k1_pay58, k1_pay59, k1_pay34, k1_pay35, k1_pay38, xlo1 h, mask1 h 1, h.w₁, h.b₁, h.w₂, h.b₂]
  rfl

/-- The mask kept, upper output rows. -/
theorem kup1 (l : Fin 2048) : k1_pay26 (k1_pay49 x0 x1 x2 x3 x4 x5 x6 x7 x8 x9 x10 x11 x12 x13) (k1_pay54 x0 x1 x2 x3 x4 x5 x6 x7 x8 x9 x10 x11 x12 x13) (k1_pay55 x0 x1 x2 x3 x4 x5 x6 x7 x8 x9 x10 x11 x12 x13) (ix2 0 l)
    = keep (logit 128 w₁ b₁ w₂ b₂ (mix (dec 256 w b X) T (grow M)) (grow M)) (grow M) n 0 (row 2 0 l) (col 2 l) := by
  pointwise [k1_pay26, k1_pay54, k1_pay55, k1_pay24, k1_pay25, lup1 h, mask1 h 0]
  simp only [sbit_eq]
  rfl

/-- The mask kept, lower output rows. -/
theorem klo1 (l : Fin 2048) : k1_pay40 (k1_pay49 x0 x1 x2 x3 x4 x5 x6 x7 x8 x9 x10 x11 x12 x13) (k1_pay57 x0 x1 x2 x3 x4 x5 x6 x7 x8 x9 x10 x11 x12 x13) (k1_pay58 x0 x1 x2 x3 x4 x5 x6 x7 x8 x9 x10 x11 x12 x13) (k1_pay59 x0 x1 x2 x3 x4 x5 x6 x7 x8 x9 x10 x11 x12 x13) (ix2 0 l)
    = keep (logit 128 w₁ b₁ w₂ b₂ (mix (dec 256 w b X) T (grow M)) (grow M)) (grow M) n 0 (row 2 1 l) (col 2 l) := by
  pointwise [k1_pay40, llo1 h, mask1 h 1]
  simp only [sbit_eq]
  rfl

/-- The features. -/
theorem out1_x (o : Fin 128) (a : Fin 2) (l : Fin 2048) : out1_14 x0 x1 x2 x3 x4 x5 x6 x7 x8 x9 x10 x11 x12 x13 (ix6 0 o 0 a 0 l) = mix (dec 256 w b X) T (grow M) n o (row 2 a l) (col 2 l) := by
  unfold out1_14
  canon_tiles x hx
  · idx_vars x
    have ea : (a : ℕ) = 1 := by
      have e : (a : ℕ) = 1 + (x3 : ℕ) := hx3
      omega
    obtain rfl : l = x5 := Fin.ext hx5
    obtain rfl : o = x1 := Fin.ext hx1
    rw [ea]
    pointwise [k1_pay33, xlo1 h]
  · idx_vars x
    have ea : (a : ℕ) = 0 := by
      have e : (a : ℕ) = (x3 : ℕ) := hx3
      omega
    obtain rfl : l = x5 := Fin.ext hx5
    obtain rfl : o = x1 := Fin.ext hx1
    rw [ea]
    pointwise [k1_pay20, xup1 h]

/-- The output. -/
theorem out1_y (a : Fin 2) (l : Fin 2048) : out1_15 x0 x1 x2 x3 x4 x5 x6 x7 x8 x9 x10 x11 x12 x13 (ix6 0 0 0 a 0 l) = outp 128 v d (mix (dec 256 w b X) T (grow M)) (keep (logit 128 w₁ b₁ w₂ b₂ (mix (dec 256 w b X) T (grow M)) (grow M)) (grow M)) n 0 (row 2 a l) (col 2 l) := by
  unfold out1_15
  canon_tiles x hx
  · idx_vars x
    have ea : (a : ℕ) = 1 := by
      have e : (a : ℕ) = 1 + (x3 : ℕ) := hx3
      omega
    obtain rfl : l = x5 := Fin.ext hx5
    rw [ea]
    pointwise [k1_pay41, klo1 h, xlo1 h, k1_pay36, k1_pay37, h.v, h.d]
    rfl
  · idx_vars x
    have ea : (a : ℕ) = 0 := by
      have e : (a : ℕ) = (x3 : ℕ) := hx3
      omega
    obtain rfl : l = x5 := Fin.ext hx5
    rw [ea]
    pointwise [k1_pay27, kup1 h, xup1 h, k1_pay21, k1_pay22, h.v, h.d]
    rfl

/-- The logits. -/
theorem out1_l (o : Fin 2) (a : Fin 2) (l : Fin 2048) : out1_16 x0 x1 x2 x3 x4 x5 x6 x7 x8 x9 x10 x11 x12 x13 (ix6 0 o 0 a 0 l) = logit 128 w₁ b₁ w₂ b₂ (mix (dec 256 w b X) T (grow M)) (grow M) n o (row 2 a l) (col 2 l) := by
  unfold out1_16
  canon_tiles x hx
  · idx_vars x
    have ea : (a : ℕ) = 1 := by
      have e : (a : ℕ) = 1 + (x3 : ℕ) := hx3
      omega
    obtain rfl : l = x5 := Fin.ext hx5
    obtain rfl : o = x1 := Fin.ext hx1
    rw [ea]
    pointwise [k1_pay43, llo1 h]
  · idx_vars x
    have ea : (a : ℕ) = 0 := by
      have e : (a : ℕ) = (x3 : ℕ) := hx3
      omega
    obtain rfl : l = x5 := Fin.ext hx5
    obtain rfl : o = x1 := Fin.ext hx1
    rw [ea]
    pointwise [k1_pay29, lup1 h]

/-- The mask kept. -/
theorem out1_t (a : Fin 2) (l : Fin 2048) : out1_17 x0 x1 x2 x3 x4 x5 x6 x7 x8 x9 x10 x11 x12 x13 (ix6 0 0 0 a 0 l) = keep (logit 128 w₁ b₁ w₂ b₂ (mix (dec 256 w b X) T (grow M)) (grow M)) (grow M) n 0 (row 2 a l) (col 2 l) := by
  unfold out1_17
  canon_tiles x hx
  · idx_vars x
    have ea : (a : ℕ) = 1 := by
      have e : (a : ℕ) = 1 + (x3 : ℕ) := hx3
      omega
    obtain rfl : l = x5 := Fin.ext hx5
    rw [ea]
    pointwise [k1_pay42, klo1 h]
  · idx_vars x
    have ea : (a : ℕ) = 0 := by
      have e : (a : ℕ) = (x3 : ℕ) := hx3
      omega
    obtain rfl : l = x5 := Fin.ext hx5
    rw [ea]
    pointwise [k1_pay28, kup1 h]

/-- The mask handed on. -/
theorem out1_r (a : Fin 2) (l : Fin 2048) : out1_18 x0 x1 x2 x3 x4 x5 x6 x7 x8 x9 x10 x11 x12 x13 (ix6 0 0 0 a 0 l) = rest (grow M) (keep (logit 128 w₁ b₁ w₂ b₂ (mix (dec 256 w b X) T (grow M)) (grow M)) (grow M)) n 0 (row 2 a l) (col 2 l) := by
  unfold out1_18
  canon_tiles x hx
  · idx_vars x
    have ea : (a : ℕ) = 1 := by
      have e : (a : ℕ) = 1 + (x3 : ℕ) := hx3
      omega
    obtain rfl : l = x5 := Fin.ext hx5
    rw [ea]
    pointwise [k1_pay1, k1_pay44, klo1 h, mask1 h 1]
    rfl
  · idx_vars x
    have ea : (a : ℕ) = 0 := by
      have e : (a : ℕ) = (x3 : ℕ) := hx3
      omega
    obtain rfl : l = x5 := Fin.ext hx5
    rw [ea]
    pointwise [k1_pay30, kup1 h, mask1 h 0]
    rfl

end Pure

/-- What the second call's operands hold. -/
structure In1 (V : Bufs) (c : Dev nD) (X M T w : Img) (b : ℕ → EReal) (w₁ : ℕ → ℕ → EReal) (b₁ : ℕ → EReal) (w₂ : ℕ → ℕ → EReal) (b₂ : ℕ → EReal) (v : ℕ → EReal) (d : EReal) : Prop where
  x : ∀ (n : Fin 4) (k : Fin 256) (l : Fin 1024), V c main_v9 (ix5 n k 0 0 l) = X n k (row 1 0 l) (col 1 l)
  m : ∀ (n : Fin 4) (l : Fin 1024), V c main_v10 (ix5 n 0 0 0 l) = M n 0 (row 1 0 l) (col 1 l)
  s : ∀ (n : Fin 4) (o : Fin 128) (a : Fin 2) (l : Fin 2048), V c main_v16 (ix6 n o 0 a 0 l) = T n o (row 2 a l) (col 2 l)
  wa : ∀ (o : Fin 128) (k : Fin 256), V c main_v29 (ix2 ⟨o, by omega⟩ k) = w 2 2 k o ∧ V c main_v29 (ix2 ⟨128 + o, by omega⟩ k) = w 2 1 k o
    ∧ V c main_v29 (ix2 ⟨256 + o, by omega⟩ k) = w 1 2 k o ∧ V c main_v29 (ix2 ⟨384 + o, by omega⟩ k) = w 1 1 k o
  wb : ∀ (o : Fin 128) (k : Fin 256), V c main_v36 (ix2 ⟨o, by omega⟩ k) = w 0 2 k o ∧ V c main_v36 (ix2 ⟨128 + o, by omega⟩ k) = w 0 1 k o
  wc : ∀ (o : Fin 128) (k : Fin 256), V c main_v43 (ix2 ⟨o, by omega⟩ k) = w 2 0 k o ∧ V c main_v43 (ix2 ⟨128 + o, by omega⟩ k) = w 1 0 k o
  wd : ∀ (o : Fin 128) (k : Fin 256), V c main_v46 (ix2 o k) = w 0 0 k o
  b : ∀ o : Fin 128, V c main_v47 (ix2 o 0) = b o
  w₁ : ∀ (o : Fin 32) (k : Fin 128), V c main_v48 (ix2 o k) = w₁ k o
  b₁ : ∀ o : Fin 32, V c main_v49 (ix2 o 0) = b₁ o
  w₂ : ∀ (o : Fin 2) (k : Fin 32), V c main_v50 (ix2 o k) = w₂ k o
  b₂ : ∀ o : Fin 2, V c main_v51 (ix2 o 0) = b₂ o
  v : ∀ k : Fin 128, V c main_v52 (ix2 0 k) = v k
  d : V c main_v53 (ix2 0 0) = d

theorem idx1 : ∀ t : Fin cfg1.N, t.val < 4 ∧ win1_0.index t = ![t.val, 0, 0, 0, 0] ∧ win1_1.index t = ![t.val, 0, 0, 0, 0] ∧ win1_2.index t = ![t.val, 0, 0, 0, 0, 0]
    ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0]
    ∧ win1_14.index t = ![t.val, 0, 0, 0, 0, 0] ∧ win1_15.index t = ![t.val, 0, 0, 0, 0, 0] ∧ win1_16.index t = ![t.val, 0, 0, 0, 0, 0] ∧ win1_17.index t = ![t.val, 0, 0, 0, 0, 0] ∧ win1_18.index t = ![t.val, 0, 0, 0, 0, 0] := (by decide +kernel : ∀ t : Fin grid1.N, _)

section Blocks

variable {V : Bufs} {c : Dev nD} {X M T w : Img} {b : ℕ → EReal} {w₁ : ℕ → ℕ → EReal} {b₁ : ℕ → EReal} {w₂ : ℕ → ℕ → EReal} {b₂ : ℕ → EReal} {v : ℕ → EReal} {d : EReal}
  (h : In1 V c X M T w b w₁ b₁ w₂ b₂ v d)

include h

variable (t : Fin cfg1.N)

theorem blk1_x (k : Fin 256) (l : Fin 1024) : iblk1 V c 0 t (ix5 0 k 0 0 l) = X t k (row 1 0 l) (col 1 l) := by
  refine Eq.trans ?_ (h.x ⟨t, (idx1 t).1⟩ k l)
  blk_ext [iblk1, idx1 t]

theorem blk1_m (l : Fin 1024) : iblk1 V c 1 t (ix5 0 0 0 0 l) = M t 0 (row 1 0 l) (col 1 l) := by
  refine Eq.trans ?_ (h.m ⟨t, (idx1 t).1⟩ l)
  blk_ext [iblk1, idx1 t]

theorem blk1_s (o : Fin 128) (a : Fin 2) (l : Fin 2048) : iblk1 V c 2 t (ix6 0 o 0 a 0 l) = T t o (row 2 a l) (col 2 l) := by
  refine Eq.trans ?_ (h.s ⟨t, (idx1 t).1⟩ o a l)
  blk_ext [iblk1, idx1 t]

theorem blk1_wa (o : Fin 128) (k : Fin 256) : iblk1 V c 3 t (ix2 ⟨o, by omega⟩ k) = w 2 2 k o ∧ iblk1 V c 3 t (ix2 ⟨128 + o, by omega⟩ k) = w 2 1 k o ∧ iblk1 V c 3 t (ix2 ⟨256 + o, by omega⟩ k) = w 1 2 k o ∧ iblk1 V c 3 t (ix2 ⟨384 + o, by omega⟩ k) = w 1 1 k o := by
  refine ⟨Eq.trans ?_ ((h.wa o k).1), Eq.trans ?_ ((h.wa o k).2.1), Eq.trans ?_ ((h.wa o k).2.2.1), Eq.trans ?_ ((h.wa o k).2.2.2)⟩ <;> blk_ext [iblk1, idx1 t]

theorem blk1_wb (o : Fin 128) (k : Fin 256) : iblk1 V c 4 t (ix2 ⟨o, by omega⟩ k) = w 0 2 k o ∧ iblk1 V c 4 t (ix2 ⟨128 + o, by omega⟩ k) = w 0 1 k o := by
  refine ⟨Eq.trans ?_ ((h.wb o k).1), Eq.trans ?_ ((h.wb o k).2)⟩ <;> blk_ext [iblk1, idx1 t]

theorem blk1_wc (o : Fin 128) (k : Fin 256) : iblk1 V c 5 t (ix2 ⟨o, by omega⟩ k) = w 2 0 k o ∧ iblk1 V c 5 t (ix2 ⟨128 + o, by omega⟩ k) = w 1 0 k o := by
  refine ⟨Eq.trans ?_ ((h.wc o k).1), Eq.trans ?_ ((h.wc o k).2)⟩ <;> blk_ext [iblk1, idx1 t]

theorem blk1_wd (o : Fin 128) (k : Fin 256) : iblk1 V c 6 t (ix2 o k) = w 0 0 k o := by
  refine Eq.trans ?_ (h.wd o k)
  blk_ext [iblk1, idx1 t]

theorem blk1_b (o : Fin 128) : iblk1 V c 7 t (ix2 o 0) = b o := by
  refine Eq.trans ?_ (h.b o)
  blk_ext [iblk1, idx1 t]

theorem blk1_w₁ (o : Fin 32) (k : Fin 128) : iblk1 V c 8 t (ix2 o k) = w₁ k o := by
  refine Eq.trans ?_ (h.w₁ o k)
  blk_ext [iblk1, idx1 t]

theorem blk1_b₁ (o : Fin 32) : iblk1 V c 9 t (ix2 o 0) = b₁ o := by
  refine Eq.trans ?_ (h.b₁ o)
  blk_ext [iblk1, idx1 t]

theorem blk1_w₂ (o : Fin 2) (k : Fin 32) : iblk1 V c 10 t (ix2 o k) = w₂ k o := by
  refine Eq.trans ?_ (h.w₂ o k)
  blk_ext [iblk1, idx1 t]

theorem blk1_b₂ (o : Fin 2) : iblk1 V c 11 t (ix2 o 0) = b₂ o := by
  refine Eq.trans ?_ (h.b₂ o)
  blk_ext [iblk1, idx1 t]

theorem blk1_v (k : Fin 128) : iblk1 V c 12 t (ix2 0 k) = v k := by
  refine Eq.trans ?_ (h.v k)
  blk_ext [iblk1, idx1 t]

theorem blk1_d : iblk1 V c 13 t (ix2 0 0) = d := by
  refine Eq.trans ?_ (h.d)
  blk_ext [iblk1, idx1 t]

/-- The blocks of one grid point. -/
theorem blk1 : Blk1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) t X M T w b w₁ b₁ w₂ b₂ v d :=
  ⟨blk1_x h t, blk1_m h t, blk1_s h t, blk1_wa h t, blk1_wb h t, blk1_wc h t, blk1_wd h t, blk1_b h t, blk1_w₁ h t, blk1_b₁ h t, blk1_w₂ h t, blk1_b₂ h t, blk1_v h t, blk1_d h t⟩

/-- The features. -/
theorem call1_x : (dat1 V c).arrAt 14 cfg1.N = fun i => mix (dec 256 w b X) T (grow M) (i 0) (i 1) (row 2 (2 * (i 2) + i 3) (i 5)) (col 2 (i 5)) := by
  refine (dat1 V c).arrAt_eq_of_covers 14 _ (by decide +kernel) fun t _ y => ?_
  blk_simp
  rw [after1_14]
  blk_simp [idx1 t]
  idx_vars y
  obtain rfl : y0 = 0 := Subsingleton.elim _ _
  obtain rfl : y2 = 0 := Subsingleton.elim _ _
  obtain rfl : y4 = 0 := Subsingleton.elim _ _
  rw [Nat.mul_zero, Nat.zero_add]
  exact out1_x (blk1 h t) _ _ _

/-- The output. -/
theorem call1_y : (dat1 V c).arrAt 15 cfg1.N = fun i => outp 128 v d (mix (dec 256 w b X) T (grow M)) (keep (logit 128 w₁ b₁ w₂ b₂ (mix (dec 256 w b X) T (grow M)) (grow M)) (grow M)) (i 0) 0 (row 2 (2 * (i 2) + i 3) (i 5)) (col 2 (i 5)) := by
  refine (dat1 V c).arrAt_eq_of_covers 15 _ (by decide +kernel) fun t _ y => ?_
  blk_simp
  rw [after1_15]
  blk_simp [idx1 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  rw [Nat.mul_zero, Nat.zero_add]
  exact out1_y (blk1 h t) _ _

/-- The logits. -/
theorem call1_l : (dat1 V c).arrAt 16 cfg1.N = fun i => logit 128 w₁ b₁ w₂ b₂ (mix (dec 256 w b X) T (grow M)) (grow M) (i 0) (i 1) (row 2 (2 * (i 2) + i 3) (i 5)) (col 2 (i 5)) := by
  refine (dat1 V c).arrAt_eq_of_covers 16 _ (by decide +kernel) fun t _ y => ?_
  blk_simp
  rw [after1_16]
  blk_simp [idx1 t]
  idx_vars y
  obtain rfl : y0 = 0 := Subsingleton.elim _ _
  obtain rfl : y2 = 0 := Subsingleton.elim _ _
  obtain rfl : y4 = 0 := Subsingleton.elim _ _
  rw [Nat.mul_zero, Nat.zero_add]
  exact out1_l (blk1 h t) _ _ _

/-- The mask kept. -/
theorem call1_t : (dat1 V c).arrAt 17 cfg1.N = fun i => keep (logit 128 w₁ b₁ w₂ b₂ (mix (dec 256 w b X) T (grow M)) (grow M)) (grow M) (i 0) 0 (row 2 (2 * (i 2) + i 3) (i 5)) (col 2 (i 5)) := by
  refine (dat1 V c).arrAt_eq_of_covers 17 _ (by decide +kernel) fun t _ y => ?_
  blk_simp
  rw [after1_17]
  blk_simp [idx1 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  rw [Nat.mul_zero, Nat.zero_add]
  exact out1_t (blk1 h t) _ _

/-- The mask handed on. -/
theorem call1_r : (dat1 V c).arrAt 18 cfg1.N = fun i => rest (grow M) (keep (logit 128 w₁ b₁ w₂ b₂ (mix (dec 256 w b X) T (grow M)) (grow M)) (grow M)) (i 0) 0 (row 2 (2 * (i 2) + i 3) (i 5)) (col 2 (i 5)) := by
  refine (dat1 V c).arrAt_eq_of_covers 18 _ (by decide +kernel) fun t _ y => ?_
  blk_simp
  rw [after1_18]
  blk_simp [idx1 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  rw [Nat.mul_zero, Nat.zero_add]
  exact out1_r (blk1 h t) _ _

end Blocks

end Cert.Dec.Ker
-- ==== Proof.H1.lean ====
/- The operations before the second call, and what that call leaves. -/
module

public import proofs.«01_k».proof.Proof.H0
public import proofs.«01_k».proof.Proof.K1

@[expose] public section

set_option maxRecDepth 16384

noncomputable section

namespace Cert.Dec.Ker

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

theorem in1_x (n : Fin 4) (k : Fin 256) (l : Fin 1024) : V3 m ρ c main_v9 (ix5 n k 0 0 l) = (argsOf m c).net.x0 n k (row 1 0 l) (col 1 l) := by
  unfold_abbrev_sides
  after_reads_at
  refine ((congrFun (W2_args m ρ c main_arg0 (by decide)) _).trans (rd4_fin _ _ _ _ _)).trans (img_congr (argsOf m c).net.x0 _ _ ?_ ?_) <;> (try unfold row) <;> (try unfold col) <;> (try dsimp only) <;> omega

theorem in1_m (n : Fin 4) (l : Fin 1024) : V3 m ρ c main_v10 (ix5 n 0 0 0 l) = (argsOf m c).net.r0 n 0 (row 1 0 l) (col 1 l) := by
  unfold_abbrev_sides
  after_reads_at
  refine (res0_rest m ρ c n l).trans (img_congr (argsOf m c).net.r0 _ _ ?_ ?_) <;> (try unfold row) <;> (try unfold col) <;> (try dsimp only) <;> omega

theorem in1_s (n : Fin 4) (o : Fin 128) (a : Fin 2) (l : Fin 2048) : V3 m ρ c main_v16 (ix6 n o 0 a 0 l) = (argsOf m c).net.s1 n o (row 2 a l) (col 2 l) := by
  unfold_abbrev_sides
  after_reads_at
  refine ((congrFun (W2_args m ρ c main_arg2 (by decide)) _).trans (rd4_fin _ _ _ _ _)).trans (img_congr (argsOf m c).net.s1 _ _ ?_ ?_) <;> (try unfold row) <;> (try unfold col) <;> (try dsimp only) <;> omega

theorem in1_wa0 (o : Fin 128) (k : Fin 256) : V3 m ρ c main_v29 (ix2 ⟨o, by omega⟩ k) = (argsOf m c).net.d1 2 2 k o := by
  unfold_abbrev_sides
  after_reads_at
  refine (congrFun (StableHlo.unary_result' ..) _).trans ?_
  after_reads_at
  exact (congrFun (W2_args m ρ c main_arg5 (by decide)) _).trans (rd4_fin _ 2 2 k o)

theorem in1_wa1 (o : Fin 128) (k : Fin 256) : V3 m ρ c main_v29 (ix2 ⟨128 + o, by omega⟩ k) = (argsOf m c).net.d1 2 1 k o := by
  unfold_abbrev_sides
  after_reads_at
  refine (congrFun (StableHlo.unary_result' ..) _).trans ?_
  after_reads_at
  exact (congrFun (W2_args m ρ c main_arg5 (by decide)) _).trans (rd4_fin _ 2 1 k o)

theorem in1_wa2 (o : Fin 128) (k : Fin 256) : V3 m ρ c main_v29 (ix2 ⟨256 + o, by omega⟩ k) = (argsOf m c).net.d1 1 2 k o := by
  unfold_abbrev_sides
  after_reads_at
  refine (dif_neg (by omega)).trans ?_
  refine (dif_neg (by omega)).trans ?_
  refine (dif_pos (by omega)).trans ?_
  refine (congrFun (StableHlo.unary_result' ..) _).trans ?_
  after_reads_at
  exact (congrFun (W2_args m ρ c main_arg5 (by decide)) _).trans ((rd4_fin _ 1 2 k _).trans (congrArg (rd4 _ 1 2 k) (by dsimp only; omega)))

theorem in1_wa3 (o : Fin 128) (k : Fin 256) : V3 m ρ c main_v29 (ix2 ⟨384 + o, by omega⟩ k) = (argsOf m c).net.d1 1 1 k o := by
  unfold_abbrev_sides
  after_reads_at
  refine (dif_neg (by omega)).trans ?_
  refine (dif_neg (by omega)).trans ?_
  refine (dif_neg (by omega)).trans ?_
  refine (congrFun (StableHlo.unary_result' ..) _).trans ?_
  after_reads_at
  exact (congrFun (W2_args m ρ c main_arg5 (by decide)) _).trans ((rd4_fin _ 1 1 k _).trans (congrArg (rd4 _ 1 1 k) (by dsimp only; omega)))

theorem in1_wb0 (o : Fin 128) (k : Fin 256) : V3 m ρ c main_v36 (ix2 ⟨o, by omega⟩ k) = (argsOf m c).net.d1 0 2 k o := by
  unfold_abbrev_sides
  after_reads_at
  exact (congrFun (W2_args m ρ c main_arg5 (by decide)) _).trans (rd4_fin _ 0 2 k o)

theorem in1_wb1 (o : Fin 128) (k : Fin 256) : V3 m ρ c main_v36 (ix2 ⟨128 + o, by omega⟩ k) = (argsOf m c).net.d1 0 1 k o := by
  unfold_abbrev_sides
  after_reads_at
  exact (congrFun (W2_args m ρ c main_arg5 (by decide)) _).trans (rd4_fin _ 0 1 k o)

theorem in1_wc0 (o : Fin 128) (k : Fin 256) : V3 m ρ c main_v43 (ix2 ⟨o, by omega⟩ k) = (argsOf m c).net.d1 2 0 k o := by
  unfold_abbrev_sides
  after_reads_at
  exact (congrFun (W2_args m ρ c main_arg5 (by decide)) _).trans (rd4_fin _ 2 0 k o)

theorem in1_wc1 (o : Fin 128) (k : Fin 256) : V3 m ρ c main_v43 (ix2 ⟨128 + o, by omega⟩ k) = (argsOf m c).net.d1 1 0 k o := by
  unfold_abbrev_sides
  after_reads_at
  exact (congrFun (W2_args m ρ c main_arg5 (by decide)) _).trans (rd4_fin _ 1 0 k o)

theorem in1_wd (o : Fin 128) (k : Fin 256) : V3 m ρ c main_v46 (ix2 o k) = (argsOf m c).net.d1 0 0 k o := by
  unfold_abbrev_sides
  after_reads_at
  exact (congrFun (W2_args m ρ c main_arg5 (by decide)) _).trans (rd4_fin _ 0 0 k o)

theorem in1_b (o : Fin 128) : V3 m ρ c main_v47 (ix2 o 0) = (argsOf m c).net.e1 o := by
  unfold_abbrev_sides
  after_reads_at
  exact (congrFun (W2_args m ρ c main_arg6 (by decide)) _).trans (rd1_fin _ o)

theorem in1_w₁ (o : Fin 32) (k : Fin 128) : V3 m ρ c main_v48 (ix2 o k) = (argsOf m c).net.a1 k o := by
  unfold_abbrev_sides
  after_reads_at
  exact (congrFun (W2_args m ρ c main_arg23 (by decide)) _).trans (rd2_fin _ k o)

theorem in1_b₁ (o : Fin 32) : V3 m ρ c main_v49 (ix2 o 0) = (argsOf m c).net.b1 o := by
  unfold_abbrev_sides
  after_reads_at
  exact (congrFun (W2_args m ρ c main_arg24 (by decide)) _).trans (rd1_fin _ o)

theorem in1_w₂ (o : Fin 2) (k : Fin 32) : V3 m ρ c main_v50 (ix2 o k) = (argsOf m c).net.f1 k o := by
  unfold_abbrev_sides
  after_reads_at
  exact (congrFun (W2_args m ρ c main_arg25 (by decide)) _).trans (rd2_fin _ k o)

theorem in1_b₂ (o : Fin 2) : V3 m ρ c main_v51 (ix2 o 0) = (argsOf m c).net.g1 o := by
  unfold_abbrev_sides
  after_reads_at
  exact (congrFun (W2_args m ρ c main_arg26 (by decide)) _).trans (rd1_fin _ o)

theorem in1_v (k : Fin 128) : V3 m ρ c main_v52 (ix2 0 k) = (argsOf m c).net.o1 k := by
  unfold_abbrev_sides
  after_reads_at
  exact (congrFun (W2_args m ρ c main_arg13 (by decide)) _).trans (rd2_fin _ k 0)

theorem in1_d : V3 m ρ c main_v53 (ix2 0 0) = (argsOf m c).net.p1 := by
  unfold_abbrev_sides
  after_reads_at
  exact (congrFun (W2_args m ρ c main_arg14 (by decide)) _).trans (rd1_fin _ 0)

/-- What call 1 is entered with. -/
theorem in1 : In1 (V3 m ρ) c (argsOf m c).net.x0 (argsOf m c).net.r0 (argsOf m c).net.s1 (argsOf m c).net.d1 (argsOf m c).net.e1 (argsOf m c).net.a1 (argsOf m c).net.b1 (argsOf m c).net.f1 (argsOf m c).net.g1 (argsOf m c).net.o1 (argsOf m c).net.p1 :=
  ⟨in1_x m ρ c,
    in1_m m ρ c,
    in1_s m ρ c,
    fun o k => ⟨in1_wa0 m ρ c o k, in1_wa1 m ρ c o k, in1_wa2 m ρ c o k, in1_wa3 m ρ c o k⟩,
    fun o k => ⟨in1_wb0 m ρ c o k, in1_wb1 m ρ c o k⟩,
    fun o k => ⟨in1_wc0 m ρ c o k, in1_wc1 m ρ c o k⟩,
    in1_wd m ρ c,
    in1_b m ρ c,
    in1_w₁ m ρ c,
    in1_b₁ m ρ c,
    in1_w₂ m ρ c,
    in1_b₂ m ρ c,
    in1_v m ρ c,
    in1_d m ρ c⟩

theorem res1_x (n : Fin 4) (k : Fin 128) (a : Fin 2) (l : Fin 2048) : W4 m ρ c main_v54_0 (ix6 n k 0 a 0 l) = (argsOf m c).net.x1 n k (row 2 (2 * 0 + a) l) (col 2 l) :=
  congrFun ((W4_arr m ρ c 14).trans (call1_x (in1 m ρ c))) (ix6 n k 0 a 0 l)

theorem res1_y (n : Fin 4) (a : Fin 2) (l : Fin 2048) : W4 m ρ c main_v54_1 (ix6 n 0 0 a 0 l) = (argsOf m c).net.y1 n 0 (row 2 (2 * 0 + a) l) (col 2 l) :=
  congrFun ((W4_arr m ρ c 15).trans (call1_y (in1 m ρ c))) (ix6 n 0 0 a 0 l)

theorem res1_l (n : Fin 4) (k : Fin 2) (a : Fin 2) (l : Fin 2048) : W4 m ρ c main_v54_2 (ix6 n k 0 a 0 l) = (argsOf m c).net.l1 n k (row 2 (2 * 0 + a) l) (col 2 l) :=
  congrFun ((W4_arr m ρ c 16).trans (call1_l (in1 m ρ c))) (ix6 n k 0 a 0 l)

theorem res1_t (n : Fin 4) (a : Fin 2) (l : Fin 2048) : W4 m ρ c main_v54_3 (ix6 n 0 0 a 0 l) = (argsOf m c).net.t1 n 0 (row 2 (2 * 0 + a) l) (col 2 l) :=
  congrFun ((W4_arr m ρ c 17).trans (call1_t (in1 m ρ c))) (ix6 n 0 0 a 0 l)

theorem res1_r (n : Fin 4) (a : Fin 2) (l : Fin 2048) : W4 m ρ c main_v54_4 (ix6 n 0 0 a 0 l) = (argsOf m c).net.r1 n 0 (row 2 (2 * 0 + a) l) (col 2 l) :=
  congrFun ((W4_arr m ρ c 18).trans (call1_r (in1 m ρ c))) (ix6 n 0 0 a 0 l)

end Cert.Dec.Ker
-- ==== Proof.K2.lean ====
/- The third level's call: chunk `S` holds the rows that are `S` modulo 2, and writes the output rows that are `2 * S` and
`2 * S + 1` modulo 4. -/
module

public import proofs.«01_k».proof.Proof.K0
public import proofs.«01_k».proof.Proof.Gen.KernelIdeal.Frame.Region2

@[expose] public section

set_option maxRecDepth 16384

noncomputable section

namespace Cert.Dec.Ker

open Cert.KernelIdeal Cert.KernelIdeal.Gen Idealize.ShloMosaic Idealize.ShloMosaic.TcCoe Idealize.ShloMosaic.Pipeline

/-- What the third level's blocks hold at image `n`, chunk `S`. -/
structure Blk2 (i : grid2.Coords) (x0 : Vec Ideal S1x128x1x1x2048 .f32) (x1 : Vec Ideal S1x128x1x1x2048 .f32) (x2 : Vec Ideal S1x1x1x1x2048 .f32) (x3 : Vec Ideal S1x64x1x2x1x4096 .f32) (x4 : Vec Ideal S256x128 .f32) (x5 : Vec Ideal S128x128 .f32) (x6 : Vec Ideal S128x128 .f32) (x7 : Vec Ideal S64x128 .f32) (x8 : Vec Ideal S64x1 .f32) (x9 : Vec Ideal S32x64 .f32) (x10 : Vec Ideal S32x1 .f32) (x11 : Vec Ideal S2x32 .f32) (x12 : Vec Ideal S2x1 .f32) (x13 : Vec Ideal S1x64 .f32) (x14 : Vec Ideal S1x1 .f32)
    (n S : ℕ) (X M T w : Img) (b : ℕ → EReal) (w₁ : ℕ → ℕ → EReal) (b₁ : ℕ → EReal) (w₂ : ℕ → ℕ → EReal) (b₂ : ℕ → EReal) (v : ℕ → EReal) (d : EReal) : Prop where
  hS : S < 2
  i : (i 1).val = S
  x : ∀ (k : Fin 128) (l : Fin 2048), x0 (ix5 0 k 0 0 l) = X n k (row 2 S l) (col 2 l)
  u : ∀ (k : Fin 128) (l : Fin 2048), x1 (ix5 0 k 0 0 l) = X n k (row 2 ((S + 1) % 2) l) (col 2 l)
  m : ∀ (l : Fin 2048), x2 (ix5 0 0 0 0 l) = M n 0 (row 2 S l) (col 2 l)
  s : ∀ (o : Fin 64) (a : Fin 2) (l : Fin 4096), x3 (ix6 0 o 0 a 0 l) = T n o (row 4 (2 * S + a) l) (col 4 l)
  wa : ∀ (o : Fin 64) (k : Fin 128), x4 (ix2 ⟨o, by omega⟩ k) = w 2 2 k o
    ∧ x4 (ix2 ⟨64 + o, by omega⟩ k) = w 2 1 k o
    ∧ x4 (ix2 ⟨128 + o, by omega⟩ k) = w 1 2 k o
    ∧ x4 (ix2 ⟨192 + o, by omega⟩ k) = w 1 1 k o
  wb : ∀ (o : Fin 64) (k : Fin 128), x5 (ix2 ⟨o, by omega⟩ k) = w 0 2 k o
    ∧ x5 (ix2 ⟨64 + o, by omega⟩ k) = w 0 1 k o
  wc : ∀ (o : Fin 64) (k : Fin 128), x6 (ix2 ⟨o, by omega⟩ k) = w 2 0 k o
    ∧ x6 (ix2 ⟨64 + o, by omega⟩ k) = w 1 0 k o
  wd : ∀ (o : Fin 64) (k : Fin 128), x7 (ix2 o k) = w 0 0 k o
  b : ∀ (o : Fin 64), x8 (ix2 o 0) = b o
  w₁ : ∀ (o : Fin 32) (k : Fin 64), x9 (ix2 o k) = w₁ k o
  b₁ : ∀ (o : Fin 32), x10 (ix2 o 0) = b₁ o
  w₂ : ∀ (o : Fin 2) (k : Fin 32), x11 (ix2 o k) = w₂ k o
  b₂ : ∀ (o : Fin 2), x12 (ix2 o 0) = b₂ o
  v : ∀ (k : Fin 64), x13 (ix2 0 k) = v k
  d : x14 (ix2 0 0) = d

section Pure

variable {i : grid2.Coords} {x0 : Vec Ideal S1x128x1x1x2048 .f32} {x1 : Vec Ideal S1x128x1x1x2048 .f32} {x2 : Vec Ideal S1x1x1x1x2048 .f32} {x3 : Vec Ideal S1x64x1x2x1x4096 .f32} {x4 : Vec Ideal S256x128 .f32} {x5 : Vec Ideal S128x128 .f32} {x6 : Vec Ideal S128x128 .f32} {x7 : Vec Ideal S64x128 .f32} {x8 : Vec Ideal S64x1 .f32} {x9 : Vec Ideal S32x64 .f32} {x10 : Vec Ideal S32x1 .f32} {x11 : Vec Ideal S2x32 .f32} {x12 : Vec Ideal S2x1 .f32} {x13 : Vec Ideal S1x64 .f32} {x14 : Vec Ideal S1x1 .f32}
  {n S : ℕ} {X M T w : Img} {b : ℕ → EReal} {w₁ : ℕ → ℕ → EReal} {b₁ : ℕ → EReal} {w₂ : ℕ → ℕ → EReal} {b₂ : ℕ → EReal} {v : ℕ → EReal} {d : EReal}
  (h : Blk2 i x0 x1 x2 x3 x4 x5 x6 x7 x8 x9 x10 x11 x12 x13 x14 n S X M T w b w₁ b₁ w₂ b₂ v d)

include h

/-- The features. -/
theorem p2 (k : Fin 128) (l : Fin 2048) : k2_pay37 i x0 x1 x2 x3 x4 x5 x6 x7 x8 x9 x10 x11 x12 x13 x14 (ix2 k l) = X n k (row 2 S l) (col 2 l) := by
  pointwise [k2_pay37, k2_pay4, h.x]

/-- The rows above. -/
theorem pu2 (k : Fin 128) (l : Fin 2048) : k2_pay38 i x0 x1 x2 x3 x4 x5 x6 x7 x8 x9 x10 x11 x12 x13 x14 (ix2 k l) = down X n k (row 2 S l) (col 2 l) := by
  have hS := h.hS
  have hi := h.i
  pointwise [k2_pay38, k2_pay5, h.u]
  rw [hi]
  refine (sel_first S (by omega) _ _).trans ?_
  unfold down row col
  split
  · next h0 =>
    refine (sel_row l (by omega) _ _).trans ?_
    split
    · rw [if_pos (by omega)]
    · next hl =>
      have := lane_up hl
      rw [if_neg (by omega), dif_neg (by omega)]
      exact img_congr _ _ _ (by omega) (by omega)
  · rw [if_neg (by omega)]
    exact img_congr _ _ _ (by omega) (by omega)

/-- The columns to the left. -/
theorem pl2 (k : Fin 128) (l : Fin 2048) : k2_pay39 i x0 x1 x2 x3 x4 x5 x6 x7 x8 x9 x10 x11 x12 x13 x14 (ix2 k l) = right X n k (row 2 S l) (col 2 l) := by
  pointwise [k2_pay39, k2_pay7, k2_pay6, k2_pay4, p2 h, h.x]
  unfold right row col
  split
  · next h1 =>
    refine (sel_col l (by omega) _ _).trans ?_
    split
    · rw [if_pos (by omega)]
    · next hl =>
      have := lane_left hl
      rw [if_neg (by omega), dif_neg (by omega)]
      exact img_congr _ _ _ (by omega) (by omega)
  · rw [if_neg (by omega)]
    exact img_congr _ _ _ (by omega) (by omega)

set_option maxHeartbeats 1000000 in
/-- The transposed convolution at the output's even rows and columns, short of the bias. -/
theorem p002 (o : Fin 64) (l : Fin 2048) (y x : ℕ) (hy : y = 2 * row 2 S l) (hx : x = 2 * col 2 l) :
    k2_pay40 i x0 x1 x2 x3 x4 x5 x6 x7 x8 x9 x10 x11 x12 x13 x14 (ix2 o l) + b o
      = dec 128 w b X n o y x := by
  have hS := h.hS
  pointwise [k2_pay40, k2_pay13, k2_pay10, k2_pay11, k2_pay12, k2_pay8, k2_pay9, p2 h, pu2 h, pl2 h, (h.wa _ _).1, (h.wb _ _).1, (h.wc _ _).1, h.wd]
  rw [← dec_00 hy hx]
  refine congrArg₂ (· + ·) (congrArg₂ (· + ·) rfl (Finset.sum_congr rfl fun k _ => congrArg₂ (· * ·) rfl ?_)) rfl
  unfold right
  clear hy hx
  split
  · next h1 =>
    refine (sel_col l (by omega) _ _).trans ?_
    unfold row col
    split
    · rw [if_pos (by omega)]
    · next hl =>
      have := lane_left hl
      rw [if_neg (by omega), dif_neg (by omega)]
      exact img_congr (down X) n k (by omega) (by omega)
  · unfold row col
    rw [if_neg (by omega)]
    exact img_congr (down X) n k (by omega) (by omega)

theorem p012 (o : Fin 64) (l : Fin 2048) (y x : ℕ) (hy : y = 2 * row 2 S l) (hx : x = 2 * col 2 l + 1) :
    k2_pay41 i x0 x1 x2 x3 x4 x5 x6 x7 x8 x9 x10 x11 x12 x13 x14 (ix2 o l) + b o = dec 128 w b X n o y x := by
  pointwise [k2_pay41, k2_pay14, k2_pay10, k2_pay11, p2 h, pu2 h, (h.wa _ _).2.1, (h.wb _ _).2]
  exact dec_01 hy hx

theorem p102 (o : Fin 64) (l : Fin 2048) (y x : ℕ) (hy : y = 2 * row 2 S l + 1) (hx : x = 2 * col 2 l) :
    k2_pay42 i x0 x1 x2 x3 x4 x5 x6 x7 x8 x9 x10 x11 x12 x13 x14 (ix2 o l) + b o = dec 128 w b X n o y x := by
  pointwise [k2_pay42, k2_pay15, k2_pay10, k2_pay12, p2 h, pl2 h, (h.wa _ _).2.2.1, (h.wc _ _).2]
  exact dec_10 hy hx

theorem p112 (o : Fin 64) (l : Fin 2048) (y x : ℕ) (hy : y = 2 * row 2 S l + 1) (hx : x = 2 * col 2 l + 1) :
    k2_pay43 i x0 x1 x2 x3 x4 x5 x6 x7 x8 x9 x10 x11 x12 x13 x14 (ix2 o l) + b o = dec 128 w b X n o y x := by
  pointwise [k2_pay43, k2_pay16, k2_pay10, p2 h, (h.wa _ _).2.2.2]
  exact dec_11 hy hx

/-- The mask at the output's size. -/
theorem mask2 (a : Fin 2) (l : Fin 4096) : k2_pay44 i x0 x1 x2 x3 x4 x5 x6 x7 x8 x9 x10 x11 x12 x13 x14 (ix2 0 l) = grow M n 0 (row 4 (2 * S + a) l) (col 4 l) := by
  have ha := a.2
  pointwise [k2_pay44, k2_pay17, h.m]
  repeat' split
  · exact grow_of a.2 zero_lt_two (by unfold row; omega) (by unfold col; omega)
  · exact grow_of a.2 one_lt_two (by unfold row; omega) (by unfold col; omega)
  · exact grow_of a.2 zero_lt_two (by unfold row; omega) (by unfold col; omega)
  · exact grow_of a.2 one_lt_two (by unfold row; omega) (by unfold col; omega)

/-- The features of the upper output rows. -/
theorem xup2 (o : Fin 64) (l : Fin 4096) : k2_pay46 i x0 x1 x2 x3 x4 x5 x6 x7 x8 x9 x10 x11 x12 x13 x14 (ix2 o l) = mix (dec 128 w b X) T (grow M) n o (row 4 (2 * S + 0) l) (col 4 l) := by
  pointwise [k2_pay46, k2_pay19, k2_pay18, mask2 h 0, h.s, h.b]
  split
  · rw [p002 h _ _ (row 4 (2 * S + 0) l) (col 4 l) (by unfold row; dsimp only; omega) (by unfold col; dsimp only; omega)]
    rfl
  split
  · rw [p012 h _ _ (row 4 (2 * S + 0) l) (col 4 l) (by unfold row; dsimp only; omega) (by unfold col; dsimp only; omega)]
    rfl
  split
  · rw [p002 h _ _ (row 4 (2 * S + 0) l) (col 4 l) (by unfold row; dsimp only; omega) (by unfold col; dsimp only; omega)]
    rfl
  rw [p012 h _ _ (row 4 (2 * S + 0) l) (col 4 l) (by unfold row; dsimp only; omega) (by unfold col; dsimp only; omega)]
  rfl

/-- The features of the lower output rows. -/
theorem xlo2 (o : Fin 64) (l : Fin 4096) : k2_pay51 i x0 x1 x2 x3 x4 x5 x6 x7 x8 x9 x10 x11 x12 x13 x14 (ix2 o l) = mix (dec 128 w b X) T (grow M) n o (row 4 (2 * S + 1) l) (col 4 l) := by
  pointwise [k2_pay51, k2_pay31, k2_pay45, k2_pay18, mask2 h 1, h.s, h.b]
  split
  · rw [p102 h _ _ (row 4 (2 * S + 1) l) (col 4 l) (by unfold row; dsimp only; omega) (by unfold col; dsimp only; omega)]
    rfl
  split
  · rw [p112 h _ _ (row 4 (2 * S + 1) l) (col 4 l) (by unfold row; dsimp only; omega) (by unfold col; dsimp only; omega)]
    rfl
  split
  · rw [p102 h _ _ (row 4 (2 * S + 1) l) (col 4 l) (by unfold row; dsimp only; omega) (by unfold col; dsimp only; omega)]
    rfl
  rw [p112 h _ _ (row 4 (2 * S + 1) l) (col 4 l) (by unfold row; dsimp only; omega) (by unfold col; dsimp only; omega)]
  rfl

/-- The logits of the upper output rows. -/
theorem lup2 (o : Fin 2) (l : Fin 4096) : k2_pay25 (k2_pay44 i x0 x1 x2 x3 x4 x5 x6 x7 x8 x9 x10 x11 x12 x13 x14) (k2_pay46 i x0 x1 x2 x3 x4 x5 x6 x7 x8 x9 x10 x11 x12 x13 x14) (k2_pay47 i x0 x1 x2 x3 x4 x5 x6 x7 x8 x9 x10 x11 x12 x13 x14) (k2_pay48 i x0 x1 x2 x3 x4 x5 x6 x7 x8 x9 x10 x11 x12 x13 x14) (k2_pay49 i x0 x1 x2 x3 x4 x5 x6 x7 x8 x9 x10 x11 x12 x13 x14) (k2_pay50 i x0 x1 x2 x3 x4 x5 x6 x7 x8 x9 x10 x11 x12 x13 x14) (ix2 o l) = logit 64 w₁ b₁ w₂ b₂ (mix (dec 128 w b X) T (grow M)) (grow M) n o (row 4 (2 * S + 0) l) (col 4 l) := by
  pointwise [k2_pay25, k2_pay47, k2_pay48, k2_pay49, k2_pay50, k2_pay21, k2_pay22, k2_pay23, k2_pay24, xup2 h, mask2 h 0, h.w₁, h.b₁, h.w₂, h.b₂]
  rfl

/-- The logits of the lower output rows. -/
theorem llo2 (o : Fin 2) (l : Fin 4096) : k2_pay34 (k2_pay44 i x0 x1 x2 x3 x4 x5 x6 x7 x8 x9 x10 x11 x12 x13 x14) (k2_pay51 i x0 x1 x2 x3 x4 x5 x6 x7 x8 x9 x10 x11 x12 x13 x14) (k2_pay52 i x0 x1 x2 x3 x4 x5 x6 x7 x8 x9 x10 x11 x12 x13 x14) (View.ld x10 r2_8) (View.ld x11 r2_9) (View.ld x12 r2_10) (ix2 o l) = logit 64 w₁ b₁ w₂ b₂ (mix (dec 128 w b X) T (grow M)) (grow M) n o (row 4 (2 * S + 1) l) (col 4 l) := by
  pointwise [k2_pay34, k2_pay52, k2_pay33, xlo2 h, mask2 h 1, h.w₁, h.b₁, h.w₂, h.b₂]
  rfl

/-- The mask kept, upper output rows. -/
theorem kup2 (l : Fin 4096) : k2_pay26 (k2_pay44 i x0 x1 x2 x3 x4 x5 x6 x7 x8 x9 x10 x11 x12 x13 x14) (k2_pay46 i x0 x1 x2 x3 x4 x5 x6 x7 x8 x9 x10 x11 x12 x13 x14) (k2_pay47 i x0 x1 x2 x3 x4 x5 x6 x7 x8 x9 x10 x11 x12 x13 x14) (k2_pay48 i x0 x1 x2 x3 x4 x5 x6 x7 x8 x9 x10 x11 x12 x13 x14) (k2_pay49 i x0 x1 x2 x3 x4 x5 x6 x7 x8 x9 x10 x11 x12 x13 x14) (k2_pay50 i x0 x1 x2 x3 x4 x5 x6 x7 x8 x9 x10 x11 x12 x13 x14) (ix2 0 l) = keep (logit 64 w₁ b₁ w₂ b₂ (mix (dec 128 w b X) T (grow M)) (grow M)) (grow M) n 0 (row 4 (2 * S + 0) l) (col 4 l) := by
  pointwise [k2_pay26, lup2 h, mask2 h 0]
  simp only [sbit_eq]
  rfl

/-- The mask kept, lower output rows. -/
theorem klo2 (l : Fin 4096) : k2_pay35 (k2_pay44 i x0 x1 x2 x3 x4 x5 x6 x7 x8 x9 x10 x11 x12 x13 x14) (k2_pay51 i x0 x1 x2 x3 x4 x5 x6 x7 x8 x9 x10 x11 x12 x13 x14) (k2_pay52 i x0 x1 x2 x3 x4 x5 x6 x7 x8 x9 x10 x11 x12 x13 x14) (View.ld x10 r2_8) (View.ld x11 r2_9) (View.ld x12 r2_10) (ix2 0 l) = keep (logit 64 w₁ b₁ w₂ b₂ (mix (dec 128 w b X) T (grow M)) (grow M)) (grow M) n 0 (row 4 (2 * S + 1) l) (col 4 l) := by
  pointwise [k2_pay35, llo2 h, mask2 h 1]
  simp only [sbit_eq]
  rfl

theorem klo2' (l : Fin 4096) : k2_pay53 i x0 x1 x2 x3 x4 x5 x6 x7 x8 x9 x10 x11 x12 x13 x14 (ix2 0 l) = keep (logit 64 w₁ b₁ w₂ b₂ (mix (dec 128 w b X) T (grow M)) (grow M)) (grow M) n 0 (row 4 (2 * S + 1) l) (col 4 l) := klo2 h l

theorem xup2x (o : Fin 64) (l : Fin 4096) : k2_pay19 (k2_pay40 i x0 x1 x2 x3 x4 x5 x6 x7 x8 x9 x10 x11 x12 x13 x14) (k2_pay41 i x0 x1 x2 x3 x4 x5 x6 x7 x8 x9 x10 x11 x12 x13 x14) (k2_pay44 i x0 x1 x2 x3 x4 x5 x6 x7 x8 x9 x10 x11 x12 x13 x14) (View.ld x8 r2_5) (View.ld x3 r2_6) (ix2 o l) = mix (dec 128 w b X) T (grow M) n o (row 4 (2 * S + 0) l) (col 4 l) := xup2 h o l

theorem xlo2x (o : Fin 64) (l : Fin 4096) : k2_pay31 (k2_pay42 i x0 x1 x2 x3 x4 x5 x6 x7 x8 x9 x10 x11 x12 x13 x14) (k2_pay43 i x0 x1 x2 x3 x4 x5 x6 x7 x8 x9 x10 x11 x12 x13 x14) (k2_pay44 i x0 x1 x2 x3 x4 x5 x6 x7 x8 x9 x10 x11 x12 x13 x14) (k2_pay45 i x0 x1 x2 x3 x4 x5 x6 x7 x8 x9 x10 x11 x12 x13 x14) (View.ld x3 r2_15) (ix2 o l) = mix (dec 128 w b X) T (grow M) n o (row 4 (2 * S + 1) l) (col 4 l) := xlo2 h o l

/-- The features. -/
theorem out2_x (o : Fin 64) (a : Fin 2) (l : Fin 4096) : out2_15 i x0 x1 x2 x3 x4 x5 x6 x7 x8 x9 x10 x11 x12 x13 x14 (ix6 0 o 0 a 0 l) = mix (dec 128 w b X) T (grow M) n o (row 4 (2 * S + a) l) (col 4 l) := by
  unfold out2_15
  canon_tiles x hx
  · idx_vars x
    have ea : (a : ℕ) = 1 := by
      have e : (a : ℕ) = 1 + (x3 : ℕ) := hx3
      omega
    obtain rfl : l = x5 := Fin.ext hx5
    obtain rfl : o = x1 := Fin.ext hx1
    rw [ea]
    pointwise [k2_pay32, xlo2x h]
  · idx_vars x
    have ea : (a : ℕ) = 0 := by
      have e : (a : ℕ) = (x3 : ℕ) := hx3
      omega
    obtain rfl : l = x5 := Fin.ext hx5
    obtain rfl : o = x1 := Fin.ext hx1
    rw [ea]
    pointwise [k2_pay20, xup2x h]

/-- The output. -/
theorem out2_y (a : Fin 2) (l : Fin 4096) : out2_16 i x0 x1 x2 x3 x4 x5 x6 x7 x8 x9 x10 x11 x12 x13 x14 (ix6 0 0 0 a 0 l) = outp 64 v d (mix (dec 128 w b X) T (grow M)) (keep (logit 64 w₁ b₁ w₂ b₂ (mix (dec 128 w b X) T (grow M)) (grow M)) (grow M)) n 0 (row 4 (2 * S + a) l) (col 4 l) := by
  unfold out2_16
  canon_tiles x hx
  · idx_vars x
    have ea : (a : ℕ) = 1 := by
      have e : (a : ℕ) = 1 + (x3 : ℕ) := hx3
      omega
    obtain rfl : l = x5 := Fin.ext hx5
    rw [ea]
    pointwise [k2_pay36, klo2 h, xlo2 h, h.v, h.d]
    rfl
  · idx_vars x
    have ea : (a : ℕ) = 0 := by
      have e : (a : ℕ) = (x3 : ℕ) := hx3
      omega
    obtain rfl : l = x5 := Fin.ext hx5
    rw [ea]
    pointwise [k2_pay27, kup2 h, xup2 h, h.v, h.d]
    rfl

/-- The logits. -/
theorem out2_l (o : Fin 2) (a : Fin 2) (l : Fin 4096) : out2_17 i x0 x1 x2 x3 x4 x5 x6 x7 x8 x9 x10 x11 x12 x13 x14 (ix6 0 o 0 a 0 l) = logit 64 w₁ b₁ w₂ b₂ (mix (dec 128 w b X) T (grow M)) (grow M) n o (row 4 (2 * S + a) l) (col 4 l) := by
  unfold out2_17
  canon_tiles x hx
  · idx_vars x
    have ea : (a : ℕ) = 1 := by
      have e : (a : ℕ) = 1 + (x3 : ℕ) := hx3
      omega
    obtain rfl : l = x5 := Fin.ext hx5
    obtain rfl : o = x1 := Fin.ext hx1
    rw [ea]
    pointwise [k2_pay2, llo2 h]
  · idx_vars x
    have ea : (a : ℕ) = 0 := by
      have e : (a : ℕ) = (x3 : ℕ) := hx3
      omega
    obtain rfl : l = x5 := Fin.ext hx5
    obtain rfl : o = x1 := Fin.ext hx1
    rw [ea]
    pointwise [k2_pay29, lup2 h]

/-- The mask kept. -/
theorem out2_t (a : Fin 2) (l : Fin 4096) : out2_18 i x0 x1 x2 x3 x4 x5 x6 x7 x8 x9 x10 x11 x12 x13 x14 (ix6 0 0 0 a 0 l) = keep (logit 64 w₁ b₁ w₂ b₂ (mix (dec 128 w b X) T (grow M)) (grow M)) (grow M) n 0 (row 4 (2 * S + a) l) (col 4 l) := by
  unfold out2_18
  canon_tiles x hx
  · idx_vars x
    have ea : (a : ℕ) = 1 := by
      have e : (a : ℕ) = 1 + (x3 : ℕ) := hx3
      omega
    obtain rfl : l = x5 := Fin.ext hx5
    rw [ea]
    pointwise [k2_pay1, klo2' h]
  · idx_vars x
    have ea : (a : ℕ) = 0 := by
      have e : (a : ℕ) = (x3 : ℕ) := hx3
      omega
    obtain rfl : l = x5 := Fin.ext hx5
    rw [ea]
    pointwise [k2_pay28, kup2 h]

/-- The mask handed on. -/
theorem out2_r (a : Fin 2) (l : Fin 4096) : out2_19 i x0 x1 x2 x3 x4 x5 x6 x7 x8 x9 x10 x11 x12 x13 x14 (ix6 0 0 0 a 0 l) = rest (grow M) (keep (logit 64 w₁ b₁ w₂ b₂ (mix (dec 128 w b X) T (grow M)) (grow M)) (grow M)) n 0 (row 4 (2 * S + a) l) (col 4 l) := by
  unfold out2_19
  canon_tiles x hx
  · idx_vars x
    have ea : (a : ℕ) = 1 := by
      have e : (a : ℕ) = 1 + (x3 : ℕ) := hx3
      omega
    obtain rfl : l = x5 := Fin.ext hx5
    rw [ea]
    pointwise [k2_pay3, klo2' h, mask2 h 1]
    rfl
  · idx_vars x
    have ea : (a : ℕ) = 0 := by
      have e : (a : ℕ) = (x3 : ℕ) := hx3
      omega
    obtain rfl : l = x5 := Fin.ext hx5
    rw [ea]
    pointwise [k2_pay30, kup2 h, mask2 h 0]
    rfl

end Pure

/-- What the third level's operands hold. -/
structure In2 (V : Bufs) (c : Dev nD) (X M T w : Img) (b : ℕ → EReal) (w₁ : ℕ → ℕ → EReal) (b₁ : ℕ → EReal) (w₂ : ℕ → ℕ → EReal) (b₂ : ℕ → EReal) (v : ℕ → EReal) (d : EReal) : Prop where
  x : ∀ (n : Fin 4) (S : Fin 2) (k : Fin 128) (l : Fin 2048), V c main_v55 (ix5 n k S 0 l) = X n k (row 2 S l) (col 2 l)
  m : ∀ (n : Fin 4) (S : Fin 2) (l : Fin 2048), V c main_v59 (ix5 n 0 S 0 l) = M n 0 (row 2 S l) (col 2 l)
  s : ∀ (n : Fin 4) (S : Fin 2) (o : Fin 64) (a : Fin 2) (l : Fin 4096), V c main_v65 (ix6 n o S a 0 l) = T n o (row 4 (2 * S + a) l) (col 4 l)
  wa : ∀ (o : Fin 64) (k : Fin 128), V c main_v78 (ix2 ⟨o, by omega⟩ k) = w 2 2 k o
    ∧ V c main_v78 (ix2 ⟨64 + o, by omega⟩ k) = w 2 1 k o
    ∧ V c main_v78 (ix2 ⟨128 + o, by omega⟩ k) = w 1 2 k o
    ∧ V c main_v78 (ix2 ⟨192 + o, by omega⟩ k) = w 1 1 k o
  wb : ∀ (o : Fin 64) (k : Fin 128), V c main_v85 (ix2 ⟨o, by omega⟩ k) = w 0 2 k o
    ∧ V c main_v85 (ix2 ⟨64 + o, by omega⟩ k) = w 0 1 k o
  wc : ∀ (o : Fin 64) (k : Fin 128), V c main_v92 (ix2 ⟨o, by omega⟩ k) = w 2 0 k o
    ∧ V c main_v92 (ix2 ⟨64 + o, by omega⟩ k) = w 1 0 k o
  wd : ∀ (o : Fin 64) (k : Fin 128), V c main_v95 (ix2 o k) = w 0 0 k o
  b : ∀ (o : Fin 64), V c main_v96 (ix2 o 0) = b o
  w₁ : ∀ (o : Fin 32) (k : Fin 64), V c main_v97 (ix2 o k) = w₁ k o
  b₁ : ∀ (o : Fin 32), V c main_v98 (ix2 o 0) = b₁ o
  w₂ : ∀ (o : Fin 2) (k : Fin 32), V c main_v99 (ix2 o k) = w₂ k o
  b₂ : ∀ (o : Fin 2), V c main_v100 (ix2 o 0) = b₂ o
  v : ∀ (k : Fin 64), V c main_v101 (ix2 0 k) = v k
  d : V c main_v102 (ix2 0 0) = d

theorem idx2 : ∀ t : Fin cfg2.N, (t.val / 2 < 4 ∧ t.val % 2 < 2 ∧ (t.val % 2 + 1) % 2 < 2 ∧ (grid2.coords t 1).val = t.val % 2) ∧ win2_0.index t = ![t.val / 2, 0, t.val % 2, 0, 0] ∧ win2_1.index t = ![t.val / 2, 0, (t.val % 2 + 1) % 2, 0, 0] ∧ win2_2.index t = ![t.val / 2, 0, t.val % 2, 0, 0]
    ∧ win2_3.index t = ![t.val / 2, 0, t.val % 2, 0, 0, 0] ∧ win2_4.index t = ![0, 0] ∧ win2_5.index t = ![0, 0] ∧ win2_6.index t = ![0, 0] ∧ win2_7.index t = ![0, 0] ∧ win2_8.index t = ![0, 0] ∧ win2_9.index t = ![0, 0] ∧ win2_10.index t = ![0, 0] ∧ win2_11.index t = ![0, 0] ∧ win2_12.index t = ![0, 0] ∧ win2_13.index t = ![0, 0] ∧ win2_14.index t = ![0, 0]
    ∧ win2_15.index t = ![t.val / 2, 0, t.val % 2, 0, 0, 0] ∧ win2_16.index t = ![t.val / 2, 0, t.val % 2, 0, 0, 0] ∧ win2_17.index t = ![t.val / 2, 0, t.val % 2, 0, 0, 0] ∧ win2_18.index t = ![t.val / 2, 0, t.val % 2, 0, 0, 0] ∧ win2_19.index t = ![t.val / 2, 0, t.val % 2, 0, 0, 0] := (by decide +kernel : ∀ t : Fin grid2.N, _)

section Blocks

variable {V : Bufs} {c : Dev nD} {X M T w : Img} {b : ℕ → EReal} {w₁ : ℕ → ℕ → EReal} {b₁ : ℕ → EReal} {w₂ : ℕ → ℕ → EReal} {b₂ : ℕ → EReal} {v : ℕ → EReal} {d : EReal}
  (h : In2 V c X M T w b w₁ b₁ w₂ b₂ v d)

include h

variable (t : Fin cfg2.N)

theorem blk2_x (k : Fin 128) (l : Fin 2048) : iblk2 V c 0 t (ix5 0 k 0 0 l) = X (t / 2) k (row 2 (t % 2) l) (col 2 l) := by
  refine Eq.trans ?_ (h.x ⟨t / 2, (idx2 t).1.1⟩ ⟨t % 2, (idx2 t).1.2.1⟩ k l)
  blk_ext [iblk2, idx2 t]

theorem blk2_u (k : Fin 128) (l : Fin 2048) : iblk2 V c 1 t (ix5 0 k 0 0 l) = X (t / 2) k (row 2 (((t % 2) + 1) % 2) l) (col 2 l) := by
  refine Eq.trans ?_ (h.x ⟨t / 2, (idx2 t).1.1⟩ ⟨(t % 2 + 1) % 2, (idx2 t).1.2.2.1⟩ k l)
  blk_ext [iblk2, idx2 t]

theorem blk2_m (l : Fin 2048) : iblk2 V c 2 t (ix5 0 0 0 0 l) = M (t / 2) 0 (row 2 (t % 2) l) (col 2 l) := by
  refine Eq.trans ?_ (h.m ⟨t / 2, (idx2 t).1.1⟩ ⟨t % 2, (idx2 t).1.2.1⟩ l)
  blk_ext [iblk2, idx2 t]

theorem blk2_s (o : Fin 64) (a : Fin 2) (l : Fin 4096) : iblk2 V c 3 t (ix6 0 o 0 a 0 l) = T (t / 2) o (row 4 (2 * (t % 2) + a) l) (col 4 l) := by
  refine Eq.trans ?_ (h.s ⟨t / 2, (idx2 t).1.1⟩ ⟨t % 2, (idx2 t).1.2.1⟩ o a l)
  blk_ext [iblk2, idx2 t]

set_option maxHeartbeats 1000000 in
theorem blk2_wa (o : Fin 64) (k : Fin 128) : iblk2 V c 4 t (ix2 ⟨o, by omega⟩ k) = w 2 2 k o
    ∧ iblk2 V c 4 t (ix2 ⟨64 + o, by omega⟩ k) = w 2 1 k o
    ∧ iblk2 V c 4 t (ix2 ⟨128 + o, by omega⟩ k) = w 1 2 k o
    ∧ iblk2 V c 4 t (ix2 ⟨192 + o, by omega⟩ k) = w 1 1 k o := by
  refine ⟨Eq.trans ?_ (h.wa o k).1, Eq.trans ?_ (h.wa o k).2.1, Eq.trans ?_ (h.wa o k).2.2.1, Eq.trans ?_ (h.wa o k).2.2.2⟩ <;> blk_ext [iblk2, idx2 t]

set_option maxHeartbeats 1000000 in
theorem blk2_wb (o : Fin 64) (k : Fin 128) : iblk2 V c 5 t (ix2 ⟨o, by omega⟩ k) = w 0 2 k o
    ∧ iblk2 V c 5 t (ix2 ⟨64 + o, by omega⟩ k) = w 0 1 k o := by
  refine ⟨Eq.trans ?_ (h.wb o k).1, Eq.trans ?_ (h.wb o k).2⟩ <;> blk_ext [iblk2, idx2 t]

set_option maxHeartbeats 1000000 in
theorem blk2_wc (o : Fin 64) (k : Fin 128) : iblk2 V c 6 t (ix2 ⟨o, by omega⟩ k) = w 2 0 k o
    ∧ iblk2 V c 6 t (ix2 ⟨64 + o, by omega⟩ k) = w 1 0 k o := by
  refine ⟨Eq.trans ?_ (h.wc o k).1, Eq.trans ?_ (h.wc o k).2⟩ <;> blk_ext [iblk2, idx2 t]

theorem blk2_wd (o : Fin 64) (k : Fin 128) : iblk2 V c 7 t (ix2 o k) = w 0 0 k o := by
  refine Eq.trans ?_ (h.wd o k)
  blk_ext [iblk2, idx2 t]

theorem blk2_b (o : Fin 64) : iblk2 V c 8 t (ix2 o 0) = b o := by
  refine Eq.trans ?_ (h.b o)
  blk_ext [iblk2, idx2 t]

theorem blk2_w₁ (o : Fin 32) (k : Fin 64) : iblk2 V c 9 t (ix2 o k) = w₁ k o := by
  refine Eq.trans ?_ (h.w₁ o k)
  blk_ext [iblk2, idx2 t]

theorem blk2_b₁ (o : Fin 32) : iblk2 V c 10 t (ix2 o 0) = b₁ o := by
  refine Eq.trans ?_ (h.b₁ o)
  blk_ext [iblk2, idx2 t]

theorem blk2_w₂ (o : Fin 2) (k : Fin 32) : iblk2 V c 11 t (ix2 o k) = w₂ k o := by
  refine Eq.trans ?_ (h.w₂ o k)
  blk_ext [iblk2, idx2 t]

theorem blk2_b₂ (o : Fin 2) : iblk2 V c 12 t (ix2 o 0) = b₂ o := by
  refine Eq.trans ?_ (h.b₂ o)
  blk_ext [iblk2, idx2 t]

theorem blk2_v (k : Fin 64) : iblk2 V c 13 t (ix2 0 k) = v k := by
  refine Eq.trans ?_ (h.v k)
  blk_ext [iblk2, idx2 t]

theorem blk2_d  : iblk2 V c 14 t (ix2 0 0) = d := by
  refine Eq.trans ?_ (h.d )
  blk_ext [iblk2, idx2 t]

/-- The blocks of one grid point. -/
theorem blk2 : Blk2 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (t / 2) (t % 2) X M T w b w₁ b₁ w₂ b₂ v d :=
  ⟨(idx2 t).1.2.1, (idx2 t).1.2.2.2, blk2_x h t, blk2_u h t, blk2_m h t, blk2_s h t, blk2_wa h t, blk2_wb h t, blk2_wc h t, blk2_wd h t, blk2_b h t, blk2_w₁ h t, blk2_b₁ h t, blk2_w₂ h t, blk2_b₂ h t, blk2_v h t, blk2_d h t⟩

/-- The features. -/
theorem call2_x : (dat2 V c).arrAt 15 cfg2.N = fun i => mix (dec 128 w b X) T (grow M) (i 0) (i 1) (row 4 (2 * (i 2) + i 3) (i 5)) (col 4 (i 5)) := by
  refine (dat2 V c).arrAt_eq_of_covers 15 _ (by decide +kernel) fun t _ y => ?_
  blk_simp
  rw [after2_15]
  blk_simp [idx2 t]
  idx_vars y
  obtain rfl : y0 = 0 := Subsingleton.elim _ _
  obtain rfl : y2 = 0 := Subsingleton.elim _ _
  obtain rfl : y4 = 0 := Subsingleton.elim _ _
  exact out2_x (blk2 h t) _ _ _

/-- The output. -/
theorem call2_y : (dat2 V c).arrAt 16 cfg2.N = fun i => outp 64 v d (mix (dec 128 w b X) T (grow M)) (keep (logit 64 w₁ b₁ w₂ b₂ (mix (dec 128 w b X) T (grow M)) (grow M)) (grow M)) (i 0) 0 (row 4 (2 * (i 2) + i 3) (i 5)) (col 4 (i 5)) := by
  refine (dat2 V c).arrAt_eq_of_covers 16 _ (by decide +kernel) fun t _ y => ?_
  blk_simp
  rw [after2_16]
  blk_simp [idx2 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  exact out2_y (blk2 h t) _ _

/-- The logits. -/
theorem call2_l : (dat2 V c).arrAt 17 cfg2.N = fun i => logit 64 w₁ b₁ w₂ b₂ (mix (dec 128 w b X) T (grow M)) (grow M) (i 0) (i 1) (row 4 (2 * (i 2) + i 3) (i 5)) (col 4 (i 5)) := by
  refine (dat2 V c).arrAt_eq_of_covers 17 _ (by decide +kernel) fun t _ y => ?_
  blk_simp
  rw [after2_17]
  blk_simp [idx2 t]
  idx_vars y
  obtain rfl : y0 = 0 := Subsingleton.elim _ _
  obtain rfl : y2 = 0 := Subsingleton.elim _ _
  obtain rfl : y4 = 0 := Subsingleton.elim _ _
  exact out2_l (blk2 h t) _ _ _

/-- The mask kept. -/
theorem call2_t : (dat2 V c).arrAt 18 cfg2.N = fun i => keep (logit 64 w₁ b₁ w₂ b₂ (mix (dec 128 w b X) T (grow M)) (grow M)) (grow M) (i 0) 0 (row 4 (2 * (i 2) + i 3) (i 5)) (col 4 (i 5)) := by
  refine (dat2 V c).arrAt_eq_of_covers 18 _ (by decide +kernel) fun t _ y => ?_
  blk_simp
  rw [after2_18]
  blk_simp [idx2 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  exact out2_t (blk2 h t) _ _

/-- The mask handed on. -/
theorem call2_r : (dat2 V c).arrAt 19 cfg2.N = fun i => rest (grow M) (keep (logit 64 w₁ b₁ w₂ b₂ (mix (dec 128 w b X) T (grow M)) (grow M)) (grow M)) (i 0) 0 (row 4 (2 * (i 2) + i 3) (i 5)) (col 4 (i 5)) := by
  refine (dat2 V c).arrAt_eq_of_covers 19 _ (by decide +kernel) fun t _ y => ?_
  blk_simp
  rw [after2_19]
  blk_simp [idx2 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  exact out2_r (blk2 h t) _ _

end Blocks

end Cert.Dec.Ker
-- ==== Proof.H2.lean ====
/- The operations before the third call, and what that call leaves. -/
module

public import proofs.«01_k».proof.Proof.H1
public import proofs.«01_k».proof.Proof.K2

@[expose] public section

set_option maxRecDepth 16384

noncomputable section

namespace Cert.Dec.Ker

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

theorem in2_x (n : Fin 4) (S : Fin 2) (k : Fin 128) (l : Fin 2048) : V5 m ρ c main_v55 (ix5 n k S 0 l) = (argsOf m c).net.x1 n k (row 2 S l) (col 2 l) := by
  unfold_abbrev_sides
  after_reads_at
  refine (res1_x m ρ c n k S l).trans (img_congr (argsOf m c).net.x1 _ _ ?_ ?_) <;> (try unfold row) <;> (try unfold col) <;> (try dsimp only) <;> omega

theorem in2_m (n : Fin 4) (S : Fin 2) (l : Fin 2048) : V5 m ρ c main_v59 (ix5 n 0 S 0 l) = (argsOf m c).net.r1 n 0 (row 2 S l) (col 2 l) := by
  unfold_abbrev_sides
  after_reads_at
  refine (res1_r m ρ c n S l).trans (img_congr (argsOf m c).net.r1 _ _ ?_ ?_) <;> (try unfold row) <;> (try unfold col) <;> (try dsimp only) <;> omega

theorem in2_s (n : Fin 4) (S : Fin 2) (o : Fin 64) (a : Fin 2) (l : Fin 4096) : V5 m ρ c main_v65 (ix6 n o S a 0 l) = (argsOf m c).net.s2 n o (row 4 (2 * S + a) l) (col 4 l) := by
  unfold_abbrev_sides
  after_reads_at
  refine ((congrFun (W4_args m ρ c main_arg3 (by decide)) _).trans (rd4_fin _ _ _ _ _)).trans (img_congr (argsOf m c).net.s2 _ _ ?_ ?_) <;> (try unfold row) <;> (try unfold col) <;> (try dsimp only) <;> omega

theorem in2_wa0 (o : Fin 64) (k : Fin 128) : V5 m ρ c main_v78 (ix2 ⟨o, by omega⟩ k) = (argsOf m c).net.d2 2 2 k o := by
  unfold_abbrev_sides
  after_reads_at
  refine (congrFun (StableHlo.unary_result' ..) _).trans ?_
  after_reads_at
  exact (congrFun (W4_args m ρ c main_arg7 (by decide)) _).trans (rd4_fin _ 2 2 k o)

theorem in2_wa1 (o : Fin 64) (k : Fin 128) : V5 m ρ c main_v78 (ix2 ⟨64 + o, by omega⟩ k) = (argsOf m c).net.d2 2 1 k o := by
  unfold_abbrev_sides
  after_reads_at
  refine (congrFun (StableHlo.unary_result' ..) _).trans ?_
  after_reads_at
  exact (congrFun (W4_args m ρ c main_arg7 (by decide)) _).trans (rd4_fin _ 2 1 k o)

theorem in2_wa2 (o : Fin 64) (k : Fin 128) : V5 m ρ c main_v78 (ix2 ⟨128 + o, by omega⟩ k) = (argsOf m c).net.d2 1 2 k o := by
  unfold_abbrev_sides
  after_reads_at
  refine (dif_neg (by omega)).trans ?_
  refine (dif_neg (by omega)).trans ?_
  refine (dif_pos (by omega)).trans ?_
  refine (congrFun (StableHlo.unary_result' ..) _).trans ?_
  after_reads_at
  exact (congrFun (W4_args m ρ c main_arg7 (by decide)) _).trans ((rd4_fin _ 1 2 k _).trans (congrArg (rd4 _ 1 2 k) (by dsimp only; omega)))

theorem in2_wa3 (o : Fin 64) (k : Fin 128) : V5 m ρ c main_v78 (ix2 ⟨192 + o, by omega⟩ k) = (argsOf m c).net.d2 1 1 k o := by
  unfold_abbrev_sides
  after_reads_at
  refine (dif_neg (by omega)).trans ?_
  refine (dif_neg (by omega)).trans ?_
  refine (dif_neg (by omega)).trans ?_
  refine (congrFun (StableHlo.unary_result' ..) _).trans ?_
  after_reads_at
  exact (congrFun (W4_args m ρ c main_arg7 (by decide)) _).trans ((rd4_fin _ 1 1 k _).trans (congrArg (rd4 _ 1 1 k) (by dsimp only; omega)))

theorem in2_wb0 (o : Fin 64) (k : Fin 128) : V5 m ρ c main_v85 (ix2 ⟨o, by omega⟩ k) = (argsOf m c).net.d2 0 2 k o := by
  unfold_abbrev_sides
  after_reads_at
  exact (congrFun (W4_args m ρ c main_arg7 (by decide)) _).trans (rd4_fin _ 0 2 k o)

theorem in2_wb1 (o : Fin 64) (k : Fin 128) : V5 m ρ c main_v85 (ix2 ⟨64 + o, by omega⟩ k) = (argsOf m c).net.d2 0 1 k o := by
  unfold_abbrev_sides
  after_reads_at
  exact (congrFun (W4_args m ρ c main_arg7 (by decide)) _).trans (rd4_fin _ 0 1 k o)

theorem in2_wc0 (o : Fin 64) (k : Fin 128) : V5 m ρ c main_v92 (ix2 ⟨o, by omega⟩ k) = (argsOf m c).net.d2 2 0 k o := by
  unfold_abbrev_sides
  after_reads_at
  exact (congrFun (W4_args m ρ c main_arg7 (by decide)) _).trans (rd4_fin _ 2 0 k o)

theorem in2_wc1 (o : Fin 64) (k : Fin 128) : V5 m ρ c main_v92 (ix2 ⟨64 + o, by omega⟩ k) = (argsOf m c).net.d2 1 0 k o := by
  unfold_abbrev_sides
  after_reads_at
  exact (congrFun (W4_args m ρ c main_arg7 (by decide)) _).trans (rd4_fin _ 1 0 k o)

theorem in2_wd (o : Fin 64) (k : Fin 128) : V5 m ρ c main_v95 (ix2 o k) = (argsOf m c).net.d2 0 0 k o := by
  unfold_abbrev_sides
  after_reads_at
  exact (congrFun (W4_args m ρ c main_arg7 (by decide)) _).trans (rd4_fin _ 0 0 k o)

theorem in2_b (o : Fin 64) : V5 m ρ c main_v96 (ix2 o 0) = (argsOf m c).net.e2 o := by
  unfold_abbrev_sides
  after_reads_at
  exact (congrFun (W4_args m ρ c main_arg8 (by decide)) _).trans (rd1_fin _ o)

theorem in2_w₁ (o : Fin 32) (k : Fin 64) : V5 m ρ c main_v97 (ix2 o k) = (argsOf m c).net.a2 k o := by
  unfold_abbrev_sides
  after_reads_at
  exact (congrFun (W4_args m ρ c main_arg27 (by decide)) _).trans (rd2_fin _ k o)

theorem in2_b₁ (o : Fin 32) : V5 m ρ c main_v98 (ix2 o 0) = (argsOf m c).net.b2 o := by
  unfold_abbrev_sides
  after_reads_at
  exact (congrFun (W4_args m ρ c main_arg28 (by decide)) _).trans (rd1_fin _ o)

theorem in2_w₂ (o : Fin 2) (k : Fin 32) : V5 m ρ c main_v99 (ix2 o k) = (argsOf m c).net.f2 k o := by
  unfold_abbrev_sides
  after_reads_at
  exact (congrFun (W4_args m ρ c main_arg29 (by decide)) _).trans (rd2_fin _ k o)

theorem in2_b₂ (o : Fin 2) : V5 m ρ c main_v100 (ix2 o 0) = (argsOf m c).net.g2 o := by
  unfold_abbrev_sides
  after_reads_at
  exact (congrFun (W4_args m ρ c main_arg30 (by decide)) _).trans (rd1_fin _ o)

theorem in2_v (k : Fin 64) : V5 m ρ c main_v101 (ix2 0 k) = (argsOf m c).net.o2 k := by
  unfold_abbrev_sides
  after_reads_at
  exact (congrFun (W4_args m ρ c main_arg15 (by decide)) _).trans (rd2_fin _ k 0)

theorem in2_d : V5 m ρ c main_v102 (ix2 0 0) = (argsOf m c).net.p2 := by
  unfold_abbrev_sides
  after_reads_at
  exact (congrFun (W4_args m ρ c main_arg16 (by decide)) _).trans (rd1_fin _ 0)

/-- What call 2 is entered with. -/
theorem in2 : In2 (V5 m ρ) c (argsOf m c).net.x1 (argsOf m c).net.r1 (argsOf m c).net.s2 (argsOf m c).net.d2 (argsOf m c).net.e2 (argsOf m c).net.a2 (argsOf m c).net.b2 (argsOf m c).net.f2 (argsOf m c).net.g2 (argsOf m c).net.o2 (argsOf m c).net.p2 :=
  ⟨in2_x m ρ c,
    in2_m m ρ c,
    in2_s m ρ c,
    fun o k => ⟨in2_wa0 m ρ c o k, in2_wa1 m ρ c o k, in2_wa2 m ρ c o k, in2_wa3 m ρ c o k⟩,
    fun o k => ⟨in2_wb0 m ρ c o k, in2_wb1 m ρ c o k⟩,
    fun o k => ⟨in2_wc0 m ρ c o k, in2_wc1 m ρ c o k⟩,
    in2_wd m ρ c,
    in2_b m ρ c,
    in2_w₁ m ρ c,
    in2_b₁ m ρ c,
    in2_w₂ m ρ c,
    in2_b₂ m ρ c,
    in2_v m ρ c,
    in2_d m ρ c⟩

theorem res2_x (n : Fin 4) (k : Fin 64) (S a : Fin 2) (l : Fin 4096) : W6 m ρ c main_v103_0 (ix6 n k S a 0 l) = (argsOf m c).net.x2 n k (row 4 (2 * S + a) l) (col 4 l) :=
  congrFun ((W6_arr m ρ c 15).trans (call2_x (in2 m ρ c))) (ix6 n k S a 0 l)

theorem res2_y (n : Fin 4) (S a : Fin 2) (l : Fin 4096) : W6 m ρ c main_v103_1 (ix6 n 0 S a 0 l) = (argsOf m c).net.y2 n 0 (row 4 (2 * S + a) l) (col 4 l) :=
  congrFun ((W6_arr m ρ c 16).trans (call2_y (in2 m ρ c))) (ix6 n 0 S a 0 l)

theorem res2_l (n : Fin 4) (k : Fin 2) (S a : Fin 2) (l : Fin 4096) : W6 m ρ c main_v103_2 (ix6 n k S a 0 l) = (argsOf m c).net.l2 n k (row 4 (2 * S + a) l) (col 4 l) :=
  congrFun ((W6_arr m ρ c 17).trans (call2_l (in2 m ρ c))) (ix6 n k S a 0 l)

theorem res2_t (n : Fin 4) (S a : Fin 2) (l : Fin 4096) : W6 m ρ c main_v103_3 (ix6 n 0 S a 0 l) = (argsOf m c).net.t2 n 0 (row 4 (2 * S + a) l) (col 4 l) :=
  congrFun ((W6_arr m ρ c 18).trans (call2_t (in2 m ρ c))) (ix6 n 0 S a 0 l)

theorem res2_r (n : Fin 4) (S a : Fin 2) (l : Fin 4096) : W6 m ρ c main_v103_4 (ix6 n 0 S a 0 l) = (argsOf m c).net.r2 n 0 (row 4 (2 * S + a) l) (col 4 l) :=
  congrFun ((W6_arr m ρ c 19).trans (call2_r (in2 m ρ c))) (ix6 n 0 S a 0 l)

end Cert.Dec.Ker
-- ==== Proof.K3.lean ====
/- The projection of the last skip connection: its 32 channels weighed and summed, pixel by pixel. -/
module

public import proofs.«01_k».proof.Proof.K0
public import proofs.«01_k».proof.Proof.Gen.KernelIdeal.Frame.Region3

@[expose] public section

set_option maxRecDepth 16384

noncomputable section

namespace Cert.Dec.Ker

open Cert.KernelIdeal Cert.KernelIdeal.Gen Idealize.ShloMosaic Idealize.ShloMosaic.TcCoe Idealize.ShloMosaic.Pipeline

theorem mul_sum_comm (f g : Fin 32 → EReal) : ∑ k, f k * g k = ∑ k, g k * f k :=
  Finset.sum_congr rfl fun k _ => mul_comm _ _

/-- What the projection's operands hold. -/
structure In3 (V : Bufs) (c : Dev nD) (S : Img) (w : ℕ → EReal) : Prop where
  s : ∀ (n : Fin 4) (k : Fin 32) (y x : Fin 256), V c main_arg4 (ix4 n k y x) = S n k y x
  w : ∀ k : Fin 32, V c main_v109 (ix3 k 0 0) = w k

theorem idx3 : ∀ t : Fin cfg3.N, (t.val / 8 < 4 ∧ t.val % 8 < 8) ∧ win3_0.index t = ![t.val / 8, 0, t.val % 8, 0] ∧ win3_1.index t = ![0, 0, 0]
    ∧ win3_2.index t = ![t.val / 8, 0, t.val % 8, 0] := (by decide +kernel : ∀ t : Fin grid3.N, _)

variable {V : Bufs} {c : Dev nD} {S : Img} {w : ℕ → EReal} (h : In3 V c S w)

include h

theorem blk3_s (t : Fin cfg3.N) (k : Fin 32) (y : Fin 32) (x : Fin 256) : iblk3 V c 0 t (ix4 0 k y x) = S (t / 8) k (t % 8 * 32 + y) x := by
  have ht := (idx3 t).1
  refine Eq.trans ?_ (h.s ⟨t / 8, ht.1⟩ k ⟨t % 8 * 32 + y, by omega⟩ x)
  blk_ext [iblk3, idx3 t]

theorem blk3_w (t : Fin cfg3.N) (k : Fin 32) : iblk3 V c 1 t (ix3 k 0 0) = w k := by
  refine Eq.trans ?_ (h.w k)
  blk_ext [iblk3, idx3 t]

/-- The projection. -/
theorem call3 : (dat3 V c).arrAt 2 cfg3.N = fun i => conv 32 w S (i 0) (i 2) (i 3) := by
  refine (dat3 V c).arrAt_eq_of_covers 2 _ (by decide +kernel) fun t _ y => ?_
  blk_simp
  rw [after3_2]
  frame_out
  blk_simp [idx3 t]
  idx_vars y
  pointwise [k3_pay1, blk3_s h t, blk3_w h t]
  exact mul_sum_comm _ _

end Cert.Dec.Ker
-- ==== Proof.K4.lean ====
/- The fourth level's call: chunk `S` holds the rows that are `S` modulo 4, and writes the output rows that are `2 * S` and
`2 * S + 1` modulo 8. -/
module

public import proofs.«01_k».proof.Proof.K0
public import proofs.«01_k».proof.Proof.Gen.KernelIdeal.Frame.Region4

@[expose] public section

set_option maxRecDepth 16384

noncomputable section

namespace Cert.Dec.Ker

open Cert.KernelIdeal Cert.KernelIdeal.Gen Idealize.ShloMosaic Idealize.ShloMosaic.TcCoe Idealize.ShloMosaic.Pipeline

/-- The last level's output, the skip connection projected by itself. -/
def fin (D T M : Img) (v : ℕ → EReal) (d : EReal) : Img := fun n _ y x =>
  Ideal.logistic ((conv 32 v (fun n c y x => leaky (D n c y x)) n y x + T n 0 y x) * (Ideal.ofBits .f32 0x3F000000#32 * M n 0 y x) + d) * M n 0 y x

/-- What the fourth level's blocks hold at image `n`, chunk `S`. -/
structure Blk4 (i : grid4.Coords) (x0 : Vec Ideal S1x64x1x1x4096 .f32) (x1 : Vec Ideal S1x64x1x1x4096 .f32) (x2 : Vec Ideal S1x1x1x1x4096 .f32) (x3 : Vec Ideal S1x1x1x2x1x8192 .f32) (x4 : Vec Ideal S128x64 .f32) (x5 : Vec Ideal S64x64 .f32) (x6 : Vec Ideal S64x64 .f32) (x7 : Vec Ideal S32x64 .f32) (x8 : Vec Ideal S32x1 .f32) (x9 : Vec Ideal S1x32 .f32) (x10 : Vec Ideal S1x1 .f32)
    (n S : ℕ) (X M T w : Img) (b : ℕ → EReal) (v : ℕ → EReal) (d : EReal) : Prop where
  hS : S < 4
  i : (i 1).val = S
  x : ∀ (k : Fin 64) (l : Fin 4096), x0 (ix5 0 k 0 0 l) = X n k (row 4 S l) (col 4 l)
  u : ∀ (k : Fin 64) (l : Fin 4096), x1 (ix5 0 k 0 0 l) = X n k (row 4 ((S + 3) % 4) l) (col 4 l)
  m : ∀ (l : Fin 4096), x2 (ix5 0 0 0 0 l) = M n 0 (row 4 S l) (col 4 l)
  s : ∀ (a : Fin 2) (l : Fin 8192), x3 (ix6 0 0 0 a 0 l) = T n 0 (row 8 (2 * S + a) l) (col 8 l)
  wa : ∀ (o : Fin 32) (k : Fin 64), x4 (ix2 ⟨o, by omega⟩ k) = w 2 2 k o
    ∧ x4 (ix2 ⟨32 + o, by omega⟩ k) = w 2 1 k o
    ∧ x4 (ix2 ⟨64 + o, by omega⟩ k) = w 1 2 k o
    ∧ x4 (ix2 ⟨96 + o, by omega⟩ k) = w 1 1 k o
  wb : ∀ (o : Fin 32) (k : Fin 64), x5 (ix2 ⟨o, by omega⟩ k) = w 0 2 k o
    ∧ x5 (ix2 ⟨32 + o, by omega⟩ k) = w 0 1 k o
  wc : ∀ (o : Fin 32) (k : Fin 64), x6 (ix2 ⟨o, by omega⟩ k) = w 2 0 k o
    ∧ x6 (ix2 ⟨32 + o, by omega⟩ k) = w 1 0 k o
  wd : ∀ (o : Fin 32) (k : Fin 64), x7 (ix2 o k) = w 0 0 k o
  b : ∀ (o : Fin 32), x8 (ix2 o 0) = b o
  v : ∀ (k : Fin 32), x9 (ix2 0 k) = v k
  d : x10 (ix2 0 0) = d

section Tail

variable {p q : Vec Ideal S32x4096 .f32} {m0 : Vec Ideal S1x4096 .f32} {m1 m2 m3 m4 m5 m6 : Vec Ideal S1x1024 .f32} {mm : Vec Ideal S1x8192 .f32}
  {e : Vec Ideal S32x1 .f32} {s : Vec Ideal S1x1x1x1x1x8192 .f32} {u : Vec Ideal S1x32 .f32} {f : Vec Ideal S1x1 .f32}
  {n S : ℕ} {D T M : Img} {b : ℕ → EReal} {v : ℕ → EReal} {d : EReal}

set_option maxHeartbeats 2000000 in
/-- From the transposed convolution's parts to the output, upper rows. -/
theorem tail25 (hS : S < 4) (hm : ∀ l : Fin 8192, k4_pay23 (F := Ideal) m0 m1 m2 m3 m4 m5 m6 (ix2 0 l) = M n 0 (row 8 (2 * S + 0) l) (col 8 l))
    (hp : ∀ (o : Fin 32) (l : Fin 4096) (y x : ℕ), y = 2 * row 4 S l → x = 2 * col 4 l → p (ix2 o l) + b o = D n o y x)
    (hq : ∀ (o : Fin 32) (l : Fin 4096) (y x : ℕ), y = 2 * row 4 S l → x = 2 * col 4 l + 1 → q (ix2 o l) + b o = D n o y x)
    (he : ∀ o : Fin 32, e (ix2 o 0) = b o) (hs : ∀ l : Fin 8192, s (ix6 0 0 0 0 0 l) = T n 0 (row 8 (2 * S + 0) l) (col 8 l))
    (hv : ∀ k : Fin 32, u (ix2 0 k) = v k) (hd : f (ix2 0 0) = d) (l : Fin 8192) :
    k4_pay25 p q m0 m1 m2 m3 m4 m5 m6 e s u f (ix2 0 l) = fin D T M v d n 0 (row 8 (2 * S + 0) l) (col 8 l) := by
  pointwise [k4_pay25, k4_pay24, hm, hs, he, hv, hd]
  unfold fin conv
  refine congrArg₂ (· * ·) (congrArg Ideal.logistic (congrArg₂ (· + ·) (congrArg₂ (· * ·) (congrArg₂ (· + ·) (Finset.sum_congr rfl fun k _ => congrArg₂ (· * ·) rfl ?_) rfl) rfl) rfl)) rfl
  split
  · rw [hp _ _ (row 8 (2 * S + 0) l) (col 8 l) (by unfold row; dsimp only; omega) (by unfold col; dsimp only; omega)]
    rfl
  split
  · rw [hq _ _ (row 8 (2 * S + 0) l) (col 8 l) (by unfold row; dsimp only; omega) (by unfold col; dsimp only; omega)]
    rfl
  split
  · rw [hp _ _ (row 8 (2 * S + 0) l) (col 8 l) (by unfold row; dsimp only; omega) (by unfold col; dsimp only; omega)]
    rfl
  split
  · rw [hq _ _ (row 8 (2 * S + 0) l) (col 8 l) (by unfold row; dsimp only; omega) (by unfold col; dsimp only; omega)]
    rfl
  split
  · rw [hp _ _ (row 8 (2 * S + 0) l) (col 8 l) (by unfold row; dsimp only; omega) (by unfold col; dsimp only; omega)]
    rfl
  split
  · rw [hq _ _ (row 8 (2 * S + 0) l) (col 8 l) (by unfold row; dsimp only; omega) (by unfold col; dsimp only; omega)]
    rfl
  split
  · rw [hp _ _ (row 8 (2 * S + 0) l) (col 8 l) (by unfold row; dsimp only; omega) (by unfold col; dsimp only; omega)]
    rfl
  rw [hq _ _ (row 8 (2 * S + 0) l) (col 8 l) (by unfold row; dsimp only; omega) (by unfold col; dsimp only; omega)]
  rfl

set_option maxHeartbeats 2000000 in
/-- From the transposed convolution's parts to the output, lower rows. -/
theorem tail28 (hS : S < 4) (hm : ∀ l : Fin 8192, mm (ix2 0 l) = M n 0 (row 8 (2 * S + 1) l) (col 8 l))
    (hp : ∀ (o : Fin 32) (l : Fin 4096) (y x : ℕ), y = 2 * row 4 S l + 1 → x = 2 * col 4 l → p (ix2 o l) + b o = D n o y x)
    (hq : ∀ (o : Fin 32) (l : Fin 4096) (y x : ℕ), y = 2 * row 4 S l + 1 → x = 2 * col 4 l + 1 → q (ix2 o l) + b o = D n o y x)
    (he : ∀ o : Fin 32, e (ix2 o 0) = b o) (hs : ∀ l : Fin 8192, s (ix6 0 0 0 0 0 l) = T n 0 (row 8 (2 * S + 1) l) (col 8 l))
    (hv : ∀ k : Fin 32, u (ix2 0 k) = v k) (hd : f (ix2 0 0) = d) (l : Fin 8192) :
    k4_pay28 p q mm e s u f (ix2 0 l) = fin D T M v d n 0 (row 8 (2 * S + 1) l) (col 8 l) := by
  pointwise [k4_pay28, hm, hs, he, hv, hd]
  unfold fin conv
  refine congrArg₂ (· * ·) (congrArg Ideal.logistic (congrArg₂ (· + ·) (congrArg₂ (· * ·) (congrArg₂ (· + ·) (Finset.sum_congr rfl fun k _ => congrArg₂ (· * ·) rfl ?_) rfl) rfl) rfl)) rfl
  split
  · rw [hp _ _ (row 8 (2 * S + 1) l) (col 8 l) (by unfold row; dsimp only; omega) (by unfold col; dsimp only; omega)]
    rfl
  split
  · rw [hq _ _ (row 8 (2 * S + 1) l) (col 8 l) (by unfold row; dsimp only; omega) (by unfold col; dsimp only; omega)]
    rfl
  split
  · rw [hp _ _ (row 8 (2 * S + 1) l) (col 8 l) (by unfold row; dsimp only; omega) (by unfold col; dsimp only; omega)]
    rfl
  split
  · rw [hq _ _ (row 8 (2 * S + 1) l) (col 8 l) (by unfold row; dsimp only; omega) (by unfold col; dsimp only; omega)]
    rfl
  split
  · rw [hp _ _ (row 8 (2 * S + 1) l) (col 8 l) (by unfold row; dsimp only; omega) (by unfold col; dsimp only; omega)]
    rfl
  split
  · rw [hq _ _ (row 8 (2 * S + 1) l) (col 8 l) (by unfold row; dsimp only; omega) (by unfold col; dsimp only; omega)]
    rfl
  split
  · rw [hp _ _ (row 8 (2 * S + 1) l) (col 8 l) (by unfold row; dsimp only; omega) (by unfold col; dsimp only; omega)]
    rfl
  rw [hq _ _ (row 8 (2 * S + 1) l) (col 8 l) (by unfold row; dsimp only; omega) (by unfold col; dsimp only; omega)]
  rfl

end Tail

section Pure

variable {i : grid4.Coords} {x0 : Vec Ideal S1x64x1x1x4096 .f32} {x1 : Vec Ideal S1x64x1x1x4096 .f32} {x2 : Vec Ideal S1x1x1x1x4096 .f32} {x3 : Vec Ideal S1x1x1x2x1x8192 .f32} {x4 : Vec Ideal S128x64 .f32} {x5 : Vec Ideal S64x64 .f32} {x6 : Vec Ideal S64x64 .f32} {x7 : Vec Ideal S32x64 .f32} {x8 : Vec Ideal S32x1 .f32} {x9 : Vec Ideal S1x32 .f32} {x10 : Vec Ideal S1x1 .f32}
  {n S : ℕ} {X M T w : Img} {b : ℕ → EReal} {v : ℕ → EReal} {d : EReal}
  (h : Blk4 i x0 x1 x2 x3 x4 x5 x6 x7 x8 x9 x10 n S X M T w b v d)

include h

/-- The features. -/
theorem p4 (k : Fin 64) (l : Fin 4096) : k4_pay29 i x0 x1 x2 x3 x4 x5 x6 x7 x8 x9 x10 (ix2 k l) = X n k (row 4 S l) (col 4 l) := by
  pointwise [k4_pay29, k4_pay3, h.x]

/-- The rows above. -/
theorem pu4 (k : Fin 64) (l : Fin 4096) : k4_pay30 i x0 x1 x2 x3 x4 x5 x6 x7 x8 x9 x10 (ix2 k l) = down X n k (row 4 S l) (col 4 l) := by
  have hS := h.hS
  have hi := h.i
  pointwise [k4_pay30, k4_pay4, h.u]
  rw [hi]
  refine (sel_first S (by omega) _ _).trans ?_
  unfold down row col
  split
  · next h0 =>
    refine (sel_row l (by omega) _ _).trans ?_
    split
    · rw [if_pos (by omega)]
    · next hl =>
      have := lane_up hl
      rw [if_neg (by omega), dif_neg (by omega)]
      exact img_congr _ _ _ (by omega) (by omega)
  · rw [if_neg (by omega)]
    exact img_congr _ _ _ (by omega) (by omega)

/-- The columns to the left. -/
theorem pl4 (k : Fin 64) (l : Fin 4096) : k4_pay31 i x0 x1 x2 x3 x4 x5 x6 x7 x8 x9 x10 (ix2 k l) = right X n k (row 4 S l) (col 4 l) := by
  pointwise [k4_pay31, k4_pay6, k4_pay5, k4_pay3, p4 h, h.x]
  unfold right row col
  split
  · next h1 =>
    refine (sel_col l (by omega) _ _).trans ?_
    split
    · rw [if_pos (by omega)]
    · next hl =>
      have := lane_left hl
      rw [if_neg (by omega), dif_neg (by omega)]
      exact img_congr _ _ _ (by omega) (by omega)
  · rw [if_neg (by omega)]
    exact img_congr _ _ _ (by omega) (by omega)

set_option maxHeartbeats 1000000 in
/-- The transposed convolution at the output's even rows and columns, short of the bias. -/
theorem p004 (o : Fin 32) (l : Fin 4096) (y x : ℕ) (hy : y = 2 * row 4 S l) (hx : x = 2 * col 4 l) :
    k4_pay12 (k4_pay29 i x0 x1 x2 x3 x4 x5 x6 x7 x8 x9 x10) (k4_pay30 i x0 x1 x2 x3 x4 x5 x6 x7 x8 x9 x10) (k4_pay31 i x0 x1 x2 x3 x4 x5 x6 x7 x8 x9 x10) (k4_pay7 (k4_pay30 i x0 x1 x2 x3 x4 x5 x6 x7 x8 x9 x10)) k4_pay8 (View.ld x4 r4_1) (View.ld x5 r4_2) (View.ld x6 r4_2) (View.ld x7 r4_3) (ix2 o l) + b o
      = dec 64 w b X n o y x := by
  have hS := h.hS
  pointwise [k4_pay12, k4_pay9, k4_pay10, k4_pay11, k4_pay7, k4_pay8, p4 h, pu4 h, pl4 h, (h.wa _ _).1, (h.wb _ _).1, (h.wc _ _).1, h.wd]
  rw [← dec_00 hy hx]
  refine congrArg₂ (· + ·) (congrArg₂ (· + ·) rfl (Finset.sum_congr rfl fun k _ => congrArg₂ (· * ·) rfl ?_)) rfl
  unfold right
  clear hy hx
  split
  · next h1 =>
    refine (sel_col l (by omega) _ _).trans ?_
    unfold row col
    split
    · rw [if_pos (by omega)]
    · next hl =>
      have := lane_left hl
      rw [if_neg (by omega), dif_neg (by omega)]
      exact img_congr (down X) n k (by omega) (by omega)
  · unfold row col
    rw [if_neg (by omega)]
    exact img_congr (down X) n k (by omega) (by omega)

theorem p014 (o : Fin 32) (l : Fin 4096) (y x : ℕ) (hy : y = 2 * row 4 S l) (hx : x = 2 * col 4 l + 1) :
    k4_pay13 (k4_pay29 i x0 x1 x2 x3 x4 x5 x6 x7 x8 x9 x10) (k4_pay30 i x0 x1 x2 x3 x4 x5 x6 x7 x8 x9 x10) (View.ld x4 r4_1) (View.ld x5 r4_2) (ix2 o l) + b o = dec 64 w b X n o y x := by
  pointwise [k4_pay13, k4_pay9, k4_pay10, p4 h, pu4 h, (h.wa _ _).2.1, (h.wb _ _).2]
  exact dec_01 hy hx

theorem p104 (o : Fin 32) (l : Fin 4096) (y x : ℕ) (hy : y = 2 * row 4 S l + 1) (hx : x = 2 * col 4 l) :
    k4_pay14 (k4_pay29 i x0 x1 x2 x3 x4 x5 x6 x7 x8 x9 x10) (k4_pay31 i x0 x1 x2 x3 x4 x5 x6 x7 x8 x9 x10) (View.ld x4 r4_1) (View.ld x6 r4_2) (ix2 o l) + b o = dec 64 w b X n o y x := by
  pointwise [k4_pay14, k4_pay9, k4_pay11, p4 h, pl4 h, (h.wa _ _).2.2.1, (h.wc _ _).2]
  exact dec_10 hy hx

theorem p114 (o : Fin 32) (l : Fin 4096) (y x : ℕ) (hy : y = 2 * row 4 S l + 1) (hx : x = 2 * col 4 l + 1) :
    k4_pay15 (k4_pay29 i x0 x1 x2 x3 x4 x5 x6 x7 x8 x9 x10) (View.ld x4 r4_1) (ix2 o l) + b o = dec 64 w b X n o y x := by
  pointwise [k4_pay15, k4_pay9, p4 h, (h.wa _ _).2.2.2]
  exact dec_11 hy hx

/-- The mask at the output's size. -/
theorem mask4 (a : Fin 2) (l : Fin 8192) : k4_pay39 i x0 x1 x2 x3 x4 x5 x6 x7 x8 x9 x10 (ix2 0 l) = grow M n 0 (row 8 (2 * S + a) l) (col 8 l) := by
  have ha := a.2
  pointwise [k4_pay39, k4_pay23, k4_pay38, k4_pay37, k4_pay36, k4_pay35, k4_pay34, k4_pay33, k4_pay32, k4_pay22, k4_pay21, k4_pay20, k4_pay19, k4_pay18, k4_pay17, k4_pay16, h.m]
  repeat' split
  · exact grow_of a.2 zero_lt_two (by unfold row; omega) (by unfold col; omega)
  · exact grow_of a.2 one_lt_two (by unfold row; omega) (by unfold col; omega)
  · exact grow_of a.2 zero_lt_two (by unfold row; omega) (by unfold col; omega)
  · exact grow_of a.2 one_lt_two (by unfold row; omega) (by unfold col; omega)
  · exact grow_of a.2 zero_lt_two (by unfold row; omega) (by unfold col; omega)
  · exact grow_of a.2 one_lt_two (by unfold row; omega) (by unfold col; omega)
  · exact grow_of a.2 zero_lt_two (by unfold row; omega) (by unfold col; omega)
  · exact grow_of a.2 one_lt_two (by unfold row; omega) (by unfold col; omega)

theorem mask4' (a : Fin 2) (l : Fin 8192) : k4_pay23 (k4_pay32 i x0 x1 x2 x3 x4 x5 x6 x7 x8 x9 x10) (k4_pay33 i x0 x1 x2 x3 x4 x5 x6 x7 x8 x9 x10) (k4_pay34 i x0 x1 x2 x3 x4 x5 x6 x7 x8 x9 x10) (k4_pay35 i x0 x1 x2 x3 x4 x5 x6 x7 x8 x9 x10) (k4_pay36 i x0 x1 x2 x3 x4 x5 x6 x7 x8 x9 x10) (k4_pay37 i x0 x1 x2 x3 x4 x5 x6 x7 x8 x9 x10) (k4_pay38 i x0 x1 x2 x3 x4 x5 x6 x7 x8 x9 x10) (ix2 0 l) = grow M n 0 (row 8 (2 * S + a) l) (col 8 l) := mask4 h a l

/-- The output of the upper rows. -/
theorem up4 (l : Fin 8192) : k4_pay25 (k4_pay12 (k4_pay29 i x0 x1 x2 x3 x4 x5 x6 x7 x8 x9 x10) (k4_pay30 i x0 x1 x2 x3 x4 x5 x6 x7 x8 x9 x10) (k4_pay31 i x0 x1 x2 x3 x4 x5 x6 x7 x8 x9 x10) (k4_pay7 (k4_pay30 i x0 x1 x2 x3 x4 x5 x6 x7 x8 x9 x10)) k4_pay8 (View.ld x4 r4_1) (View.ld x5 r4_2) (View.ld x6 r4_2) (View.ld x7 r4_3)) (k4_pay13 (k4_pay29 i x0 x1 x2 x3 x4 x5 x6 x7 x8 x9 x10) (k4_pay30 i x0 x1 x2 x3 x4 x5 x6 x7 x8 x9 x10) (View.ld x4 r4_1) (View.ld x5 r4_2)) (k4_pay32 i x0 x1 x2 x3 x4 x5 x6 x7 x8 x9 x10) (k4_pay33 i x0 x1 x2 x3 x4 x5 x6 x7 x8 x9 x10) (k4_pay34 i x0 x1 x2 x3 x4 x5 x6 x7 x8 x9 x10) (k4_pay35 i x0 x1 x2 x3 x4 x5 x6 x7 x8 x9 x10) (k4_pay36 i x0 x1 x2 x3 x4 x5 x6 x7 x8 x9 x10) (k4_pay37 i x0 x1 x2 x3 x4 x5 x6 x7 x8 x9 x10) (k4_pay38 i x0 x1 x2 x3 x4 x5 x6 x7 x8 x9 x10) (View.ld x8 r4_5) (View.ld x3 r4_6) (View.ld x9 r4_7) (View.ld x10 r4_8) (ix2 0 l)
    = fin (dec 64 w b X) T (grow M) v d n 0 (row 8 (2 * S + 0) l) (col 8 l) :=
  tail25 h.hS (mask4' h 0) (p004 h) (p014 h) (fun o => by pointwise [h.b]) (fun l => by pointwise [h.s]) (fun k => by pointwise [h.v]) (by pointwise [h.d]) l

/-- The output of the lower rows. -/
theorem lo4 (l : Fin 8192) : k4_pay28 (k4_pay14 (k4_pay29 i x0 x1 x2 x3 x4 x5 x6 x7 x8 x9 x10) (k4_pay31 i x0 x1 x2 x3 x4 x5 x6 x7 x8 x9 x10) (View.ld x4 r4_1) (View.ld x6 r4_2)) (k4_pay15 (k4_pay29 i x0 x1 x2 x3 x4 x5 x6 x7 x8 x9 x10) (View.ld x4 r4_1)) (k4_pay39 i x0 x1 x2 x3 x4 x5 x6 x7 x8 x9 x10) (k4_pay24 (View.ld x8 r4_5)) (View.ld x3 r4_9) (View.ld x9 r4_7) (View.ld x10 r4_8) (ix2 0 l)
    = fin (dec 64 w b X) T (grow M) v d n 0 (row 8 (2 * S + 1) l) (col 8 l) :=
  tail28 h.hS (mask4 h 1) (p104 h) (p114 h) (fun o => by pointwise [k4_pay24, h.b]) (fun l => by pointwise [h.s]) (fun k => by pointwise [h.v]) (by pointwise [h.d]) l

/-- The output. -/
theorem out4_y (a : Fin 2) (l : Fin 8192) : out4_11 i x0 x1 x2 x3 x4 x5 x6 x7 x8 x9 x10 (ix6 0 0 0 a 0 l) = fin (dec 64 w b X) T (grow M) v d n 0 (row 8 (2 * S + a) l) (col 8 l) := by
  unfold out4_11
  canon_tiles x hx
  · idx_vars x
    have ea : (a : ℕ) = 1 := by
      have e : (a : ℕ) = 1 + (x3 : ℕ) := hx3
      omega
    obtain rfl : l = x5 := Fin.ext hx5
    rw [ea]
    pointwise [k4_pay1, lo4 h]
  · idx_vars x
    have ea : (a : ℕ) = 0 := by
      have e : (a : ℕ) = (x3 : ℕ) := hx3
      omega
    obtain rfl : l = x5 := Fin.ext hx5
    rw [ea]
    pointwise [k4_pay26, up4 h]

/-- The mask. -/
theorem out4_m (a : Fin 2) (l : Fin 8192) : out4_12 i x0 x1 x2 x3 x4 x5 x6 x7 x8 x9 x10 (ix6 0 0 0 a 0 l) = grow M n 0 (row 8 (2 * S + a) l) (col 8 l) := by
  unfold out4_12
  canon_tiles x hx
  · idx_vars x
    have ea : (a : ℕ) = 1 := by
      have e : (a : ℕ) = 1 + (x3 : ℕ) := hx3
      omega
    obtain rfl : l = x5 := Fin.ext hx5
    rw [ea]
    pointwise [k4_pay2, mask4 h 1]
  · idx_vars x
    have ea : (a : ℕ) = 0 := by
      have e : (a : ℕ) = (x3 : ℕ) := hx3
      omega
    obtain rfl : l = x5 := Fin.ext hx5
    rw [ea]
    pointwise [k4_pay27, mask4 h 0]

end Pure

/-- What the fourth level's operands hold. -/
structure In4 (V : Bufs) (c : Dev nD) (X M T w : Img) (b : ℕ → EReal) (v : ℕ → EReal) (d : EReal) : Prop where
  x : ∀ (n : Fin 4) (S : Fin 4) (k : Fin 64) (l : Fin 4096), V c main_v104 (ix5 n k S 0 l) = X n k (row 4 S l) (col 4 l)
  m : ∀ (n : Fin 4) (S : Fin 4) (l : Fin 4096), V c main_v108 (ix5 n 0 S 0 l) = M n 0 (row 4 S l) (col 4 l)
  s : ∀ (n : Fin 4) (S : Fin 4) (a : Fin 2) (l : Fin 8192), V c main_v116 (ix6 n 0 S a 0 l) = T n 0 (row 8 (2 * S + a) l) (col 8 l)
  wa : ∀ (o : Fin 32) (k : Fin 64), V c main_v129 (ix2 ⟨o, by omega⟩ k) = w 2 2 k o
    ∧ V c main_v129 (ix2 ⟨32 + o, by omega⟩ k) = w 2 1 k o
    ∧ V c main_v129 (ix2 ⟨64 + o, by omega⟩ k) = w 1 2 k o
    ∧ V c main_v129 (ix2 ⟨96 + o, by omega⟩ k) = w 1 1 k o
  wb : ∀ (o : Fin 32) (k : Fin 64), V c main_v136 (ix2 ⟨o, by omega⟩ k) = w 0 2 k o
    ∧ V c main_v136 (ix2 ⟨32 + o, by omega⟩ k) = w 0 1 k o
  wc : ∀ (o : Fin 32) (k : Fin 64), V c main_v143 (ix2 ⟨o, by omega⟩ k) = w 2 0 k o
    ∧ V c main_v143 (ix2 ⟨32 + o, by omega⟩ k) = w 1 0 k o
  wd : ∀ (o : Fin 32) (k : Fin 64), V c main_v146 (ix2 o k) = w 0 0 k o
  b : ∀ (o : Fin 32), V c main_v147 (ix2 o 0) = b o
  v : ∀ (k : Fin 32), V c main_v148 (ix2 0 k) = v k
  d : V c main_v149 (ix2 0 0) = d

theorem idx4 : ∀ t : Fin cfg4.N, (t.val / 4 < 4 ∧ t.val % 4 < 4 ∧ (t.val % 4 + 3) % 4 < 4 ∧ (grid4.coords t 1).val = t.val % 4) ∧ win4_0.index t = ![t.val / 4, 0, t.val % 4, 0, 0] ∧ win4_1.index t = ![t.val / 4, 0, (t.val % 4 + 3) % 4, 0, 0] ∧ win4_2.index t = ![t.val / 4, 0, t.val % 4, 0, 0]
    ∧ win4_3.index t = ![t.val / 4, 0, t.val % 4, 0, 0, 0] ∧ win4_4.index t = ![0, 0] ∧ win4_5.index t = ![0, 0] ∧ win4_6.index t = ![0, 0] ∧ win4_7.index t = ![0, 0] ∧ win4_8.index t = ![0, 0] ∧ win4_9.index t = ![0, 0] ∧ win4_10.index t = ![0, 0]
    ∧ win4_11.index t = ![t.val / 4, 0, t.val % 4, 0, 0, 0] ∧ win4_12.index t = ![t.val / 4, 0, t.val % 4, 0, 0, 0] := (by decide +kernel : ∀ t : Fin grid4.N, _)

section Blocks

variable {V : Bufs} {c : Dev nD} {X M T w : Img} {b : ℕ → EReal} {v : ℕ → EReal} {d : EReal}
  (h : In4 V c X M T w b v d)

include h

variable (t : Fin cfg4.N)

theorem blk4_x (k : Fin 64) (l : Fin 4096) : iblk4 V c 0 t (ix5 0 k 0 0 l) = X (t / 4) k (row 4 (t % 4) l) (col 4 l) := by
  refine Eq.trans ?_ (h.x ⟨t / 4, (idx4 t).1.1⟩ ⟨t % 4, (idx4 t).1.2.1⟩ k l)
  blk_ext [iblk4, idx4 t]

theorem blk4_u (k : Fin 64) (l : Fin 4096) : iblk4 V c 1 t (ix5 0 k 0 0 l) = X (t / 4) k (row 4 (((t % 4) + 3) % 4) l) (col 4 l) := by
  refine Eq.trans ?_ (h.x ⟨t / 4, (idx4 t).1.1⟩ ⟨(t % 4 + 3) % 4, (idx4 t).1.2.2.1⟩ k l)
  blk_ext [iblk4, idx4 t]

theorem blk4_m (l : Fin 4096) : iblk4 V c 2 t (ix5 0 0 0 0 l) = M (t / 4) 0 (row 4 (t % 4) l) (col 4 l) := by
  refine Eq.trans ?_ (h.m ⟨t / 4, (idx4 t).1.1⟩ ⟨t % 4, (idx4 t).1.2.1⟩ l)
  blk_ext [iblk4, idx4 t]

theorem blk4_s (a : Fin 2) (l : Fin 8192) : iblk4 V c 3 t (ix6 0 0 0 a 0 l) = T (t / 4) 0 (row 8 (2 * (t % 4) + a) l) (col 8 l) := by
  refine Eq.trans ?_ (h.s ⟨t / 4, (idx4 t).1.1⟩ ⟨t % 4, (idx4 t).1.2.1⟩ a l)
  blk_ext [iblk4, idx4 t]

set_option maxHeartbeats 1000000 in
theorem blk4_wa (o : Fin 32) (k : Fin 64) : iblk4 V c 4 t (ix2 ⟨o, by omega⟩ k) = w 2 2 k o
    ∧ iblk4 V c 4 t (ix2 ⟨32 + o, by omega⟩ k) = w 2 1 k o
    ∧ iblk4 V c 4 t (ix2 ⟨64 + o, by omega⟩ k) = w 1 2 k o
    ∧ iblk4 V c 4 t (ix2 ⟨96 + o, by omega⟩ k) = w 1 1 k o := by
  refine ⟨Eq.trans ?_ (h.wa o k).1, Eq.trans ?_ (h.wa o k).2.1, Eq.trans ?_ (h.wa o k).2.2.1, Eq.trans ?_ (h.wa o k).2.2.2⟩ <;> blk_ext [iblk4, idx4 t]

set_option maxHeartbeats 1000000 in
theorem blk4_wb (o : Fin 32) (k : Fin 64) : iblk4 V c 5 t (ix2 ⟨o, by omega⟩ k) = w 0 2 k o
    ∧ iblk4 V c 5 t (ix2 ⟨32 + o, by omega⟩ k) = w 0 1 k o := by
  refine ⟨Eq.trans ?_ (h.wb o k).1, Eq.trans ?_ (h.wb o k).2⟩ <;> blk_ext [iblk4, idx4 t]

set_option maxHeartbeats 1000000 in
theorem blk4_wc (o : Fin 32) (k : Fin 64) : iblk4 V c 6 t (ix2 ⟨o, by omega⟩ k) = w 2 0 k o
    ∧ iblk4 V c 6 t (ix2 ⟨32 + o, by omega⟩ k) = w 1 0 k o := by
  refine ⟨Eq.trans ?_ (h.wc o k).1, Eq.trans ?_ (h.wc o k).2⟩ <;> blk_ext [iblk4, idx4 t]

theorem blk4_wd (o : Fin 32) (k : Fin 64) : iblk4 V c 7 t (ix2 o k) = w 0 0 k o := by
  refine Eq.trans ?_ (h.wd o k)
  blk_ext [iblk4, idx4 t]

theorem blk4_b (o : Fin 32) : iblk4 V c 8 t (ix2 o 0) = b o := by
  refine Eq.trans ?_ (h.b o)
  blk_ext [iblk4, idx4 t]

theorem blk4_v (k : Fin 32) : iblk4 V c 9 t (ix2 0 k) = v k := by
  refine Eq.trans ?_ (h.v k)
  blk_ext [iblk4, idx4 t]

theorem blk4_d  : iblk4 V c 10 t (ix2 0 0) = d := by
  refine Eq.trans ?_ (h.d )
  blk_ext [iblk4, idx4 t]

/-- The blocks of one grid point. -/
theorem blk4 : Blk4 (grid4.coords t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (t / 4) (t % 4) X M T w b v d :=
  ⟨(idx4 t).1.2.1, (idx4 t).1.2.2.2, blk4_x h t, blk4_u h t, blk4_m h t, blk4_s h t, blk4_wa h t, blk4_wb h t, blk4_wc h t, blk4_wd h t, blk4_b h t, blk4_v h t, blk4_d h t⟩

/-- The output. -/
theorem call4_y : (dat4 V c).arrAt 11 cfg4.N = fun i => fin (dec 64 w b X) T (grow M) v d (i 0) 0 (row 8 (2 * (i 2) + i 3) (i 5)) (col 8 (i 5)) := by
  refine (dat4 V c).arrAt_eq_of_covers 11 _ (by decide +kernel) fun t _ y => ?_
  blk_simp
  rw [after4_11]
  blk_simp [idx4 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  exact out4_y (blk4 h t) _ _

/-- The mask. -/
theorem call4_m : (dat4 V c).arrAt 12 cfg4.N = fun i => grow M (i 0) 0 (row 8 (2 * (i 2) + i 3) (i 5)) (col 8 (i 5)) := by
  refine (dat4 V c).arrAt_eq_of_covers 12 _ (by decide +kernel) fun t _ y => ?_
  blk_simp
  rw [after4_12]
  blk_simp [idx4 t]
  idx_vars y
  obtain rfl : y1 = 0 := Subsingleton.elim _ _
  obtain rfl : y0 = 0 := Subsingleton.elim _ _
  obtain rfl : y2 = 0 := Subsingleton.elim _ _
  obtain rfl : y4 = 0 := Subsingleton.elim _ _
  exact out4_m (blk4 h t) _ _

end Blocks

end Cert.Dec.Ker
-- ==== Proof.H4.lean ====
/- The operations before the fourth and fifth calls, and what those calls leave. -/
module

public import proofs.«01_k».proof.Proof.H2
public import proofs.«01_k».proof.Proof.K3
public import proofs.«01_k».proof.Proof.K4

@[expose] public section

set_option maxRecDepth 16384

noncomputable section

namespace Cert.Dec.Ker

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

theorem in3_s (n : Fin 4) (k : Fin 32) (y x : Fin 256) : V7 m ρ c main_arg4 (ix4 n k y x) = (argsOf m c).net.s3 n k y x := by
  unfold_abbrev_sides
  after_reads_at
  exact (congrFun (W6_args m ρ c main_arg4 (by decide)) _).trans (rd4_fin _ n k y x)

theorem in3_w (k : Fin 32) : V7 m ρ c main_v109 (ix3 k 0 0) = (argsOf m c).net.o3 k := by
  unfold_abbrev_sides
  after_reads_at
  exact (congrFun (W6_args m ρ c main_arg17 (by decide)) _).trans (rd2_fin _ k 0)

/-- What call 3 is entered with. -/
theorem in3 : In3 (V7 m ρ) c (argsOf m c).net.s3 (argsOf m c).net.o3 :=
  ⟨in3_s m ρ c,
    in3_w m ρ c⟩

theorem res3 (n : Fin 4) (y x : Fin 256) : W8 m ρ c main_v110 (ix4 n 0 y x) = conv 32 (argsOf m c).net.o3 (argsOf m c).net.s3 n y x :=
  congrFun ((W8_arr m ρ c 2).trans (call3 (in3 m ρ c))) (ix4 n 0 y x)

theorem mid_x (n : Fin 4) (S : Fin 4) (k : Fin 64) (l : Fin 4096) : W8 m ρ c main_v104 (ix5 n k S 0 l) = (argsOf m c).net.x2 n k (row 4 S l) (col 4 l) := by
  refine (congrFun (W8_of m ρ c main_v104 (by decide)) _).trans ?_
  after_reads_at
  refine (res2_x m ρ c n k _ _ l).trans (img_congr (argsOf m c).net.x2 _ _ ?_ ?_) <;> (try unfold row) <;> (try unfold col) <;> (try dsimp only) <;> omega

theorem mid_m (n : Fin 4) (S : Fin 4) (l : Fin 4096) : W8 m ρ c main_v108 (ix5 n 0 S 0 l) = (argsOf m c).net.r2 n 0 (row 4 S l) (col 4 l) := by
  refine (congrFun (W8_of m ρ c main_v108 (by decide)) _).trans ?_
  after_reads_at
  refine (res2_r m ρ c n _ _ l).trans (img_congr (argsOf m c).net.r2 _ _ ?_ ?_) <;> (try unfold row) <;> (try unfold col) <;> (try dsimp only) <;> omega

theorem in4_x (n : Fin 4) (S : Fin 4) (k : Fin 64) (l : Fin 4096) : V9 m ρ c main_v104 (ix5 n k S 0 l) = (argsOf m c).net.x2 n k (row 4 S l) (col 4 l) := by
  unfold_abbrev_sides
  after_reads_at
  exact mid_x m ρ c n S k l

theorem in4_m (n : Fin 4) (S : Fin 4) (l : Fin 4096) : V9 m ρ c main_v108 (ix5 n 0 S 0 l) = (argsOf m c).net.r2 n 0 (row 4 S l) (col 4 l) := by
  unfold_abbrev_sides
  after_reads_at
  exact mid_m m ρ c n S l

theorem in4_s (n : Fin 4) (S : Fin 4) (a : Fin 2) (l : Fin 8192) : V9 m ρ c main_v116 (ix6 n 0 S a 0 l) = conv 32 (argsOf m c).net.o3 (argsOf m c).net.s3 n (row 8 (2 * S + a) l) (col 8 l) := by
  unfold_abbrev_sides
  after_reads_at
  refine (res3 m ρ c n _ _).trans (img_congr (fun n _ y x => conv 32 (argsOf m c).net.o3 (argsOf m c).net.s3 n y x) _ 0 ?_ ?_) <;> (try unfold row) <;> (try unfold col) <;> (try dsimp only) <;> omega

theorem in4_wa0 (o : Fin 32) (k : Fin 64) : V9 m ρ c main_v129 (ix2 ⟨o, by omega⟩ k) = (argsOf m c).net.d3 2 2 k o := by
  unfold_abbrev_sides
  after_reads_at
  refine (congrFun (StableHlo.unary_result' ..) _).trans ?_
  after_reads_at
  exact (congrFun (W8_args m ρ c main_arg9 (by decide)) _).trans (rd4_fin _ 2 2 k o)

theorem in4_wa1 (o : Fin 32) (k : Fin 64) : V9 m ρ c main_v129 (ix2 ⟨32 + o, by omega⟩ k) = (argsOf m c).net.d3 2 1 k o := by
  unfold_abbrev_sides
  after_reads_at
  refine (congrFun (StableHlo.unary_result' ..) _).trans ?_
  after_reads_at
  exact (congrFun (W8_args m ρ c main_arg9 (by decide)) _).trans (rd4_fin _ 2 1 k o)

theorem in4_wa2 (o : Fin 32) (k : Fin 64) : V9 m ρ c main_v129 (ix2 ⟨64 + o, by omega⟩ k) = (argsOf m c).net.d3 1 2 k o := by
  unfold_abbrev_sides
  after_reads_at
  refine (dif_neg (by omega)).trans ?_
  refine (dif_neg (by omega)).trans ?_
  refine (dif_pos (by omega)).trans ?_
  refine (congrFun (StableHlo.unary_result' ..) _).trans ?_
  after_reads_at
  exact (congrFun (W8_args m ρ c main_arg9 (by decide)) _).trans ((rd4_fin _ 1 2 k _).trans (congrArg (rd4 _ 1 2 k) (by dsimp only; omega)))

theorem in4_wa3 (o : Fin 32) (k : Fin 64) : V9 m ρ c main_v129 (ix2 ⟨96 + o, by omega⟩ k) = (argsOf m c).net.d3 1 1 k o := by
  unfold_abbrev_sides
  after_reads_at
  refine (dif_neg (by omega)).trans ?_
  refine (dif_neg (by omega)).trans ?_
  refine (dif_neg (by omega)).trans ?_
  refine (congrFun (StableHlo.unary_result' ..) _).trans ?_
  after_reads_at
  exact (congrFun (W8_args m ρ c main_arg9 (by decide)) _).trans ((rd4_fin _ 1 1 k _).trans (congrArg (rd4 _ 1 1 k) (by dsimp only; omega)))

theorem in4_wb0 (o : Fin 32) (k : Fin 64) : V9 m ρ c main_v136 (ix2 ⟨o, by omega⟩ k) = (argsOf m c).net.d3 0 2 k o := by
  unfold_abbrev_sides
  after_reads_at
  exact (congrFun (W8_args m ρ c main_arg9 (by decide)) _).trans (rd4_fin _ 0 2 k o)

theorem in4_wb1 (o : Fin 32) (k : Fin 64) : V9 m ρ c main_v136 (ix2 ⟨32 + o, by omega⟩ k) = (argsOf m c).net.d3 0 1 k o := by
  unfold_abbrev_sides
  after_reads_at
  exact (congrFun (W8_args m ρ c main_arg9 (by decide)) _).trans (rd4_fin _ 0 1 k o)

theorem in4_wc0 (o : Fin 32) (k : Fin 64) : V9 m ρ c main_v143 (ix2 ⟨o, by omega⟩ k) = (argsOf m c).net.d3 2 0 k o := by
  unfold_abbrev_sides
  after_reads_at
  exact (congrFun (W8_args m ρ c main_arg9 (by decide)) _).trans (rd4_fin _ 2 0 k o)

theorem in4_wc1 (o : Fin 32) (k : Fin 64) : V9 m ρ c main_v143 (ix2 ⟨32 + o, by omega⟩ k) = (argsOf m c).net.d3 1 0 k o := by
  unfold_abbrev_sides
  after_reads_at
  exact (congrFun (W8_args m ρ c main_arg9 (by decide)) _).trans (rd4_fin _ 1 0 k o)

theorem in4_wd (o : Fin 32) (k : Fin 64) : V9 m ρ c main_v146 (ix2 o k) = (argsOf m c).net.d3 0 0 k o := by
  unfold_abbrev_sides
  after_reads_at
  exact (congrFun (W8_args m ρ c main_arg9 (by decide)) _).trans (rd4_fin _ 0 0 k o)

theorem in4_b (o : Fin 32) : V9 m ρ c main_v147 (ix2 o 0) = (argsOf m c).net.e3 o := by
  unfold_abbrev_sides
  after_reads_at
  exact (congrFun (W8_args m ρ c main_arg10 (by decide)) _).trans (rd1_fin _ o)

theorem in4_v (k : Fin 32) : V9 m ρ c main_v148 (ix2 0 k) = (argsOf m c).net.o3 k := by
  unfold_abbrev_sides
  after_reads_at
  exact (congrFun (W8_args m ρ c main_arg17 (by decide)) _).trans (rd2_fin _ k 0)

theorem in4_d : V9 m ρ c main_v149 (ix2 0 0) = (argsOf m c).net.p3 := by
  unfold_abbrev_sides
  after_reads_at
  exact (congrFun (W8_args m ρ c main_arg18 (by decide)) _).trans (rd1_fin _ 0)

/-- What call 4 is entered with. -/
theorem in4 : In4 (V9 m ρ) c (argsOf m c).net.x2 (argsOf m c).net.r2 (fun n _ y x => conv 32 (argsOf m c).net.o3 (argsOf m c).net.s3 n y x) (argsOf m c).net.d3 (argsOf m c).net.e3 (argsOf m c).net.o3 (argsOf m c).net.p3 :=
  ⟨in4_x m ρ c,
    in4_m m ρ c,
    in4_s m ρ c,
    fun o k => ⟨in4_wa0 m ρ c o k, in4_wa1 m ρ c o k, in4_wa2 m ρ c o k, in4_wa3 m ρ c o k⟩,
    fun o k => ⟨in4_wb0 m ρ c o k, in4_wb1 m ρ c o k⟩,
    fun o k => ⟨in4_wc0 m ρ c o k, in4_wc1 m ρ c o k⟩,
    in4_wd m ρ c,
    in4_b m ρ c,
    in4_v m ρ c,
    in4_d m ρ c⟩

theorem res4_y (n : Fin 4) (S : Fin 4) (a : Fin 2) (l : Fin 8192) : W10 m ρ c main_v150_0 (ix6 n 0 S a 0 l)
    = fin (dec 64 (argsOf m c).net.d3 (argsOf m c).net.e3 (argsOf m c).net.x2) (fun n _ y x => conv 32 (argsOf m c).net.o3 (argsOf m c).net.s3 n y x) (argsOf m c).net.m3 (argsOf m c).net.o3 (argsOf m c).net.p3 n 0 (row 8 (2 * S + a) l) (col 8 l) :=
  congrFun ((W10_arr m ρ c 11).trans (call4_y (in4 m ρ c))) (ix6 n 0 S a 0 l)

theorem res4_m (n : Fin 4) (S : Fin 4) (a : Fin 2) (l : Fin 8192) : W10 m ρ c main_v150_1 (ix6 n 0 S a 0 l)
    = (argsOf m c).net.m3 n 0 (row 8 (2 * S + a) l) (col 8 l) :=
  congrFun ((W10_arr m ρ c 12).trans (call4_m (in4 m ρ c))) (ix6 n 0 S a 0 l)

end Cert.Dec.Ker
-- ==== Proof.H5.lean ====
/- The operations after the last call: what the eleven results hold. -/
module

public import proofs.«01_k».proof.Proof.H4

@[expose] public section

set_option maxRecDepth 16384

noncomputable section

namespace Cert.Dec.Ker

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

theorem row_lane (G S j y x : ℕ) (hy : y < 32) (hx : x < 32) : row G S (j * 1024 + y * 32 + x) = y * G + S := by
  unfold row
  rw [show (j * 1024 + y * 32 + x) % 1024 / 32 = y by omega]

theorem col_lane (G j y x : ℕ) (hy : y < 32) (hx : x < 32) : col G (j * 1024 + y * 32 + x) = x * G + j := by
  unfold col
  rw [show (j * 1024 + y * 32 + x) % 1024 % 32 = x by omega, show (j * 1024 + y * 32 + x) / 1024 = j by omega]

theorem end_y0 (n : Fin 4) (l : Fin 1024) : W10 m ρ c main_v8_0 (ix3 n 0 l) = (argsOf m c).net.y0 n 0 (l / 32) (l % 32) :=
  (congrFun ((W10_of m ρ c main_v8_0 (by decide)).trans ((W9_of m ρ c main_v8_0 (by decide)).trans ((W8_of m ρ c main_v8_0 (by decide)).trans ((W7_of m ρ c main_v8_0 (by decide)).trans ((W6_of m ρ c main_v8_0 (by decide)).trans ((W5_of m ρ c main_v8_0 (by decide)).trans ((W4_of m ρ c main_v8_0 (by decide)).trans ((W3_of m ρ c main_v8_0 (by decide)).trans (rfl))))))))) _).trans (res0_out m ρ c n l)

theorem end_l0 (n : Fin 4) (o : Fin 2) (l : Fin 1024) : W10 m ρ c main_v8_1 (ix3 n o l) = (argsOf m c).net.l0 n o (l / 32) (l % 32) :=
  (congrFun ((W10_of m ρ c main_v8_1 (by decide)).trans ((W9_of m ρ c main_v8_1 (by decide)).trans ((W8_of m ρ c main_v8_1 (by decide)).trans ((W7_of m ρ c main_v8_1 (by decide)).trans ((W6_of m ρ c main_v8_1 (by decide)).trans ((W5_of m ρ c main_v8_1 (by decide)).trans ((W4_of m ρ c main_v8_1 (by decide)).trans ((W3_of m ρ c main_v8_1 (by decide)).trans (rfl))))))))) _).trans (res0_logit m ρ c n o l)

theorem end_t0 (n : Fin 4) (l : Fin 1024) : W10 m ρ c main_v8_2 (ix3 n 0 l) = (argsOf m c).net.t0 n 0 (l / 32) (l % 32) :=
  (congrFun ((W10_of m ρ c main_v8_2 (by decide)).trans ((W9_of m ρ c main_v8_2 (by decide)).trans ((W8_of m ρ c main_v8_2 (by decide)).trans ((W7_of m ρ c main_v8_2 (by decide)).trans ((W6_of m ρ c main_v8_2 (by decide)).trans ((W5_of m ρ c main_v8_2 (by decide)).trans ((W4_of m ρ c main_v8_2 (by decide)).trans ((W3_of m ρ c main_v8_2 (by decide)).trans (rfl))))))))) _).trans (res0_keep m ρ c n l)

theorem end_y1 (n : Fin 4) (S : Fin 2) (l : Fin 2048) : W10 m ρ c main_v56 (ix5 n 0 S 0 l) = (argsOf m c).net.y1 n 0 (row 2 S l) (col 2 l) := by
  refine (congrFun ((W10_of m ρ c main_v56 (by decide)).trans ((W9_of m ρ c main_v56 (by decide)).trans ((W8_of m ρ c main_v56 (by decide)).trans ((W7_of m ρ c main_v56 (by decide)).trans ((W6_of m ρ c main_v56 (by decide)).trans (rfl)))))) _).trans ?_
  after_reads_at
  refine (res1_y m ρ c n _ l).trans (img_congr (argsOf m c).net.y1 _ _ ?_ ?_) <;> (try unfold row) <;> (try unfold col) <;> (try dsimp only) <;> omega

theorem end_l1 (n : Fin 4) (o : Fin 2) (S : Fin 2) (l : Fin 2048) : W10 m ρ c main_v57 (ix5 n o S 0 l) = (argsOf m c).net.l1 n o (row 2 S l) (col 2 l) := by
  refine (congrFun ((W10_of m ρ c main_v57 (by decide)).trans ((W9_of m ρ c main_v57 (by decide)).trans ((W8_of m ρ c main_v57 (by decide)).trans ((W7_of m ρ c main_v57 (by decide)).trans ((W6_of m ρ c main_v57 (by decide)).trans (rfl)))))) _).trans ?_
  after_reads_at
  refine (res1_l m ρ c n o _ l).trans (img_congr (argsOf m c).net.l1 _ _ ?_ ?_) <;> (try unfold row) <;> (try unfold col) <;> (try dsimp only) <;> omega

theorem end_t1 (n : Fin 4) (S : Fin 2) (l : Fin 2048) : W10 m ρ c main_v58 (ix5 n 0 S 0 l) = (argsOf m c).net.t1 n 0 (row 2 S l) (col 2 l) := by
  refine (congrFun ((W10_of m ρ c main_v58 (by decide)).trans ((W9_of m ρ c main_v58 (by decide)).trans ((W8_of m ρ c main_v58 (by decide)).trans ((W7_of m ρ c main_v58 (by decide)).trans ((W6_of m ρ c main_v58 (by decide)).trans (rfl)))))) _).trans ?_
  after_reads_at
  refine (res1_t m ρ c n _ l).trans (img_congr (argsOf m c).net.t1 _ _ ?_ ?_) <;> (try unfold row) <;> (try unfold col) <;> (try dsimp only) <;> omega

theorem end_y2 (n : Fin 4) (S : Fin 4) (l : Fin 4096) : W10 m ρ c main_v105 (ix5 n 0 S 0 l) = (argsOf m c).net.y2 n 0 (row 4 S l) (col 4 l) := by
  refine (congrFun ((W10_of m ρ c main_v105 (by decide)).trans ((W9_of m ρ c main_v105 (by decide)).trans ((W8_of m ρ c main_v105 (by decide)).trans (rfl)))) _).trans ?_
  after_reads_at
  refine (res2_y m ρ c n _ _ l).trans (img_congr (argsOf m c).net.y2 _ _ ?_ ?_) <;> (try unfold row) <;> (try unfold col) <;> (try dsimp only) <;> omega

theorem end_l2 (n : Fin 4) (o : Fin 2) (S : Fin 4) (l : Fin 4096) : W10 m ρ c main_v106 (ix5 n o S 0 l) = (argsOf m c).net.l2 n o (row 4 S l) (col 4 l) := by
  refine (congrFun ((W10_of m ρ c main_v106 (by decide)).trans ((W9_of m ρ c main_v106 (by decide)).trans ((W8_of m ρ c main_v106 (by decide)).trans (rfl)))) _).trans ?_
  after_reads_at
  refine (res2_l m ρ c n o _ _ l).trans (img_congr (argsOf m c).net.l2 _ _ ?_ ?_) <;> (try unfold row) <;> (try unfold col) <;> (try dsimp only) <;> omega

theorem end_t2 (n : Fin 4) (S : Fin 4) (l : Fin 4096) : W10 m ρ c main_v107 (ix5 n 0 S 0 l) = (argsOf m c).net.t2 n 0 (row 4 S l) (col 4 l) := by
  refine (congrFun ((W10_of m ρ c main_v107 (by decide)).trans ((W9_of m ρ c main_v107 (by decide)).trans ((W8_of m ρ c main_v107 (by decide)).trans (rfl)))) _).trans ?_
  after_reads_at
  refine (res2_t m ρ c n _ _ l).trans (img_congr (argsOf m c).net.t2 _ _ ?_ ?_) <;> (try unfold row) <;> (try unfold col) <;> (try dsimp only) <;> omega

theorem v153_at (n : Fin 4) (y x : Fin 32) : W11 m ρ c main_v153 (ix4 n 0 y x) = (argsOf m c).net.y0 n 0 y x := by
  after_reads_at
  refine (end_y0 m ρ c n _).trans (img_congr (argsOf m c).net.y0 _ _ ?_ ?_) <;> (try unfold row) <;> (try unfold col) <;> (try dsimp only) <;> omega

theorem v158_at (n : Fin 4) (y x : Fin 64) : W11 m ρ c main_v158 (ix4 n 0 y x) = (argsOf m c).net.y1 n 0 y x := by
  after_reads_at
  refine (end_y1 m ρ c n _ _).trans (img_congr (argsOf m c).net.y1 _ _ ?_ ?_)
  · exact (row_lane 2 _ (x % 2) (y / 2) (x / 2) (by omega) (by omega)).trans (by dsimp only; omega)
  · exact (col_lane 2 (x % 2) (y / 2) (x / 2) (by omega) (by omega)).trans (by omega)

theorem v163_at (n : Fin 4) (y x : Fin 128) : W11 m ρ c main_v163 (ix4 n 0 y x) = (argsOf m c).net.y2 n 0 y x := by
  after_reads_at
  refine (end_y2 m ρ c n _ _).trans (img_congr (argsOf m c).net.y2 _ _ ?_ ?_)
  · exact (row_lane 4 _ (x % 4) (y / 4) (x / 4) (by omega) (by omega)).trans (by dsimp only; omega)
  · exact (col_lane 4 (x % 4) (y / 4) (x / 4) (by omega) (by omega)).trans (by omega)

theorem v168_at (n : Fin 4) (y x : Fin 256) : W11 m ρ c main_v168 (ix4 n 0 y x) = (fin (dec 64 (argsOf m c).net.d3 (argsOf m c).net.e3 (argsOf m c).net.x2) (fun n _ y x => conv 32 (argsOf m c).net.o3 (argsOf m c).net.s3 n y x) (argsOf m c).net.m3 (argsOf m c).net.o3 (argsOf m c).net.p3) n 0 y x := by
  after_reads_at
  refine (res4_y m ρ c n _ _ _).trans (img_congr (fin (dec 64 (argsOf m c).net.d3 (argsOf m c).net.e3 (argsOf m c).net.x2) (fun n _ y x => conv 32 (argsOf m c).net.o3 (argsOf m c).net.s3 n y x) (argsOf m c).net.m3 (argsOf m c).net.o3 (argsOf m c).net.p3) _ _ ?_ ?_)
  · exact (row_lane 8 _ (x % 8) (y / 8) (x / 8) (by omega) (by omega)).trans (by dsimp only; omega)
  · exact (col_lane 8 (x % 8) (y / 8) (x / 8) (by omega) (by omega)).trans (by omega)

theorem v169_at (n : Fin 4) (o : Fin 2) (y x : Fin 32) : W11 m ρ c main_v169 (ix4 n o y x) = (argsOf m c).net.l0 n o y x := by
  after_reads_at
  refine (end_l0 m ρ c n o _).trans (img_congr (argsOf m c).net.l0 _ _ ?_ ?_) <;> (try unfold row) <;> (try unfold col) <;> (try dsimp only) <;> omega

theorem v174_at (n : Fin 4) (o : Fin 2) (y x : Fin 64) : W11 m ρ c main_v174 (ix4 n o y x) = (argsOf m c).net.l1 n o y x := by
  after_reads_at
  refine (end_l1 m ρ c n o _ _).trans (img_congr (argsOf m c).net.l1 _ _ ?_ ?_)
  · exact (row_lane 2 _ (x % 2) (y / 2) (x / 2) (by omega) (by omega)).trans (by dsimp only; omega)
  · exact (col_lane 2 (x % 2) (y / 2) (x / 2) (by omega) (by omega)).trans (by omega)

theorem v179_at (n : Fin 4) (o : Fin 2) (y x : Fin 128) : W11 m ρ c main_v179 (ix4 n o y x) = (argsOf m c).net.l2 n o y x := by
  after_reads_at
  refine (end_l2 m ρ c n o _ _).trans (img_congr (argsOf m c).net.l2 _ _ ?_ ?_)
  · exact (row_lane 4 _ (x % 4) (y / 4) (x / 4) (by omega) (by omega)).trans (by dsimp only; omega)
  · exact (col_lane 4 (x % 4) (y / 4) (x / 4) (by omega) (by omega)).trans (by omega)

theorem v180_at (n : Fin 4) (y x : Fin 32) : W11 m ρ c main_v180 (ix4 n 0 y x) = (argsOf m c).net.t0 n 0 y x := by
  after_reads_at
  refine (end_t0 m ρ c n _).trans (img_congr (argsOf m c).net.t0 _ _ ?_ ?_) <;> (try unfold row) <;> (try unfold col) <;> (try dsimp only) <;> omega

theorem v185_at (n : Fin 4) (y x : Fin 64) : W11 m ρ c main_v185 (ix4 n 0 y x) = (argsOf m c).net.t1 n 0 y x := by
  after_reads_at
  refine (end_t1 m ρ c n _ _).trans (img_congr (argsOf m c).net.t1 _ _ ?_ ?_)
  · exact (row_lane 2 _ (x % 2) (y / 2) (x / 2) (by omega) (by omega)).trans (by dsimp only; omega)
  · exact (col_lane 2 (x % 2) (y / 2) (x / 2) (by omega) (by omega)).trans (by omega)

theorem v190_at (n : Fin 4) (y x : Fin 128) : W11 m ρ c main_v190 (ix4 n 0 y x) = (argsOf m c).net.t2 n 0 y x := by
  after_reads_at
  refine (end_t2 m ρ c n _ _).trans (img_congr (argsOf m c).net.t2 _ _ ?_ ?_)
  · exact (row_lane 4 _ (x % 4) (y / 4) (x / 4) (by omega) (by omega)).trans (by dsimp only; omega)
  · exact (col_lane 4 (x % 4) (y / 4) (x / 4) (by omega) (by omega)).trans (by omega)

theorem v195_at (n : Fin 4) (y x : Fin 256) : W11 m ρ c main_v195 (ix4 n 0 y x) = (argsOf m c).net.m3 n 0 y x := by
  after_reads_at
  refine (res4_m m ρ c n _ _ _).trans (img_congr (argsOf m c).net.m3 _ _ ?_ ?_)
  · exact (row_lane 8 _ (x % 8) (y / 8) (x / 8) (by omega) (by omega)).trans (by dsimp only; omega)
  · exact (col_lane 8 (x % 8) (y / 8) (x / 8) (by omega) (by omega)).trans (by omega)

end Cert.Dec.Ker
-- ==== Proof.KerRun.lean ====
/- The kernel's run with its results: every buffer ends at the last boundary's contents. -/
module

public import proofs.«01_k».proof.Proof.H5
public import proofs.«01_k».proof.Proof.Gen.KernelIdeal.Frame

@[expose] public section

set_option maxRecDepth 16384

noncomputable section

namespace Cert.Dec.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends, with every buffer at the last boundary's contents. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.Dec.Ker
-- ==== Proof.Value.lean ====
/- The value claim: from arguments that meet the precondition, kernel and reference end with the same eleven results. -/
module

public import proofs.«01_k».proof.Proof.Pre
public import proofs.«01_k».proof.Proof.RefEnds
public import proofs.«01_k».proof.Proof.KerRun
public import proofs.«01_k».proof.Proof.Gen.ReferenceIdeal.Run

@[expose] public section

set_option maxRecDepth 16384

noncomputable section

namespace Cert.Dec

open Idealize.ShloMosaic Idealize.ShloMosaic.TcCoe

/-- Two rank 4 arrays that agree at every index agree. -/
theorem eq4 {a b c d : ℕ} {A B : (⟨⟨4, ![a, b, c, d]⟩, .f32⟩ : BufTy).Contents (Elt Ideal)}
    (h : ∀ (n : Fin a) (k : Fin b) (y : Fin c) (x : Fin d), A (ix4 n k y x) = B (ix4 n k y x)) : A = B := funext fun i => by
  have e : i = ix4 (i 0) (i 1) (i 2) (i 3) := funext fun j => by fin_cases j <;> rfl
  rw [e]
  exact h _ _ _ _

/-- Two rank 4 arrays of one channel that agree at every index agree. -/
theorem eq4_one {a c d : ℕ} {A B : (⟨⟨4, ![a, 1, c, d]⟩, .f32⟩ : BufTy).Contents (Elt Ideal)}
    (h : ∀ (n : Fin a) (y : Fin c) (x : Fin d), A (ix4 n 0 y x) = B (ix4 n 0 y x)) : A = B := eq4 fun n k y x => by
  obtain rfl : k = 0 := Subsingleton.elim _ _
  exact h n y x

/-- The last output the kernel's way, with the skip connection projected apart, is the last output. -/
theorem fin_eq {N : Net} (h : Tame N) (n y x : ℕ) :
    Ker.fin (dec 64 N.d3 N.e3 N.x2) (fun n _ y x => conv 32 N.o3 N.s3 n y x) N.m3 N.o3 N.p3 n 0 y x = N.y3 n 0 y x := by
  unfold Ker.fin Net.y3 outp Net.x3
  rw [conv_mix 32 N.o3 _ N.s3 N.m3 h.o3 h.s3 h.m3 n y x]

section Same

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

open Cert.KernelIdeal.Gen in
/-- The fourth output, in the reference's form. -/
theorem v168_at' (h : Tame (Ker.argsOf m c).net) (n : Fin 4) (y x : Fin 256) :
    W11 m ρ c Cert.KernelIdeal.main_v168 (ix4 n 0 y x) = (Ker.argsOf m c).net.y3 n 0 y x :=
  (Ker.v168_at m ρ c n y x).trans (fin_eq h n y x)

open Cert.KernelIdeal.Gen in
theorem same_v407 (h : Tame (Ker.argsOf m c).net) :
    Cert.ReferenceIdeal.Read.val_main_v407 (F := Ideal) (Ker.argsOf m c).x0 (Ker.argsOf m c).x1 (Ker.argsOf m c).x11 (Ker.argsOf m c).x12 (Ker.argsOf m c).x19 (Ker.argsOf m c).x20 (Ker.argsOf m c).x21 (Ker.argsOf m c).x22
      = W11 m ρ c Cert.KernelIdeal.main_v153 := eq4_one fun n y x => (Ref.v407_at _ h n y x).trans (Ker.v153_at m ρ c n y x).symm

open Cert.KernelIdeal.Gen in
theorem same_v408 (h : Tame (Ker.argsOf m c).net) :
    Cert.ReferenceIdeal.Read.val_main_v408 (F := Ideal) (Ker.argsOf m c).x0 (Ker.argsOf m c).x1 (Ker.argsOf m c).x2 (Ker.argsOf m c).x5 (Ker.argsOf m c).x6 (Ker.argsOf m c).x13 (Ker.argsOf m c).x14 (Ker.argsOf m c).x19 (Ker.argsOf m c).x20 (Ker.argsOf m c).x21 (Ker.argsOf m c).x22 (Ker.argsOf m c).x23 (Ker.argsOf m c).x24 (Ker.argsOf m c).x25 (Ker.argsOf m c).x26
      = W11 m ρ c Cert.KernelIdeal.main_v158 := eq4_one fun n y x => (Ref.v408_at _ h n y x).trans (Ker.v158_at m ρ c n y x).symm

open Cert.KernelIdeal.Gen in
theorem same_v409 (h : Tame (Ker.argsOf m c).net) :
    Cert.ReferenceIdeal.Read.val_main_v409 (F := Ideal) (Ker.argsOf m c).x0 (Ker.argsOf m c).x1 (Ker.argsOf m c).x2 (Ker.argsOf m c).x3 (Ker.argsOf m c).x5 (Ker.argsOf m c).x6 (Ker.argsOf m c).x7 (Ker.argsOf m c).x8 (Ker.argsOf m c).x15 (Ker.argsOf m c).x16 (Ker.argsOf m c).x19 (Ker.argsOf m c).x20 (Ker.argsOf m c).x21 (Ker.argsOf m c).x22 (Ker.argsOf m c).x23 (Ker.argsOf m c).x24 (Ker.argsOf m c).x25 (Ker.argsOf m c).x26 (Ker.argsOf m c).x27 (Ker.argsOf m c).x28 (Ker.argsOf m c).x29 (Ker.argsOf m c).x30
      = W11 m ρ c Cert.KernelIdeal.main_v163 := eq4_one fun n y x => (Ref.v409_at _ h n y x).trans (Ker.v163_at m ρ c n y x).symm

open Cert.KernelIdeal.Gen in
theorem same_v410 (h : Tame (Ker.argsOf m c).net) :
    Cert.ReferenceIdeal.Read.val_main_v410 (F := Ideal) (Ker.argsOf m c).x0 (Ker.argsOf m c).x1 (Ker.argsOf m c).x2 (Ker.argsOf m c).x3 (Ker.argsOf m c).x4 (Ker.argsOf m c).x5 (Ker.argsOf m c).x6 (Ker.argsOf m c).x7 (Ker.argsOf m c).x8 (Ker.argsOf m c).x9 (Ker.argsOf m c).x10 (Ker.argsOf m c).x17 (Ker.argsOf m c).x18 (Ker.argsOf m c).x19 (Ker.argsOf m c).x20 (Ker.argsOf m c).x21 (Ker.argsOf m c).x22 (Ker.argsOf m c).x23 (Ker.argsOf m c).x24 (Ker.argsOf m c).x25 (Ker.argsOf m c).x26 (Ker.argsOf m c).x27 (Ker.argsOf m c).x28 (Ker.argsOf m c).x29 (Ker.argsOf m c).x30
      = W11 m ρ c Cert.KernelIdeal.main_v168 := eq4_one fun n y x => (Ref.v410_at _ h n y x).trans (v168_at' m ρ c h n y x).symm

open Cert.KernelIdeal.Gen in
theorem same_v411 :
    Cert.ReferenceIdeal.Read.val_main_v411 (F := Ideal) (Ker.argsOf m c).x0 (Ker.argsOf m c).x1 (Ker.argsOf m c).x19 (Ker.argsOf m c).x20 (Ker.argsOf m c).x21 (Ker.argsOf m c).x22
      = W11 m ρ c Cert.KernelIdeal.main_v169 := eq4 fun n o y x => (Ref.v411_at _ n o y x).trans (Ker.v169_at m ρ c n o y x).symm

open Cert.KernelIdeal.Gen in
theorem same_v412 (h : Tame (Ker.argsOf m c).net) :
    Cert.ReferenceIdeal.Read.val_main_v412 (F := Ideal) (Ker.argsOf m c).x0 (Ker.argsOf m c).x1 (Ker.argsOf m c).x2 (Ker.argsOf m c).x5 (Ker.argsOf m c).x6 (Ker.argsOf m c).x19 (Ker.argsOf m c).x20 (Ker.argsOf m c).x21 (Ker.argsOf m c).x22 (Ker.argsOf m c).x23 (Ker.argsOf m c).x24 (Ker.argsOf m c).x25 (Ker.argsOf m c).x26
      = W11 m ρ c Cert.KernelIdeal.main_v174 := eq4 fun n o y x => (Ref.v412_at _ h n o y x).trans (Ker.v174_at m ρ c n o y x).symm

open Cert.KernelIdeal.Gen in
theorem same_v413 (h : Tame (Ker.argsOf m c).net) :
    Cert.ReferenceIdeal.Read.val_main_v413 (F := Ideal) (Ker.argsOf m c).x0 (Ker.argsOf m c).x1 (Ker.argsOf m c).x2 (Ker.argsOf m c).x3 (Ker.argsOf m c).x5 (Ker.argsOf m c).x6 (Ker.argsOf m c).x7 (Ker.argsOf m c).x8 (Ker.argsOf m c).x19 (Ker.argsOf m c).x20 (Ker.argsOf m c).x21 (Ker.argsOf m c).x22 (Ker.argsOf m c).x23 (Ker.argsOf m c).x24 (Ker.argsOf m c).x25 (Ker.argsOf m c).x26 (Ker.argsOf m c).x27 (Ker.argsOf m c).x28 (Ker.argsOf m c).x29 (Ker.argsOf m c).x30
      = W11 m ρ c Cert.KernelIdeal.main_v179 := eq4 fun n o y x => (Ref.v413_at _ h n o y x).trans (Ker.v179_at m ρ c n o y x).symm

open Cert.KernelIdeal.Gen in
theorem same_v414 (h : Tame (Ker.argsOf m c).net) :
    Cert.ReferenceIdeal.Read.val_main_v414 (F := Ideal) (Ker.argsOf m c).x0 (Ker.argsOf m c).x1 (Ker.argsOf m c).x19 (Ker.argsOf m c).x20 (Ker.argsOf m c).x21 (Ker.argsOf m c).x22
      = W11 m ρ c Cert.KernelIdeal.main_v180 := eq4_one fun n y x => (Ref.v414_at _ h n y x).trans (Ker.v180_at m ρ c n y x).symm

open Cert.KernelIdeal.Gen in
theorem same_v415 (h : Tame (Ker.argsOf m c).net) :
    Cert.ReferenceIdeal.Read.val_main_v415 (F := Ideal) (Ker.argsOf m c).x0 (Ker.argsOf m c).x1 (Ker.argsOf m c).x2 (Ker.argsOf m c).x5 (Ker.argsOf m c).x6 (Ker.argsOf m c).x19 (Ker.argsOf m c).x20 (Ker.argsOf m c).x21 (Ker.argsOf m c).x22 (Ker.argsOf m c).x23 (Ker.argsOf m c).x24 (Ker.argsOf m c).x25 (Ker.argsOf m c).x26
      = W11 m ρ c Cert.KernelIdeal.main_v185 := eq4_one fun n y x => (Ref.v415_at _ h n y x).trans (Ker.v185_at m ρ c n y x).symm

open Cert.KernelIdeal.Gen in
theorem same_v416 (h : Tame (Ker.argsOf m c).net) :
    Cert.ReferenceIdeal.Read.val_main_v416 (F := Ideal) (Ker.argsOf m c).x0 (Ker.argsOf m c).x1 (Ker.argsOf m c).x2 (Ker.argsOf m c).x3 (Ker.argsOf m c).x5 (Ker.argsOf m c).x6 (Ker.argsOf m c).x7 (Ker.argsOf m c).x8 (Ker.argsOf m c).x19 (Ker.argsOf m c).x20 (Ker.argsOf m c).x21 (Ker.argsOf m c).x22 (Ker.argsOf m c).x23 (Ker.argsOf m c).x24 (Ker.argsOf m c).x25 (Ker.argsOf m c).x26 (Ker.argsOf m c).x27 (Ker.argsOf m c).x28 (Ker.argsOf m c).x29 (Ker.argsOf m c).x30
      = W11 m ρ c Cert.KernelIdeal.main_v190 := eq4_one fun n y x => (Ref.v416_at _ h n y x).trans (Ker.v190_at m ρ c n y x).symm

open Cert.KernelIdeal.Gen in
theorem same_v417 (h : Tame (Ker.argsOf m c).net) :
    Cert.ReferenceIdeal.Read.val_main_v417 (F := Ideal) (Ker.argsOf m c).x0 (Ker.argsOf m c).x1 (Ker.argsOf m c).x2 (Ker.argsOf m c).x3 (Ker.argsOf m c).x5 (Ker.argsOf m c).x6 (Ker.argsOf m c).x7 (Ker.argsOf m c).x8 (Ker.argsOf m c).x19 (Ker.argsOf m c).x20 (Ker.argsOf m c).x21 (Ker.argsOf m c).x22 (Ker.argsOf m c).x23 (Ker.argsOf m c).x24 (Ker.argsOf m c).x25 (Ker.argsOf m c).x26 (Ker.argsOf m c).x27 (Ker.argsOf m c).x28 (Ker.argsOf m c).x29 (Ker.argsOf m c).x30
      = W11 m ρ c Cert.KernelIdeal.main_v195 := eq4_one fun n y x => (Ref.v417_at _ h n y x).trans (Ker.v195_at m ρ c n y x).symm

end Same

/-- The arguments the reference's core `c` is given. -/
def argsRef (m : (ℓ : Loc Cert.ReferenceIdeal.nD Cert.ReferenceIdeal.τ Cert.ReferenceIdeal.sig) → Buf (Elt Ideal) ℓ)
    (c : Dev Cert.ReferenceIdeal.nD) : Args where
  x0 := m ((c.tc : Thread Cert.ReferenceIdeal.nD Cert.ReferenceIdeal.τ).loc Cert.ReferenceIdeal.main_arg0)
  x1 := m ((c.tc : Thread Cert.ReferenceIdeal.nD Cert.ReferenceIdeal.τ).loc Cert.ReferenceIdeal.main_arg1)
  x2 := m ((c.tc : Thread Cert.ReferenceIdeal.nD Cert.ReferenceIdeal.τ).loc Cert.ReferenceIdeal.main_arg2)
  x3 := m ((c.tc : Thread Cert.ReferenceIdeal.nD Cert.ReferenceIdeal.τ).loc Cert.ReferenceIdeal.main_arg3)
  x4 := m ((c.tc : Thread Cert.ReferenceIdeal.nD Cert.ReferenceIdeal.τ).loc Cert.ReferenceIdeal.main_arg4)
  x5 := m ((c.tc : Thread Cert.ReferenceIdeal.nD Cert.ReferenceIdeal.τ).loc Cert.ReferenceIdeal.main_arg5)
  x6 := m ((c.tc : Thread Cert.ReferenceIdeal.nD Cert.ReferenceIdeal.τ).loc Cert.ReferenceIdeal.main_arg6)
  x7 := m ((c.tc : Thread Cert.ReferenceIdeal.nD Cert.ReferenceIdeal.τ).loc Cert.ReferenceIdeal.main_arg7)
  x8 := m ((c.tc : Thread Cert.ReferenceIdeal.nD Cert.ReferenceIdeal.τ).loc Cert.ReferenceIdeal.main_arg8)
  x9 := m ((c.tc : Thread Cert.ReferenceIdeal.nD Cert.ReferenceIdeal.τ).loc Cert.ReferenceIdeal.main_arg9)
  x10 := m ((c.tc : Thread Cert.ReferenceIdeal.nD Cert.ReferenceIdeal.τ).loc Cert.ReferenceIdeal.main_arg10)
  x11 := m ((c.tc : Thread Cert.ReferenceIdeal.nD Cert.ReferenceIdeal.τ).loc Cert.ReferenceIdeal.main_arg11)
  x12 := m ((c.tc : Thread Cert.ReferenceIdeal.nD Cert.ReferenceIdeal.τ).loc Cert.ReferenceIdeal.main_arg12)
  x13 := m ((c.tc : Thread Cert.ReferenceIdeal.nD Cert.ReferenceIdeal.τ).loc Cert.ReferenceIdeal.main_arg13)
  x14 := m ((c.tc : Thread Cert.ReferenceIdeal.nD Cert.ReferenceIdeal.τ).loc Cert.ReferenceIdeal.main_arg14)
  x15 := m ((c.tc : Thread Cert.ReferenceIdeal.nD Cert.ReferenceIdeal.τ).loc Cert.ReferenceIdeal.main_arg15)
  x16 := m ((c.tc : Thread Cert.ReferenceIdeal.nD Cert.ReferenceIdeal.τ).loc Cert.ReferenceIdeal.main_arg16)
  x17 := m ((c.tc : Thread Cert.ReferenceIdeal.nD Cert.ReferenceIdeal.τ).loc Cert.ReferenceIdeal.main_arg17)
  x18 := m ((c.tc : Thread Cert.ReferenceIdeal.nD Cert.ReferenceIdeal.τ).loc Cert.ReferenceIdeal.main_arg18)
  x19 := m ((c.tc : Thread Cert.ReferenceIdeal.nD Cert.ReferenceIdeal.τ).loc Cert.ReferenceIdeal.main_arg19)
  x20 := m ((c.tc : Thread Cert.ReferenceIdeal.nD Cert.ReferenceIdeal.τ).loc Cert.ReferenceIdeal.main_arg20)
  x21 := m ((c.tc : Thread Cert.ReferenceIdeal.nD Cert.ReferenceIdeal.τ).loc Cert.ReferenceIdeal.main_arg21)
  x22 := m ((c.tc : Thread Cert.ReferenceIdeal.nD Cert.ReferenceIdeal.τ).loc Cert.ReferenceIdeal.main_arg22)
  x23 := m ((c.tc : Thread Cert.ReferenceIdeal.nD Cert.ReferenceIdeal.τ).loc Cert.ReferenceIdeal.main_arg23)
  x24 := m ((c.tc : Thread Cert.ReferenceIdeal.nD Cert.ReferenceIdeal.τ).loc Cert.ReferenceIdeal.main_arg24)
  x25 := m ((c.tc : Thread Cert.ReferenceIdeal.nD Cert.ReferenceIdeal.τ).loc Cert.ReferenceIdeal.main_arg25)
  x26 := m ((c.tc : Thread Cert.ReferenceIdeal.nD Cert.ReferenceIdeal.τ).loc Cert.ReferenceIdeal.main_arg26)
  x27 := m ((c.tc : Thread Cert.ReferenceIdeal.nD Cert.ReferenceIdeal.τ).loc Cert.ReferenceIdeal.main_arg27)
  x28 := m ((c.tc : Thread Cert.ReferenceIdeal.nD Cert.ReferenceIdeal.τ).loc Cert.ReferenceIdeal.main_arg28)
  x29 := m ((c.tc : Thread Cert.ReferenceIdeal.nD Cert.ReferenceIdeal.τ).loc Cert.ReferenceIdeal.main_arg29)
  x30 := m ((c.tc : Thread Cert.ReferenceIdeal.nD Cert.ReferenceIdeal.τ).loc Cert.ReferenceIdeal.main_arg30)

/-- Two lists of arguments that agree argument by argument are the same. -/
theorem args_eq {a b : Args} (h0 : a.x0 = b.x0)  (h1 : a.x1 = b.x1)  (h2 : a.x2 = b.x2)  (h3 : a.x3 = b.x3)  (h4 : a.x4 = b.x4)  (h5 : a.x5 = b.x5)  (h6 : a.x6 = b.x6)  (h7 : a.x7 = b.x7)  (h8 : a.x8 = b.x8)  (h9 : a.x9 = b.x9)  (h10 : a.x10 = b.x10)  (h11 : a.x11 = b.x11)  (h12 : a.x12 = b.x12)  (h13 : a.x13 = b.x13)  (h14 : a.x14 = b.x14)  (h15 : a.x15 = b.x15)  (h16 : a.x16 = b.x16)  (h17 : a.x17 = b.x17)  (h18 : a.x18 = b.x18)  (h19 : a.x19 = b.x19)  (h20 : a.x20 = b.x20)  (h21 : a.x21 = b.x21)  (h22 : a.x22 = b.x22)  (h23 : a.x23 = b.x23)  (h24 : a.x24 = b.x24)  (h25 : a.x25 = b.x25)  (h26 : a.x26 = b.x26)  (h27 : a.x27 = b.x27)  (h28 : a.x28 = b.x28)  (h29 : a.x29 = b.x29)  (h30 : a.x30 = b.x30) : a = b := by
  cases a
  cases b
  simp only at h0 h1 h2 h3 h4 h5 h6 h7 h8 h9 h10 h11 h12 h13 h14 h15 h16 h17 h18 h19 h20 h21 h22 h23 h24 h25 h26 h27 h28 h29 h30
  subst h0 h1 h2 h3 h4 h5 h6 h7 h8 h9 h10 h11 h12 h13 h14 h15 h16 h17 h18 h19 h20 h21 h22 h23 h24 h25 h26 h27 h28 h29 h30
  rfl

/-- Kernel and reference end with equal results and unchanged arguments. -/
theorem same_results : Cert.algebraic_KernelIdeal_ReferenceIdeal_pre_tame := by
  intro m g m' g' hpre hagree
  have hT := fun c => tame_of_pre m hpre c
  have hA : ∀ c : Dev Cert.KernelIdeal.nD, argsRef m' c = Ker.argsOf m c := fun c => by
    obtain ⟨h0, h1, h2, h3, h4, h5, h6, h7, h8, h9, h10, h11, h12, h13, h14, h15, h16, h17, h18, h19, h20, h21, h22, h23, h24, h25, h26, h27, h28, h29, h30⟩ := hagree c
    exact args_eq h0 h1 h2 h3 h4 h5 h6 h7 h8 h9 h10 h11 h12 h13 h14 h15 h16 h17 h18 h19 h20 h21 h22 h23 h24 h25 h26 h27 h28 h29 h30
  refine ⟨fun c => Cert.KernelIdeal.Gen.W11 m g c Cert.KernelIdeal.main_v153, fun c => Cert.KernelIdeal.Gen.W11 m g c Cert.KernelIdeal.main_v158, fun c => Cert.KernelIdeal.Gen.W11 m g c Cert.KernelIdeal.main_v163, fun c => Cert.KernelIdeal.Gen.W11 m g c Cert.KernelIdeal.main_v168, fun c => Cert.KernelIdeal.Gen.W11 m g c Cert.KernelIdeal.main_v169, fun c => Cert.KernelIdeal.Gen.W11 m g c Cert.KernelIdeal.main_v174, fun c => Cert.KernelIdeal.Gen.W11 m g c Cert.KernelIdeal.main_v179, fun c => Cert.KernelIdeal.Gen.W11 m g c Cert.KernelIdeal.main_v180, fun c => Cert.KernelIdeal.Gen.W11 m g c Cert.KernelIdeal.main_v185, fun c => Cert.KernelIdeal.Gen.W11 m g c Cert.KernelIdeal.main_v190, fun c => Cert.KernelIdeal.Gen.W11 m g c Cert.KernelIdeal.main_v195, ?_, ?_⟩
  · refine (θ_run Cert.KernelIdeal.defs _ _).mono (fun r h c => ?_) (Ker.run m g)
    exact ⟨h c _ (Cert.KernelIdeal.Gen.mem_uc Cert.KernelIdeal.main_v153 (by decide)),
      h c _ (Cert.KernelIdeal.Gen.mem_uc Cert.KernelIdeal.main_v158 (by decide)),
      h c _ (Cert.KernelIdeal.Gen.mem_uc Cert.KernelIdeal.main_v163 (by decide)),
      h c _ (Cert.KernelIdeal.Gen.mem_uc Cert.KernelIdeal.main_v168 (by decide)),
      h c _ (Cert.KernelIdeal.Gen.mem_uc Cert.KernelIdeal.main_v169 (by decide)),
      h c _ (Cert.KernelIdeal.Gen.mem_uc Cert.KernelIdeal.main_v174 (by decide)),
      h c _ (Cert.KernelIdeal.Gen.mem_uc Cert.KernelIdeal.main_v179 (by decide)),
      h c _ (Cert.KernelIdeal.Gen.mem_uc Cert.KernelIdeal.main_v180 (by decide)),
      h c _ (Cert.KernelIdeal.Gen.mem_uc Cert.KernelIdeal.main_v185 (by decide)),
      h c _ (Cert.KernelIdeal.Gen.mem_uc Cert.KernelIdeal.main_v190 (by decide)),
      h c _ (Cert.KernelIdeal.Gen.mem_uc Cert.KernelIdeal.main_v195 (by decide)),
      (h c _ (Cert.KernelIdeal.Gen.mem_uc Cert.KernelIdeal.main_arg0 (by decide))).trans (Cert.KernelIdeal.Gen.W11_main_arg0 m g c),
      (h c _ (Cert.KernelIdeal.Gen.mem_uc Cert.KernelIdeal.main_arg1 (by decide))).trans (Cert.KernelIdeal.Gen.W11_main_arg1 m g c),
      (h c _ (Cert.KernelIdeal.Gen.mem_uc Cert.KernelIdeal.main_arg2 (by decide))).trans (Cert.KernelIdeal.Gen.W11_main_arg2 m g c),
      (h c _ (Cert.KernelIdeal.Gen.mem_uc Cert.KernelIdeal.main_arg3 (by decide))).trans (Cert.KernelIdeal.Gen.W11_main_arg3 m g c),
      (h c _ (Cert.KernelIdeal.Gen.mem_uc Cert.KernelIdeal.main_arg4 (by decide))).trans (Cert.KernelIdeal.Gen.W11_main_arg4 m g c),
      (h c _ (Cert.KernelIdeal.Gen.mem_uc Cert.KernelIdeal.main_arg5 (by decide))).trans (Cert.KernelIdeal.Gen.W11_main_arg5 m g c),
      (h c _ (Cert.KernelIdeal.Gen.mem_uc Cert.KernelIdeal.main_arg6 (by decide))).trans (Cert.KernelIdeal.Gen.W11_main_arg6 m g c),
      (h c _ (Cert.KernelIdeal.Gen.mem_uc Cert.KernelIdeal.main_arg7 (by decide))).trans (Cert.KernelIdeal.Gen.W11_main_arg7 m g c),
      (h c _ (Cert.KernelIdeal.Gen.mem_uc Cert.KernelIdeal.main_arg8 (by decide))).trans (Cert.KernelIdeal.Gen.W11_main_arg8 m g c),
      (h c _ (Cert.KernelIdeal.Gen.mem_uc Cert.KernelIdeal.main_arg9 (by decide))).trans (Cert.KernelIdeal.Gen.W11_main_arg9 m g c),
      (h c _ (Cert.KernelIdeal.Gen.mem_uc Cert.KernelIdeal.main_arg10 (by decide))).trans (Cert.KernelIdeal.Gen.W11_main_arg10 m g c),
      (h c _ (Cert.KernelIdeal.Gen.mem_uc Cert.KernelIdeal.main_arg11 (by decide))).trans (Cert.KernelIdeal.Gen.W11_main_arg11 m g c),
      (h c _ (Cert.KernelIdeal.Gen.mem_uc Cert.KernelIdeal.main_arg12 (by decide))).trans (Cert.KernelIdeal.Gen.W11_main_arg12 m g c),
      (h c _ (Cert.KernelIdeal.Gen.mem_uc Cert.KernelIdeal.main_arg13 (by decide))).trans (Cert.KernelIdeal.Gen.W11_main_arg13 m g c),
      (h c _ (Cert.KernelIdeal.Gen.mem_uc Cert.KernelIdeal.main_arg14 (by decide))).trans (Cert.KernelIdeal.Gen.W11_main_arg14 m g c),
      (h c _ (Cert.KernelIdeal.Gen.mem_uc Cert.KernelIdeal.main_arg15 (by decide))).trans (Cert.KernelIdeal.Gen.W11_main_arg15 m g c),
      (h c _ (Cert.KernelIdeal.Gen.mem_uc Cert.KernelIdeal.main_arg16 (by decide))).trans (Cert.KernelIdeal.Gen.W11_main_arg16 m g c),
      (h c _ (Cert.KernelIdeal.Gen.mem_uc Cert.KernelIdeal.main_arg17 (by decide))).trans (Cert.KernelIdeal.Gen.W11_main_arg17 m g c),
      (h c _ (Cert.KernelIdeal.Gen.mem_uc Cert.KernelIdeal.main_arg18 (by decide))).trans (Cert.KernelIdeal.Gen.W11_main_arg18 m g c),
      (h c _ (Cert.KernelIdeal.Gen.mem_uc Cert.KernelIdeal.main_arg19 (by decide))).trans (Cert.KernelIdeal.Gen.W11_main_arg19 m g c),
      (h c _ (Cert.KernelIdeal.Gen.mem_uc Cert.KernelIdeal.main_arg20 (by decide))).trans (Cert.KernelIdeal.Gen.W11_main_arg20 m g c),
      (h c _ (Cert.KernelIdeal.Gen.mem_uc Cert.KernelIdeal.main_arg21 (by decide))).trans (Cert.KernelIdeal.Gen.W11_main_arg21 m g c),
      (h c _ (Cert.KernelIdeal.Gen.mem_uc Cert.KernelIdeal.main_arg22 (by decide))).trans (Cert.KernelIdeal.Gen.W11_main_arg22 m g c),
      (h c _ (Cert.KernelIdeal.Gen.mem_uc Cert.KernelIdeal.main_arg23 (by decide))).trans (Cert.KernelIdeal.Gen.W11_main_arg23 m g c),
      (h c _ (Cert.KernelIdeal.Gen.mem_uc Cert.KernelIdeal.main_arg24 (by decide))).trans (Cert.KernelIdeal.Gen.W11_main_arg24 m g c),
      (h c _ (Cert.KernelIdeal.Gen.mem_uc Cert.KernelIdeal.main_arg25 (by decide))).trans (Cert.KernelIdeal.Gen.W11_main_arg25 m g c),
      (h c _ (Cert.KernelIdeal.Gen.mem_uc Cert.KernelIdeal.main_arg26 (by decide))).trans (Cert.KernelIdeal.Gen.W11_main_arg26 m g c),
      (h c _ (Cert.KernelIdeal.Gen.mem_uc Cert.KernelIdeal.main_arg27 (by decide))).trans (Cert.KernelIdeal.Gen.W11_main_arg27 m g c),
      (h c _ (Cert.KernelIdeal.Gen.mem_uc Cert.KernelIdeal.main_arg28 (by decide))).trans (Cert.KernelIdeal.Gen.W11_main_arg28 m g c),
      (h c _ (Cert.KernelIdeal.Gen.mem_uc Cert.KernelIdeal.main_arg29 (by decide))).trans (Cert.KernelIdeal.Gen.W11_main_arg29 m g c),
      (h c _ (Cert.KernelIdeal.Gen.mem_uc Cert.KernelIdeal.main_arg30 (by decide))).trans (Cert.KernelIdeal.Gen.W11_main_arg30 m g c)⟩
  · refine (θ_run Cert.ReferenceIdeal.defs _ _).mono (fun r h c => ?_) (Cert.ReferenceIdeal.Value.run m' g')
    have s_v407 := same_v407 m g c (hT c)
    have s_v408 := same_v408 m g c (hT c)
    have s_v409 := same_v409 m g c (hT c)
    have s_v410 := same_v410 m g c (hT c)
    have s_v411 := same_v411 m g c
    have s_v412 := same_v412 m g c (hT c)
    have s_v413 := same_v413 m g c (hT c)
    have s_v414 := same_v414 m g c (hT c)
    have s_v415 := same_v415 m g c (hT c)
    have s_v416 := same_v416 m g c (hT c)
    have s_v417 := same_v417 m g c (hT c)
    rw [← hA c] at s_v407 s_v408 s_v409 s_v410 s_v411 s_v412 s_v413 s_v414 s_v415 s_v416 s_v417
    obtain ⟨h_v407, h_v408, h_v409, h_v410, h_v411, h_v412, h_v413, h_v414, h_v415, h_v416, h_v417, hargs⟩ := h c
    exact ⟨h_v407.trans ((Cert.ReferenceIdeal.Read.val_main_v407_eq _).trans s_v407),
      h_v408.trans ((Cert.ReferenceIdeal.Read.val_main_v408_eq _).trans s_v408),
      h_v409.trans ((Cert.ReferenceIdeal.Read.val_main_v409_eq _).trans s_v409),
      h_v410.trans ((Cert.ReferenceIdeal.Read.val_main_v410_eq _).trans s_v410),
      h_v411.trans ((Cert.ReferenceIdeal.Read.val_main_v411_eq _).trans s_v411),
      h_v412.trans ((Cert.ReferenceIdeal.Read.val_main_v412_eq _).trans s_v412),
      h_v413.trans ((Cert.ReferenceIdeal.Read.val_main_v413_eq _).trans s_v413),
      h_v414.trans ((Cert.ReferenceIdeal.Read.val_main_v414_eq _).trans s_v414),
      h_v415.trans ((Cert.ReferenceIdeal.Read.val_main_v415_eq _).trans s_v415),
      h_v416.trans ((Cert.ReferenceIdeal.Read.val_main_v416_eq _).trans s_v416),
      h_v417.trans ((Cert.ReferenceIdeal.Read.val_main_v417_eq _).trans s_v417), hargs⟩

end Cert.Dec
-- ==== Proof.lean ====
/- The claims proved: the three programs' frames, that the ideal program is the kernel's own text, and that it ends with the
   reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of the three programs, that the ideal program is the kernel's own text, and its results. -/
theorem claim : Cert.Claim := ⟨Cert.Kernel.Gen.facts, Cert.KernelIdeal.Gen.facts, Cert.ReferenceIdeal.Gen.facts, Cert.Dec.preFacts,
  fun m ρ _ => Cert.Kernel.Gen.frame m ρ, fun m ρ _ => Cert.KernelIdeal.Gen.frame m ρ, fun m ρ _ => Cert.KernelIdeal.Gen.frame m ρ,
  Cert.Dec.frame_ref, fun m ρ _ => Cert.Dec.frame_ref m ρ trivial, trivial, Cert.Dec.same_results⟩

end Cert.Proof

end
